-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S4x4096x1024 : Shape := ⟨3, ![4, 4096, 1024]⟩
abbrev S3x1024x8192 : Shape := ⟨3, ![3, 1024, 8192]⟩
abbrev S2x1024x128 : Shape := ⟨3, ![2, 1024, 128]⟩
abbrev S2x4096x128 : Shape := ⟨3, ![2, 4096, 128]⟩
abbrev S2 : Shape := ⟨1, ![2]⟩
abbrev S24 : Shape := ⟨1, ![24]⟩
abbrev S_ : Shape := ⟨0, ![]⟩
abbrev S1x4096x1024 : Shape := ⟨3, ![1, 4096, 1024]⟩
abbrev S1x2048x1024 : Shape := ⟨3, ![1, 2048, 1024]⟩
abbrev S2048x1024 : Shape := ⟨2, ![2048, 1024]⟩
abbrev S1x512x8192 : Shape := ⟨3, ![1, 512, 8192]⟩
abbrev S512x8192 : Shape := ⟨2, ![512, 8192]⟩
abbrev S1x1024x128 : Shape := ⟨3, ![1, 1024, 128]⟩
abbrev S1024x128 : Shape := ⟨2, ![1024, 128]⟩
abbrev S4096x128 : Shape := ⟨2, ![4096, 128]⟩
abbrev S1x4096x128 : Shape := ⟨3, ![1, 4096, 128]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4x4096x1024, .fp8e4m3⟩
  | .local _ .vmem, ⟨1, _⟩ => ⟨S3x1024x8192, .fp8e4m3⟩
  | .local _ .vmem, ⟨2, _⟩ => ⟨S2x1024x128, .fp8e4m3⟩
  | .local _ .vmem, ⟨3, _⟩ => ⟨S2x4096x128, .f32⟩
  | .local _ .vmem, ⟨4, _⟩ => ⟨S2x4096x128, .f32⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_27 : BitVec 32 := 0#32
  let c0_i32_28 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_33 : BitVec 32 := 0#32
  let c0_i32_34 : BitVec 32 := 0#32
  ![v2.toNat, 0, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v45 : BitVec 32 := Scalar.muli v24 c1_i32_31
  let v46 : BitVec 32 := Scalar.addi c0_i32_32 v45
  v46.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v54 : BitVec 32 := Scalar.muli v24 c1_i32_39
  let v55 : BitVec 32 := Scalar.addi c0_i32_40 v54
  v55.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let c0_i32_48 : BitVec 32 := 0#32
  ![v2.toNat, 2048, 0]
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v63 : BitVec 32 := Scalar.muli v24 c1_i32_46
  let v64 : BitVec 32 := Scalar.addi c0_i32_47 v63
  v64.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_52 : BitVec 32 := 1#32
  let v72 : BitVec 32 := Scalar.muli v24 c1_i32_52
  let v73 : BitVec 32 := Scalar.addi c0_i32_53 v72
  v73.toNat
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_57 : BitVec 32 := 1#32
  let v81 : BitVec 32 := Scalar.muli v13 c1_i32_57
  let v82 : BitVec 32 := Scalar.addi c0_i32_58 v81
  v82.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v90 : BitVec 32 := Scalar.muli v13 c1_i32_64
  let v91 : BitVec 32 := Scalar.addi c0_i32_65 v90
  v91.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_70 : BitVec 32 := 1#32
  let v99 : BitVec 32 := Scalar.muli v13 c1_i32_70
  let v100 : BitVec 32 := Scalar.addi c0_i32_71 v99
  v100.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_77 : BitVec 32 := 1#32
  let v108 : BitVec 32 := Scalar.muli v13 c1_i32_77
  let v109 : BitVec 32 := Scalar.addi c0_i32_78 v108
  v109.toNat
def k0_off4 : Fin 1 → Nat :=
  let c0_i32_87 : BitVec 32 := 0#32
  let c2_i32_88 : BitVec 32 := 2#32
  let v124 : BitVec 32 := Scalar.remsi c0_i32_87 c2_i32_88
  ![v124.toNat]
def k0_off5 : Fin 3 → Nat :=
  let c0_i32_87 : BitVec 32 := 0#32
  let c2_i32_88 : BitVec 32 := 2#32
  let v124 : BitVec 32 := Scalar.remsi c0_i32_87 c2_i32_88
  let c0_i32_89 : BitVec 32 := 0#32
  let c0_i32_90 : BitVec 32 := 0#32
  ![v124.toNat, 0, 0]
@[reducible] def k0_t1_loop : Scf.Loop 32 :=
  let c0_i32_93 : BitVec 32 := 0#32
  let c64_i32 : BitVec 32 := 64#32
  let v130 : BitVec 32 := Scalar.addi c0_i32_93 c64_i32
  let c1_i32_94 : BitVec 32 := 1#32
  ⟨c0_i32_93, v130, c1_i32_94⟩
def k0_cond1 (k0_t1 : Fin k0_t1_loop.trips) : BitVec 1 :=
  let c0_i32_93 : BitVec 32 := 0#32
  let c1_i32_94 : BitVec 32 := 1#32
  let arg15 : BitVec 32 := Scf.iv c0_i32_93 c1_i32_94 k0_t1
  let c63_i32 : BitVec 32 := 63#32
  let v368 : BitVec 1 := Scalar.cmpi .slt arg15 c63_i32
  let v369 : BitVec 32 := Scalar.extui v368
  let c0_i32_375 : BitVec 32 := 0#32
  let v370 : BitVec 1 := Scalar.cmpi .ne v369 c0_i32_375
  v370

def k0_off6 (k0_t1 : Fin k0_t1_loop.trips) : Fin 1 → Nat :=
  let c0_i32_93 : BitVec 32 := 0#32
  let c1_i32_94 : BitVec 32 := 1#32
  let arg15 : BitVec 32 := Scf.iv c0_i32_93 c1_i32_94 k0_t1
  let c1_i32_391 : BitVec 32 := 1#32
  let v397 : BitVec 32 := Scalar.addi arg15 c1_i32_391
  let c2_i32_392 : BitVec 32 := 2#32
  let v398 : BitVec 32 := Scalar.remsi v397 c2_i32_392
  ![v398.toNat]
def k0_off7 (k0_t1 : Fin k0_t1_loop.trips) : Fin 3 → Nat :=
  let c0_i32_93 : BitVec 32 := 0#32
  let c1_i32_94 : BitVec 32 := 1#32
  let arg15 : BitVec 32 := Scf.iv c0_i32_93 c1_i32_94 k0_t1
  let c1_i32_391 : BitVec 32 := 1#32
  let v397 : BitVec 32 := Scalar.addi arg15 c1_i32_391
  let c2_i32_392 : BitVec 32 := 2#32
  let v398 : BitVec 32 := Scalar.remsi v397 c2_i32_392
  let c0_i32_394 : BitVec 32 := 0#32
  let c0_i32_395 : BitVec 32 := 0#32
  ![v398.toNat, 0, 0]
def k0_off8 (k0_t1 : Fin k0_t1_loop.trips) : Fin 2 → Nat :=
  let c0_i32_396 : BitVec 32 := 0#32
  let c0_i32_93 : BitVec 32 := 0#32
  let c1_i32_94 : BitVec 32 := 1#32
  let arg15 : BitVec 32 := Scf.iv c0_i32_93 c1_i32_94 k0_t1
  let c1_i32_391 : BitVec 32 := 1#32
  let v397 : BitVec 32 := Scalar.addi arg15 c1_i32_391
  let c128_i32_393 : BitVec 32 := 128#32
  let v399 : BitVec 32 := Scalar.muli v397 c128_i32_393
  ![0, v399.toNat]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v371 : Index := Scalar.indexCast v2
  let c0_376 : Index := 0#32
  let c0_377 : Index := 0#32
  ![v371.toNat, 0, 0]
def k0_off10 (k0_t1 : Fin k0_t1_loop.trips) : Fin 1 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  ![v367.toNat]
def k0_off11 (k0_t1 : Fin k0_t1_loop.trips) : Fin 3 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  let c0_i32_378 : BitVec 32 := 0#32
  let c0_i32_379 : BitVec 32 := 0#32
  ![v367.toNat, 0, 0]
def k0_off12 (k0_t1 : Fin k0_t1_loop.trips) : Fin 2 → Nat :=
  let c0_i32_380 : BitVec 32 := 0#32
  let c0_i32_93 : BitVec 32 := 0#32
  let c1_i32_94 : BitVec 32 := 1#32
  let arg15 : BitVec 32 := Scf.iv c0_i32_93 c1_i32_94 k0_t1
  let c128_i32 : BitVec 32 := 128#32
  let v374 : BitVec 32 := Scalar.muli arg15 c128_i32
  ![0, v374.toNat]
def k0_off13 (k0_t1 : Fin k0_t1_loop.trips) : Fin 3 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  let v380 : Index := Scalar.indexCast v367
  let c0_381 : Index := 0#32
  let c0_382 : Index := 0#32
  ![v380.toNat, 0, 0]
def k0_cond2 (k0_t1 : Fin k0_t1_loop.trips) : BitVec 1 :=
  let c0_i32_93 : BitVec 32 := 0#32
  let c1_i32_94 : BitVec 32 := 1#32
  let arg15 : BitVec 32 := Scf.iv c0_i32_93 c1_i32_94 k0_t1
  let c2_i32_383 : BitVec 32 := 2#32
  let v384 : BitVec 1 := Scalar.cmpi .sge arg15 c2_i32_383
  let v385 : BitVec 32 := Scalar.extui v384
  let c0_i32_384 : BitVec 32 := 0#32
  let v386 : BitVec 1 := Scalar.cmpi .ne v385 c0_i32_384
  v386

def k0_off14 (k0_t1 : Fin k0_t1_loop.trips) : Fin 1 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  ![v367.toNat]
def k0_off15 (k0_t1 : Fin k0_t1_loop.trips) : Fin 2 → Nat :=
  let c0_i32_393 : BitVec 32 := 0#32
  let c0_i32_93 : BitVec 32 := 0#32
  let c1_i32_94 : BitVec 32 := 1#32
  let arg15 : BitVec 32 := Scf.iv c0_i32_93 c1_i32_94 k0_t1
  let c2_i32_391 : BitVec 32 := 2#32
  let v397 : BitVec 32 := Scalar.subi arg15 c2_i32_391
  let c128_i32_392 : BitVec 32 := 128#32
  let v398 : BitVec 32 := Scalar.muli v397 c128_i32_392
  ![0, v398.toNat]
def k0_off16 (k0_t1 : Fin k0_t1_loop.trips) : Fin 3 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  let c0_i32_394 : BitVec 32 := 0#32
  let c0_i32_395 : BitVec 32 := 0#32
  ![v367.toNat, 0, 0]
def k0_off17 (k0_t1 : Fin k0_t1_loop.trips) : Fin 3 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  let v387 : Index := Scalar.indexCast v367
  let c0_385 : Index := 0#32
  let c0_386 : Index := 0#32
  ![v387.toNat, 0, 0]
def k0_off18 (k0_t1 : Fin k0_t1_loop.trips) : Fin 2 → Nat :=
  let c0_i32_388 : BitVec 32 := 0#32
  let c0_i32_93 : BitVec 32 := 0#32
  let c1_i32_94 : BitVec 32 := 1#32
  let arg15 : BitVec 32 := Scf.iv c0_i32_93 c1_i32_94 k0_t1
  let c128_i32_387 : BitVec 32 := 128#32
  let v391 : BitVec 32 := Scalar.muli arg15 c128_i32_387
  ![0, v391.toNat]
def k0_off19 (k0_t1 : Fin k0_t1_loop.trips) : Fin 3 → Nat :=
  let c0_i32_93 : BitVec 32 := 0#32
  let c1_i32_94 : BitVec 32 := 1#32
  let arg15 : BitVec 32 := Scf.iv c0_i32_93 c1_i32_94 k0_t1
  let c2_i32_374 : BitVec 32 := 2#32
  let v367 : BitVec 32 := Scalar.remsi arg15 c2_i32_374
  let c0_i32_389 : BitVec 32 := 0#32
  let c0_i32_390 : BitVec 32 := 0#32
  ![v367.toNat, 0, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_236 : BitVec 32 := 0#32
  let c0_i32_237 : BitVec 32 := 0#32
  ![v24.toNat, 0, 0]
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_234 : BitVec 32 := 1#32
  let v237 : BitVec 32 := Scalar.muli v13 c1_i32_234
  let v238 : BitVec 32 := Scalar.addi c0_i32_235 v237
  v238.toNat
def k0_dev12 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_242 : BitVec 32 := 1#32
  let v247 : BitVec 32 := Scalar.muli v13 c1_i32_242
  let v248 : BitVec 32 := Scalar.addi c0_i32_243 v247
  v248.toNat
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_250 : BitVec 32 := 2048#32
  let c0_i32_251 : BitVec 32 := 0#32
  ![v13.toNat, 2048, 0]
def k0_dev13 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_248 : BitVec 32 := 1#32
  let v257 : BitVec 32 := Scalar.muli v24 c1_i32_248
  let v258 : BitVec 32 := Scalar.addi c0_i32_249 v257
  v258.toNat
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_256 : BitVec 32 := 1#32
  let v267 : BitVec 32 := Scalar.muli v24 c1_i32_256
  let v268 : BitVec 32 := Scalar.addi c0_i32_257 v267
  v268.toNat
def k0_off22 : Fin 3 → Nat :=
  let c0_i32_262 : BitVec 32 := 0#32
  let c2_i32_263 : BitVec 32 := 2#32
  let v277 : BitVec 32 := Scalar.remsi c0_i32_262 c2_i32_263
  let c0_i32_264 : BitVec 32 := 0#32
  let c0_i32_265 : BitVec 32 := 0#32
  ![v277.toNat, 0, 0]
@[reducible] def k0_t2_loop : Scf.Loop 32 :=
  let c0_i32_268 : BitVec 32 := 0#32
  let c64_i32_269 : BitVec 32 := 64#32
  let v283 : BitVec 32 := Scalar.addi c0_i32_268 c64_i32_269
  let c1_i32_270 : BitVec 32 := 1#32
  ⟨c0_i32_268, v283, c1_i32_270⟩
def k0_cond3 (k0_t2 : Fin k0_t2_loop.trips) : BitVec 1 :=
  let c0_i32_268 : BitVec 32 := 0#32
  let c1_i32_270 : BitVec 32 := 1#32
  let arg15 : BitVec 32 := Scf.iv c0_i32_268 c1_i32_270 k0_t2
  let c63_i32 : BitVec 32 := 63#32
  let v368 : BitVec 1 := Scalar.cmpi .slt arg15 c63_i32
  let v369 : BitVec 32 := Scalar.extui v368
  let c0_i32_375 : BitVec 32 := 0#32
  let v370 : BitVec 1 := Scalar.cmpi .ne v369 c0_i32_375
  v370

def k0_off23 (k0_t2 : Fin k0_t2_loop.trips) : Fin 1 → Nat :=
  let c0_i32_268 : BitVec 32 := 0#32
  let c1_i32_270 : BitVec 32 := 1#32
  let arg15 : BitVec 32 := Scf.iv c0_i32_268 c1_i32_270 k0_t2
  let c1_i32_399 : BitVec 32 := 1#32
  let v411 : BitVec 32 := Scalar.addi arg15 c1_i32_399
  let c2_i32_400 : BitVec 32 := 2#32
  let v412 : BitVec 32 := Scalar.remsi v411 c2_i32_400
  ![v412.toNat]
def k0_off24 (k0_t2 : Fin k0_t2_loop.trips) : Fin 3 → Nat :=
  let c0_i32_268 : BitVec 32 := 0#32
  let c1_i32_270 : BitVec 32 := 1#32
  let arg15 : BitVec 32 := Scf.iv c0_i32_268 c1_i32_270 k0_t2
  let c1_i32_399 : BitVec 32 := 1#32
  let v411 : BitVec 32 := Scalar.addi arg15 c1_i32_399
  let c2_i32_400 : BitVec 32 := 2#32
  let v412 : BitVec 32 := Scalar.remsi v411 c2_i32_400
  let c0_i32_402 : BitVec 32 := 0#32
  let c0_i32_403 : BitVec 32 := 0#32
  ![v412.toNat, 0, 0]
def k0_off25 (k0_t2 : Fin k0_t2_loop.trips) : Fin 2 → Nat :=
  let c0_i32_404 : BitVec 32 := 0#32
  let c0_i32_268 : BitVec 32 := 0#32
  let c1_i32_270 : BitVec 32 := 1#32
  let arg15 : BitVec 32 := Scf.iv c0_i32_268 c1_i32_270 k0_t2
  let c1_i32_399 : BitVec 32 := 1#32
  let v411 : BitVec 32 := Scalar.addi arg15 c1_i32_399
  let c128_i32_401 : BitVec 32 := 128#32
  let v413 : BitVec 32 := Scalar.muli v411 c128_i32_401
  ![0, v413.toNat]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v371 : Index := Scalar.indexCast v13
  let c0_376 : Index := 0#32
  let c0_377 : Index := 0#32
  ![v371.toNat, 0, 0]
def k0_off27 (k0_t2 : Fin k0_t2_loop.trips) : Fin 3 → Nat :=
  let c0_378 : Index := 0#32
  let c0_379 : Index := 0#32
  let c0_i32_268 : BitVec 32 := 0#32
  let c1_i32_270 : BitVec 32 := 1#32
  let arg15 : BitVec 32 := Scf.iv c0_i32_268 c1_i32_270 k0_t2
  let c128_i32 : BitVec 32 := 128#32
  let v374 : BitVec 32 := Scalar.muli arg15 c128_i32
  let v375 : Index := Scalar.indexCast v374
  ![0, 0, v375.toNat]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v379 : Index := Scalar.indexCast v24
  let c0_380 : Index := 0#32
  let c0_381 : Index := 0#32
  ![v379.toNat, 0, 0]
def k0_off29 (k0_t2 : Fin k0_t2_loop.trips) : Fin 3 → Nat :=
  let c1 : Index := 1#32
  let c0_383 : Index := 0#32
  let c0_i32_268 : BitVec 32 := 0#32
  let c1_i32_270 : BitVec 32 := 1#32
  let arg15 : BitVec 32 := Scf.iv c0_i32_268 c1_i32_270 k0_t2
  let c128_i32_382 : BitVec 32 := 128#32
  let v382 : BitVec 32 := Scalar.muli arg15 c128_i32_382
  let v383 : Index := Scalar.indexCast v382
  ![1, 0, v383.toNat]
def k0_off30 (k0_t2 : Fin k0_t2_loop.trips) : Fin 1 → Nat :=
  let c0_i32_268 : BitVec 32 := 0#32
  let c1_i32_270 : BitVec 32 := 1#32
  let arg15 : BitVec 32 := Scf.iv c0_i32_268 c1_i32_270 k0_t2
  let c2_i32_374 : BitVec 32 := 2#32
  let v367 : BitVec 32 := Scalar.remsi arg15 c2_i32_374
  ![v367.toNat]
def k0_off31 (k0_t2 : Fin k0_t2_loop.trips) : Fin 3 → Nat :=
  let c0_i32_268 : BitVec 32 := 0#32
  let c1_i32_270 : BitVec 32 := 1#32
  let arg15 : BitVec 32 := Scf.iv c0_i32_268 c1_i32_270 k0_t2
  let c2_i32_374 : BitVec 32 := 2#32
  let v367 : BitVec 32 := Scalar.remsi arg15 c2_i32_374
  let c0_i32_386 : BitVec 32 := 0#32
  let c0_i32_387 : BitVec 32 := 0#32
  ![v367.toNat, 0, 0]
def k0_off32 (k0_t2 : Fin k0_t2_loop.trips) : Fin 2 → Nat :=
  let c0_i32_388 : BitVec 32 := 0#32
  let c0_i32_268 : BitVec 32 := 0#32
  let c1_i32_270 : BitVec 32 := 1#32
  let arg15 : BitVec 32 := Scf.iv c0_i32_268 c1_i32_270 k0_t2
  let c128_i32_385 : BitVec 32 := 128#32
  let v388 : BitVec 32 := Scalar.muli arg15 c128_i32_385
  ![0, v388.toNat]
def k0_off33 (k0_t2 : Fin k0_t2_loop.trips) : Fin 3 → Nat :=
  let c0_i32_268 : BitVec 32 := 0#32
  let c1_i32_270 : BitVec 32 := 1#32
  let arg15 : BitVec 32 := Scf.iv c0_i32_268 c1_i32_270 k0_t2
  let c2_i32_374 : BitVec 32 := 2#32
  let v367 : BitVec 32 := Scalar.remsi arg15 c2_i32_374
  let v394 : Index := Scalar.indexCast v367
  let c0_389 : Index := 0#32
  let c0_390 : Index := 0#32
  ![v394.toNat, 0, 0]
def k0_cond4 (k0_t2 : Fin k0_t2_loop.trips) : BitVec 1 :=
  let c0_i32_268 : BitVec 32 := 0#32
  let c1_i32_270 : BitVec 32 := 1#32
  let arg15 : BitVec 32 := Scf.iv c0_i32_268 c1_i32_270 k0_t2
  let c2_i32_391 : BitVec 32 := 2#32
  let v398 : BitVec 1 := Scalar.cmpi .sge arg15 c2_i32_391
  let v399 : BitVec 32 := Scalar.extui v398
  let c0_i32_392 : BitVec 32 := 0#32
  let v400 : BitVec 1 := Scalar.cmpi .ne v399 c0_i32_392
  v400

def k0_off34 (k0_t2 : Fin k0_t2_loop.trips) : Fin 1 → Nat :=
  let c0_i32_268 : BitVec 32 := 0#32
  let c1_i32_270 : BitVec 32 := 1#32
  let arg15 : BitVec 32 := Scf.iv c0_i32_268 c1_i32_270 k0_t2
  let c2_i32_374 : BitVec 32 := 2#32
  let v367 : BitVec 32 := Scalar.remsi arg15 c2_i32_374
  ![v367.toNat]
def k0_off35 (k0_t2 : Fin k0_t2_loop.trips) : Fin 2 → Nat :=
  let c0_i32_401 : BitVec 32 := 0#32
  let c0_i32_268 : BitVec 32 := 0#32
  let c1_i32_270 : BitVec 32 := 1#32
  let arg15 : BitVec 32 := Scf.iv c0_i32_268 c1_i32_270 k0_t2
  let c2_i32_399 : BitVec 32 := 2#32
  let v411 : BitVec 32 := Scalar.subi arg15 c2_i32_399
  let c128_i32_400 : BitVec 32 := 128#32
  let v412 : BitVec 32 := Scalar.muli v411 c128_i32_400
  ![0, v412.toNat]
def k0_off36 (k0_t2 : Fin k0_t2_loop.trips) : Fin 3 → Nat :=
  let c0_i32_268 : BitVec 32 := 0#32
  let c1_i32_270 : BitVec 32 := 1#32
  let arg15 : BitVec 32 := Scf.iv c0_i32_268 c1_i32_270 k0_t2
  let c2_i32_374 : BitVec 32 := 2#32
  let v367 : BitVec 32 := Scalar.remsi arg15 c2_i32_374
  let c0_i32_402 : BitVec 32 := 0#32
  let c0_i32_403 : BitVec 32 := 0#32
  ![v367.toNat, 0, 0]
@[reducible] def k0_t3_loop : Scf.Loop 32 :=
  let c0_i32_358 : BitVec 32 := 0#32
  let c64_i32_359 : BitVec 32 := 64#32
  let v356 : BitVec 32 := Scalar.addi c0_i32_358 c64_i32_359
  let c1_i32_360 : BitVec 32 := 1#32
  ⟨c0_i32_358, v356, c1_i32_360⟩
def k0_cond5 (k0_t3 : Fin k0_t3_loop.trips) : BitVec 1 :=
  let c0_i32_358 : BitVec 32 := 0#32
  let c1_i32_360 : BitVec 32 := 1#32
  let arg15 : BitVec 32 := Scf.iv c0_i32_358 c1_i32_360 k0_t3
  let c63_i32 : BitVec 32 := 63#32
  let v368 : BitVec 1 := Scalar.cmpi .slt arg15 c63_i32
  let v369 : BitVec 32 := Scalar.extui v368
  let c0_i32_375 : BitVec 32 := 0#32
  let v370 : BitVec 1 := Scalar.cmpi .ne v369 c0_i32_375
  v370

def k0_off37 (k0_t3 : Fin k0_t3_loop.trips) : Fin 1 → Nat :=
  let c0_i32_358 : BitVec 32 := 0#32
  let c1_i32_360 : BitVec 32 := 1#32
  let arg15 : BitVec 32 := Scf.iv c0_i32_358 c1_i32_360 k0_t3
  let c1_i32_394 : BitVec 32 := 1#32
  let v406 : BitVec 32 := Scalar.addi arg15 c1_i32_394
  let c2_i32_395 : BitVec 32 := 2#32
  let v407 : BitVec 32 := Scalar.remsi v406 c2_i32_395
  ![v407.toNat]
def k0_off38 (k0_t3 : Fin k0_t3_loop.trips) : Fin 3 → Nat :=
  let c0_i32_358 : BitVec 32 := 0#32
  let c1_i32_360 : BitVec 32 := 1#32
  let arg15 : BitVec 32 := Scf.iv c0_i32_358 c1_i32_360 k0_t3
  let c1_i32_394 : BitVec 32 := 1#32
  let v406 : BitVec 32 := Scalar.addi arg15 c1_i32_394
  let c2_i32_395 : BitVec 32 := 2#32
  let v407 : BitVec 32 := Scalar.remsi v406 c2_i32_395
  let c0_i32_397 : BitVec 32 := 0#32
  let c0_i32_398 : BitVec 32 := 0#32
  ![v407.toNat, 0, 0]
def k0_off39 (k0_t3 : Fin k0_t3_loop.trips) : Fin 2 → Nat :=
  let c0_i32_399 : BitVec 32 := 0#32
  let c0_i32_358 : BitVec 32 := 0#32
  let c1_i32_360 : BitVec 32 := 1#32
  let arg15 : BitVec 32 := Scf.iv c0_i32_358 c1_i32_360 k0_t3
  let c1_i32_394 : BitVec 32 := 1#32
  let v406 : BitVec 32 := Scalar.addi arg15 c1_i32_394
  let c128_i32_396 : BitVec 32 := 128#32
  let v408 : BitVec 32 := Scalar.muli v406 c128_i32_396
  ![0, v408.toNat]
def k0_off40 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v371 : Index := Scalar.indexCast v35
  let c0_376 : Index := 0#32
  let c0_377 : Index := 0#32
  ![v371.toNat, 0, 0]
def k0_off41 (k0_t3 : Fin k0_t3_loop.trips) : Fin 3 → Nat :=
  let c2 : Index := 2#32
  let c0_378 : Index := 0#32
  let c0_i32_358 : BitVec 32 := 0#32
  let c1_i32_360 : BitVec 32 := 1#32
  let arg15 : BitVec 32 := Scf.iv c0_i32_358 c1_i32_360 k0_t3
  let c128_i32 : BitVec 32 := 128#32
  let v374 : BitVec 32 := Scalar.muli arg15 c128_i32
  let v375 : Index := Scalar.indexCast v374
  ![2, 0, v375.toNat]
def k0_off42 (k0_t3 : Fin k0_t3_loop.trips) : Fin 1 → Nat :=
  let c0_i32_358 : BitVec 32 := 0#32
  let c1_i32_360 : BitVec 32 := 1#32
  let arg15 : BitVec 32 := Scf.iv c0_i32_358 c1_i32_360 k0_t3
  let c2_i32_374 : BitVec 32 := 2#32
  let v367 : BitVec 32 := Scalar.remsi arg15 c2_i32_374
  ![v367.toNat]
def k0_off43 (k0_t3 : Fin k0_t3_loop.trips) : Fin 3 → Nat :=
  let c0_i32_358 : BitVec 32 := 0#32
  let c1_i32_360 : BitVec 32 := 1#32
  let arg15 : BitVec 32 := Scf.iv c0_i32_358 c1_i32_360 k0_t3
  let c2_i32_374 : BitVec 32 := 2#32
  let v367 : BitVec 32 := Scalar.remsi arg15 c2_i32_374
  let c0_i32_380 : BitVec 32 := 0#32
  let c0_i32_381 : BitVec 32 := 0#32
  ![v367.toNat, 0, 0]
def k0_off44 (k0_t3 : Fin k0_t3_loop.trips) : Fin 2 → Nat :=
  let c0_i32_382 : BitVec 32 := 0#32
  let c0_i32_358 : BitVec 32 := 0#32
  let c1_i32_360 : BitVec 32 := 1#32
  let arg15 : BitVec 32 := Scf.iv c0_i32_358 c1_i32_360 k0_t3
  let c128_i32_379 : BitVec 32 := 128#32
  let v379 : BitVec 32 := Scalar.muli arg15 c128_i32_379
  ![0, v379.toNat]
def k0_off45 (k0_t3 : Fin k0_t3_loop.trips) : Fin 3 → Nat :=
  let c0_i32_358 : BitVec 32 := 0#32
  let c1_i32_360 : BitVec 32 := 1#32
  let arg15 : BitVec 32 := Scf.iv c0_i32_358 c1_i32_360 k0_t3
  let c2_i32_374 : BitVec 32 := 2#32
  let v367 : BitVec 32 := Scalar.remsi arg15 c2_i32_374
  let v385 : Index := Scalar.indexCast v367
  let c0_383 : Index := 0#32
  let c0_384 : Index := 0#32
  ![v385.toNat, 0, 0]
def k0_cond6 (k0_t3 : Fin k0_t3_loop.trips) : BitVec 1 :=
  let c0_i32_358 : BitVec 32 := 0#32
  let c1_i32_360 : BitVec 32 := 1#32
  let arg15 : BitVec 32 := Scf.iv c0_i32_358 c1_i32_360 k0_t3
  let c2_i32_386 : BitVec 32 := 2#32
  let v393 : BitVec 1 := Scalar.cmpi .sge arg15 c2_i32_386
  let v394 : BitVec 32 := Scalar.extui v393
  let c0_i32_387 : BitVec 32 := 0#32
  let v395 : BitVec 1 := Scalar.cmpi .ne v394 c0_i32_387
  v395

def k0_off46 (k0_t3 : Fin k0_t3_loop.trips) : Fin 1 → Nat :=
  let c0_i32_358 : BitVec 32 := 0#32
  let c1_i32_360 : BitVec 32 := 1#32
  let arg15 : BitVec 32 := Scf.iv c0_i32_358 c1_i32_360 k0_t3
  let c2_i32_374 : BitVec 32 := 2#32
  let v367 : BitVec 32 := Scalar.remsi arg15 c2_i32_374
  ![v367.toNat]
def k0_off47 (k0_t3 : Fin k0_t3_loop.trips) : Fin 2 → Nat :=
  let c0_i32_396 : BitVec 32 := 0#32
  let c0_i32_358 : BitVec 32 := 0#32
  let c1_i32_360 : BitVec 32 := 1#32
  let arg15 : BitVec 32 := Scf.iv c0_i32_358 c1_i32_360 k0_t3
  let c2_i32_394 : BitVec 32 := 2#32
  let v406 : BitVec 32 := Scalar.subi arg15 c2_i32_394
  let c128_i32_395 : BitVec 32 := 128#32
  let v407 : BitVec 32 := Scalar.muli v406 c128_i32_395
  ![0, v407.toNat]
def k0_off48 (k0_t3 : Fin k0_t3_loop.trips) : Fin 3 → Nat :=
  let c0_i32_358 : BitVec 32 := 0#32
  let c1_i32_360 : BitVec 32 := 1#32
  let arg15 : BitVec 32 := Scf.iv c0_i32_358 c1_i32_360 k0_t3
  let c2_i32_374 : BitVec 32 := 2#32
  let v367 : BitVec 32 := Scalar.remsi arg15 c2_i32_374
  let c0_i32_397 : BitVec 32 := 0#32
  let c0_i32_398 : BitVec 32 := 0#32
  ![v367.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Base.lean ====
/-
The four-device kernel: devices, views, contents and the schedule of its semaphore cells.

Each device holds a column block of `x` and a row block of `w`. The blocks travel around the ring in two
phases; three passes over the result add the devices' contributions tile by tile. This module fixes the
names the proof uses: the neighbours on the ring, the element sets of the buffers, what the gathered
buffers hold once every copy has landed, and what each semaphore cell hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, this kernel's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (UEmb.inl : UEmb UB (UB × Counters)).toEmb.trans embR
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-! ## The ring -/

set_option backward.proofsInPublic true in
/-- The device before `c`. -/
def lt (c : Dev nD) : Dev nD := ⟨(c.val + 3) % 4, Nat.mod_lt _ (by decide)⟩
set_option backward.proofsInPublic true in
/-- The device after `c`. -/
def rt (c : Dev nD) : Dev nD := ⟨(c.val + 1) % 4, Nat.mod_lt _ (by decide)⟩
set_option backward.proofsInPublic true in
/-- The device across the ring from `c`. -/
def dg (c : Dev nD) : Dev nD := ⟨(c.val + 2) % 4, Nat.mod_lt _ (by decide)⟩

theorem lt_rt (c : Dev nD) : lt (rt c) = c := by revert c; decide
theorem rt_lt (c : Dev nD) : rt (lt c) = c := by revert c; decide
theorem lt_lt (c : Dev nD) : lt (lt c) = dg c := by revert c; decide
theorem rt_rt (c : Dev nD) : rt (rt c) = dg c := by revert c; decide
theorem dg_lt (c : Dev nD) : dg (lt c) = rt c := by revert c; decide
theorem dg_rt (c : Dev nD) : dg (rt c) = lt c := by revert c; decide
theorem lt_ne_rt (c : Dev nD) : lt c ≠ rt c := by revert c; decide

def ring : Dev nD ≃ Dev nD := ⟨rt, lt, lt_rt, rt_lt⟩

/-! ## Element sets -/

/-- Rows `lo … hi` of `x`. -/
def xS (lo hi : ℕ) : Finset S4096x1024.Idx := Finset.univ.filter fun i => lo ≤ (i 0).val ∧ (i 0).val < hi
/-- Rows `lo … hi` of `w`. -/
def wS (lo hi : ℕ) : Finset S1024x8192.Idx := Finset.univ.filter fun i => lo ≤ (i 0).val ∧ (i 0).val < hi
/-- Rows `lo … hi` of slab `d` of the gathered `x`. -/
def gS (d lo hi : ℕ) : Finset S4x4096x1024.Idx :=
  Finset.univ.filter fun i => (i 0).val = d ∧ lo ≤ (i 1).val ∧ (i 1).val < hi
/-- Rows `lo … hi` of slab `s` of the gathered `w`. -/
def vS (s lo hi : ℕ) : Finset S3x1024x8192.Idx :=
  Finset.univ.filter fun i => (i 0).val = s ∧ lo ≤ (i 1).val ∧ (i 1).val < hi

/-! ## Contents -/

/-- Device `d`'s block of `x` and of `w`. -/
def X (d : Dev nD) : S4096x1024.Idx → Elt F .fp8e4m3 := m ((d : Thread nD τ).loc main_arg0)
def Wt (d : Dev nD) : S1024x8192.Idx → Elt F .fp8e4m3 := m ((d : Thread nD τ).loc main_arg1)

/-- The gathered `x`, once everything has landed: slab `d` is device `d`'s block, on every device. -/
def XG : S4x4096x1024.Idx → Elt F .fp8e4m3 := fun i => X m ⟨(i 0).val, (i 0).isLt⟩ (ix2 (i 1) (i 2))

/-- Whose block of `w` slab `s` of device `c`'s gathered `w` is. -/
def who (c : Dev nD) (s : ℕ) : Dev nD := if s = 0 then lt c else if s = 1 then rt c else dg c
/-- The gathered `w` of device `c`, once everything has landed. -/
def WV (c : Dev nD) : S3x1024x8192.Idx → Elt F .fp8e4m3 := fun i => Wt m (who c (i 0).val) (ix2 (i 1) (i 2))

/-! ## Ownership of the buffers' elements -/

def xP (c : Dev nD) (q : PosShare TreeShare) (S : Finset S4096x1024.Idx) (f : S4096x1024.Idx → Elt F .fp8e4m3) : sProp 𝕄 :=
  ((c : Thread nD τ).loc main_arg0) ↦[S]{q} f
def wP (c : Dev nD) (q : PosShare TreeShare) (S : Finset S1024x8192.Idx) (f : S1024x8192.Idx → Elt F .fp8e4m3) : sProp 𝕄 :=
  ((c : Thread nD τ).loc main_arg1) ↦[S]{q} f
def gP (c : Dev nD) (q : PosShare TreeShare) (S : Finset S4x4096x1024.Idx) (f : S4x4096x1024.Idx → Elt F .fp8e4m3) : sProp 𝕄 :=
  ((c : Thread nD τ).loc cc0_scratch0) ↦[S]{q} f
def vP (c : Dev nD) (q : PosShare TreeShare) (S : Finset S3x1024x8192.Idx) (f : S3x1024x8192.Idx → Elt F .fp8e4m3) : sProp 𝕄 :=
  ((c : Thread nD τ).loc cc0_scratch1) ↦[S]{q} f

section Storable
variable (c : Dev nD) (q : PosShare TreeShare)
omit [FloatOps F]
instance xP_storable (S f) : BI.Storable (upEmb : UEmb _ 𝕄) (xP (F := F) c q S f) := by unfold xP; infer_instance
instance wP_storable (S f) : BI.Storable (upEmb : UEmb _ 𝕄) (wP (F := F) c q S f) := by unfold wP; infer_instance
instance gP_storable (S f) : BI.Storable (upEmb : UEmb _ 𝕄) (gP (F := F) c q S f) := by unfold gP; infer_instance
instance vP_storable (S f) : BI.Storable (upEmb : UEmb _ 𝕄) (vP (F := F) c q S f) := by unfold vP; infer_instance
end Storable

/-! ## The cells -/

/-- The barrier semaphore of the kernel's collective. -/
abbrev barS : Sem sig := (SemArray.scalar (sig.barrier 0 rfl) : Sems sig S_).sem
set_option backward.proofsInPublic true in
/-- DMA semaphore number `j`. -/
def qsem (j : ℕ) : DmaSem sig := ⟨j % 34, Nat.mod_lt _ (by decide)⟩
/-- The `i`-th of the twenty-four semaphores of the remote copies. -/
abbrev dsem (i : ℕ) : DmaSem sig := qsem (4 + i)

abbrev barCell (c : Dev nD) : GSem nD τ sig := ((c : Thread nD τ), .reg barS)
abbrev qCell (c : Dev nD) (j : ℕ) : GSem nD τ sig := ((c : Thread nD τ), .dma (qsem j))
abbrev dCell (c : Dev nD) (i : ℕ) : GSem nD τ sig := qCell c (4 + i)

/-- The two credits: half a block of `x`, half a block of `w`. -/
def NX : ℕ := (Memref.whole cc0_scratch0 : Memref sig .tc .vmem S4x4096x1024 .fp8e4m3).view.ref.dmaCredit S2048x1024 .fp8e4m3
def NW : ℕ := (Memref.whole cc0_scratch1 : Memref sig .tc .vmem S3x1024x8192 .fp8e4m3).view.ref.dmaCredit S512x8192 .fp8e4m3
theorem NX_pos : 0 < NX := by decide
theorem NW_pos : 0 < NW := by decide

/-- What copy `t` credits. Copies 0, 2, 4, 6, 8, 10 carry `x`, the others `w`. -/
def amt (t : ℕ) : ℕ := if t % 2 = 0 then NX else NW
theorem amt_pos (t : ℕ) : 0 < amt t := by unfold amt; split; exacts [NX_pos, NW_pos]

/-- Where device `c` sends copy `t`. -/
def peer (c : Dev nD) (t : ℕ) : Dev nD := if t < 4 ∨ 10 ≤ t then rt c else lt c

/-! ## What the cells hand over -/

/-- The shares of a block lent to the copies to the right, to the left, and kept. -/
abbrev qa : PosShare TreeShare := fullShare.left
abbrev qb : PosShare TreeShare := fullShare.right.left
abbrev qk : PosShare TreeShare := fullShare.right.right

/-- The source of copy `t` of device `c`, given back at the wait on the send semaphore. -/
def sendPay (c : Dev nD) (t : ℕ) : sProp 𝕄 :=
  match t with
  | 0 => xP c qa (xS 0 2048) (X m c)
  | 1 => wP c qa (wS 0 512) (Wt m c)
  | 2 => xP c qa (xS 2048 4096) (X m c)
  | 3 => wP c qa (wS 512 1024) (Wt m c)
  | 4 => xP c qb (xS 0 2048) (X m c)
  | 5 => wP c qb (wS 0 512) (Wt m c)
  | 6 => xP c qb (xS 2048 4096) (X m c)
  | 7 => wP c qb (wS 512 1024) (Wt m c)
  | 8 => gP c qa (gS (rt c).val 0 2048) (XG m)
  | 9 => vP c qa (vS 1 0 512) (WV m c)
  | 10 => gP c qa (gS (lt c).val 2048 4096) (XG m)
  | 11 => vP c qa (vS 0 512 1024) (WV m c)
  | _ => iprop(emp)

/-- Where copy `t` lands on device `c`, the two gathered buffers at contents `fx` and `fw`. -/
def landP (c : Dev nD) (t : ℕ) (fx : S4x4096x1024.Idx → Elt F .fp8e4m3) (fw : S3x1024x8192.Idx → Elt F .fp8e4m3) : sProp 𝕄 :=
  match t with
  | 0 => gP c fullShare (gS (lt c).val 0 2048) fx
  | 1 => vP c fullShare (vS 0 0 512) fw
  | 2 => gP c fullShare (gS (lt c).val 2048 4096) fx
  | 3 => vP c fullShare (vS 0 512 1024) fw
  | 4 => gP c fullShare (gS (rt c).val 0 2048) fx
  | 5 => vP c fullShare (vS 1 0 512) fw
  | 6 => gP c fullShare (gS (rt c).val 2048 4096) fx
  | 7 => vP c fullShare (vS 1 512 1024) fw
  | 8 => gP c fullShare (gS (dg c).val 0 2048) fx
  | 9 => vP c fullShare (vS 2 0 512) fw
  | 10 => gP c fullShare (gS (dg c).val 2048 4096) fx
  | 11 => vP c fullShare (vS 2 512 1024) fw
  | _ => iprop(emp)

/-- What the landing of copy `t` hands device `c`: the sender's elements, in place. -/
def recvPay (c : Dev nD) (t : ℕ) : sProp 𝕄 := landP c t (XG m) (WV m c)

/-- What device `c`'s barrier hands it: where its copies land on the neighbour that signalled, the right
    one (`true`) or the left one (`false`). -/
def barPay (c : Dev nD) (d : Bool) : sProp 𝕄 :=
  if d then iprop(∃ fx fw, landP (F := F) (rt c) 0 fx fw ∗ landP (rt c) 1 fx fw ∗ landP (rt c) 2 fx fw ∗ landP (rt c) 3 fx fw
      ∗ landP (rt c) 10 fx fw ∗ landP (rt c) 11 fx fw)
  else iprop(∃ fx fw, landP (F := F) (lt c) 4 fx fw ∗ landP (lt c) 5 fx fw ∗ landP (lt c) 6 fx fw ∗ landP (lt c) 7 fx fw
      ∗ landP (lt c) 8 fx fw ∗ landP (lt c) 9 fx fw)

omit [FloatOps F] in
instance sendPay_storable (c : Dev nD) (t : ℕ) : BI.Storable (upEmb : UEmb _ 𝕄) (sendPay m c t) := by
  unfold sendPay; split <;> infer_instance
omit [FloatOps F] in
instance landP_storable (c : Dev nD) (t : ℕ) (fx fw) : BI.Storable (upEmb : UEmb _ 𝕄) (landP (F := F) c t fx fw) := by
  unfold landP; split <;> infer_instance
omit [FloatOps F] in
instance recvPay_storable (c : Dev nD) (t : ℕ) : BI.Storable (upEmb : UEmb _ 𝕄) (recvPay m c t) := by
  unfold recvPay; infer_instance
omit [FloatOps F] in
instance barPay_storable (c : Dev nD) (d : Bool) : BI.Storable (upEmb : UEmb _ 𝕄) (barPay (F := F) c d) := by
  unfold barPay; split <;> infer_instance

/-- What semaphore `i` of the remote copies hands device `c`: copy `i / 2`'s source if `i` is even, its landing if odd. -/
def semPay (c : Dev nD) (i : ℕ) : sProp 𝕄 := if i % 2 = 0 then sendPay m c (i / 2) else recvPay m c (i / 2)
omit [FloatOps F] in
instance semPay_storable (c : Dev nD) (i : ℕ) : BI.Storable (upEmb : UEmb _ 𝕄) (semPay m c i) := by
  unfold semPay; split <;> infer_instance

/-! ## The schedule: one round, round 0 -/

def Rd : Rounds.Schedule (GSem nD τ sig) Bool 𝕄 where
  duties g r := if r = 0 ∧ g.1.2 = .tc then
      (match g.2 with | .reg _ => Finset.univ | .dma q => if 4 ≤ q.val ∧ q.val < 28 then {false} else ∅) else ∅
  unitless _ := False
  amount g _ _ := match g.2 with | .reg _ => 1 | .dma q => amt ((q.val - 4) / 2)
  payload g _ d := match g.2 with | .reg _ => barPay g.1.1 d | .dma q => semPay m g.1.1 (q.val - 4)
  amount_pos g _ _ _ := by
    rcases g with ⟨c, _ | q⟩
    · exact Nat.one_pos
    · exact amt_pos _

omit [FloatOps F] in
instance Rd_payload_storable (g : GSem nD τ sig) (r : ℕ) (d : Bool) : BI.Storable (upEmb : UEmb _ 𝕄) ((Rd (F := F) m).payload g r d) := by
  rcases g with ⟨c, _ | q⟩
  · show BI.Storable upEmb (barPay c.1 d); infer_instance
  · show BI.Storable upEmb (semPay m c.1 _); infer_instance

section Sched
omit [FloatOps F]
variable (c : Dev nD)

theorem duties_bar : (Rd (F := F) m).duties (barCell c) 0 = Finset.univ := by dsimp only [Rd]; exact if_pos ⟨rfl, rfl⟩
theorem duties_d (i : ℕ) (hi : i < 24) : (Rd (F := F) m).duties (dCell c i) 0 = {false} := by
  dsimp only [Rd]; rw [if_pos ⟨rfl, rfl⟩]
  refine if_pos ?_
  show 4 ≤ (4 + i) % 34 ∧ (4 + i) % 34 < 28
  omega
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barCell c) 0 d = 1 := rfl
theorem amount_d (i : ℕ) (hi : i < 24) (d : Bool) : (Rd (F := F) m).amount (dCell c i) 0 d = amt (i / 2) := by
  show amt (((4 + i) % 34 - 4) / 2) = _
  congr 2; omega
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d (i : ℕ) (hi : i < 24) : (Rd (F := F) m).expect (dCell c i) 0 = amt (i / 2) := by
  unfold Schedule.expect Schedule.amountOf; rw [duties_d m c i hi, Finset.sum_singleton, amount_d m c i hi]
theorem payload_bar (d : Bool) : (Rd (F := F) m).payload (barCell c) 0 d = barPay c d := rfl
theorem payload_d (i : ℕ) (hi : i < 24) (d : Bool) : (Rd (F := F) m).payload (dCell c i) 0 d = semPay m c i := by
  show semPay m c ((4 + i) % 34 - 4) = _
  congr 1; omega
theorem payload_send (t : ℕ) (ht : t < 12) (d : Bool) : (Rd (F := F) m).payload (dCell c (2 * t)) 0 d = sendPay m c t := by
  rw [payload_d m c _ (by omega)]; unfold semPay; rw [if_pos (by omega)]; congr 1; omega
theorem payload_recv (t : ℕ) (ht : t < 12) (d : Bool) : (Rd (F := F) m).payload (dCell c (2 * t + 1)) 0 d = recvPay m c t := by
  rw [payload_d m c _ (by omega)]; unfold semPay; rw [if_neg (by omega)]; congr 1; omega
theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_d (i : ℕ) (hi : i < 24) :
    bigSep ((Rd (F := F) m).duties (dCell c i) 0 \ ∅) (fun d => (Rd (F := F) m).payload (dCell c i) 0 d) = semPay m c i := by
  rw [Finset.sdiff_empty, duties_d m c i hi, bigSep_singleton, payload_d m c i hi]
end Sched

/-! ## What each device owes; the levels -/

/-- The credit copy `t` of device `c` owes the receiving cell. -/
def ow (c : Dev nD) (t : ℕ) : CellTallies nD τ sig Unit := tallyAt (dCell (peer c t) (2 * t + 1)) () (amt t)
/-- What the last `k` copies owe. -/
def OR (c : Dev nD) : ℕ → CellTallies nD τ sig Unit
  | 0 => 0
  | k + 1 => OR c k + ow c (11 - k)
def O₁ (c : Dev nD) : CellTallies nD τ sig Unit := OR c 12 + tallyAt (barCell (rt c)) () 1
def O₀ (c : Dev nD) : CellTallies nD τ sig Unit := O₁ c + tallyAt (barCell (lt c)) () 1

def L (g : GSem nD τ sig) : Finset Unit := if g.1.2 = .tc then {()} else ∅
/-- The barrier at 1, the landings of the first phase at 2, those of the second at 3, everything else at 0. -/
def slv (s : SemLoc sig) : ℕ := match s with
  | .reg _ => 1
  | .dma q => if 4 ≤ q.val ∧ q.val < 28 ∧ q.val % 2 = 1 then (if q.val < 20 then 2 else 3) else 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem slv_recv (t : ℕ) (ht : t < 12) : slv (.dma (dsem (2 * t + 1))) = if t < 8 then 2 else 3 := by
  show (if 4 ≤ (4 + (2 * t + 1)) % 34 ∧ (4 + (2 * t + 1)) % 34 < 28 ∧ (4 + (2 * t + 1)) % 34 % 2 = 1
    then (if (4 + (2 * t + 1)) % 34 < 20 then 2 else 3) else 0) = _
  rw [if_pos (by omega)]
  by_cases h : t < 8
  · rw [if_pos h, if_pos (by omega)]
  · rw [if_neg h, if_neg (by omega)]

theorem OR_pos {c : Dev nD} {k : ℕ} (hk : k ≤ 12) {g : GSem nD τ sig} {u : Unit} (h : 0 < OR c k g u) :
    ∃ t, 12 - k ≤ t ∧ t < 12 ∧ g = dCell (peer c t) (2 * t + 1) := by
  induction k with
  | zero => exact absurd h (Nat.lt_irrefl 0)
  | succ k ih =>
    unfold OR at h
    rw [Pi.add_apply, Finsupp.add_apply] at h
    by_cases h1 : 0 < OR c k g u
    · obtain ⟨t, h2, h3, h4⟩ := ih (by omega) h1
      exact ⟨t, by omega, h3, h4⟩
    · have h2 : 0 < ow c (11 - k) g u := by omega
      unfold ow at h2
      rw [tallyAt_apply] at h2
      refine ⟨11 - k, by omega, by omega, ?_⟩
      by_contra hn
      rw [if_neg (fun h' => hn h'.1)] at h2
      exact Nat.lt_irrefl 0 h2

omit [FloatOps F] in
/-- A device that owes the last `k` copies may wait on a cell below all their landings. -/
theorem mayWait_OR (c : Dev nD) (k : ℕ) (hk : k ≤ 12) (sm : SemLoc sig) (hs : slv sm < 2 ∨ (slv sm < 3 ∧ k ≤ 4)) :
    (levAts L lv : sProp 𝕄) ⊢ MayWait (c : Thread nD τ) sm () (OR c k) := by
  refine MayOwe.of_cut (L := L) (lev := lv) (slv sm) (fun p hp => by rw [Finset.mem_singleton.mp hp, L_tc]; exact Finset.mem_singleton_self _)
    (fun g u hg => by obtain ⟨t, -, -, rfl⟩ := OR_pos hk hg; exact Finset.mem_singleton_self _)
    (fun p hp => by rw [Finset.mem_singleton.mp hp]; exact le_refl _)
    (fun g u hg => by
      obtain ⟨t, h1, h2, rfl⟩ := OR_pos hk hg
      show slv sm < slv (.dma (dsem (2 * t + 1)))
      rw [slv_recv t h2]
      split <;> omega)

/-- Every cell that a copy or the barrier owes is on a TensorCore, at level 1 or more. -/
theorem O₀_pos {c : Dev nD} {g : GSem nD τ sig} {u : Unit} (h : 0 < O₀ c g u) : g.1.2 = .tc ∧ 0 < slv g.2 := by
  unfold O₀ O₁ at h
  rw [Pi.add_apply, Finsupp.add_apply, Pi.add_apply, Finsupp.add_apply, tallyAt_apply, tallyAt_apply] at h
  by_cases h1 : 0 < OR c 12 g u
  · obtain ⟨t, -, h2, rfl⟩ := OR_pos (le_refl _) h1
    refine ⟨rfl, ?_⟩
    show 0 < slv (.dma (dsem (2 * t + 1)))
    rw [slv_recv t h2]; split <;> decide
  · by_cases h2 : g = barCell (rt c) ∧ u = ()
    · rw [h2.1]; exact ⟨rfl, Nat.one_pos⟩
    · by_cases h3 : g = barCell (lt c) ∧ u = ()
      · rw [h3.1]; exact ⟨rfl, Nat.one_pos⟩
      · rw [if_neg h2, if_neg h3] at h; omega

omit [FloatOps F] in
theorem mayWait_stage (c : Dev nD) (sm : SemLoc sig) (hs : slv sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact le_of_eq hs)
      (fun g u hg => (O₀_pos hg).2)
  · rw [MayWait_zero]; iintro -; iempintro

end Cert.RingProof

end
-- ==== Proof.Views.lean ====
/-
Views: which elements the kernel's slices name, and what is read through them.

Every slice of a gathered or staged buffer is a box one slab thick, seen as a matrix; every slice of `x`,
`w` or the result is a box of whole rows or whole columns. Each lemma names a slice by its offset, given
as an equation, so that it serves the slices at computed offsets too.
-/
module

public import proofs.«01_k».proof.Proof.Base
public import Idealize.ShloMosaic.Lib.ViewIndex

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## Boxes -/

/-- A slab of a rank-three box, seen as a matrix: where its elements lie. -/
theorem slab_emb {D : Fin 3 → ℕ} {a b : ℕ} {off : Fin 3 → ℕ} {inb : ∀ k, off k + (⟨3, ![1, a, b]⟩ : Shape).size k ≤ (⟨3, D⟩ : Shape).size k}
    (h : (⟨2, ![a, b]⟩ : Shape).numel = (⟨3, ![1, a, b]⟩ : Shape).numel) (x : (⟨2, ![a, b]⟩ : Shape).Idx) :
    ((Rect.unit (s := ⟨3, D⟩) off (⟨3, ![1, a, b]⟩ : Shape).size inb).emb (Shape.reshapeEquiv h x) 0).val = off 0
    ∧ ((Rect.unit (s := ⟨3, D⟩) off (⟨3, ![1, a, b]⟩ : Shape).size inb).emb (Shape.reshapeEquiv h x) 1).val = off 1 + (x 0).val
    ∧ ((Rect.unit (s := ⟨3, D⟩) off (⟨3, ![1, a, b]⟩ : Shape).size inb).emb (Shape.reshapeEquiv h x) 2).val = off 2 + (x 1).val := by
  obtain ⟨p, q, rfl⟩ : ∃ p q, x = ix2 p q := ⟨x 0, x 1, eq_ix2 x⟩
  rw [reshapeEquiv_ix2_1ab]
  refine ⟨?_, ?_, ?_⟩
  · show off 0 + 1 * 0 = _; omega
  · show off 1 + 1 * p.val = _; rw [Nat.one_mul]; rfl
  · show off 2 + 1 * q.val = _; rw [Nat.one_mul]; rfl

/-- A landed copy agrees with `g` wherever the source read what `g` reads under the destination. -/
theorem land_eq {κ : Kind} {sp : Space} {s : Shape} {e : EltTy} {Val : EltTy → Type} (dst : View sig κ sp s e)
    (fd g : dst.ty.Contents Val) (w : s.Idx → Val e) (h : ∀ x, w x = dst.read Val g x) :
    ∀ i ∈ dst.set, dst.write Val fd w Finset.univ i = g i := by
  intro i hi
  obtain ⟨x, -, rfl⟩ := Finset.mem_map.mp hi
  exact View.eq_of_read_eq ((View.read_write_of_mem fd w (Finset.mem_univ x)).trans (h x))

theorem all3 {p : Fin 3 → Prop} : (∀ a, p a) ↔ p 0 ∧ p 1 ∧ p 2 :=
  ⟨fun h => ⟨h 0, h 1, h 2⟩, fun h a => match a with | 0 => h.1 | 1 => h.2.1 | 2 => h.2.2⟩

theorem all2 {p : Fin 2 → Prop} : (∀ a, p a) ↔ p 0 ∧ p 1 :=
  ⟨fun h => ⟨h 0, h 1⟩, fun h a => match a with | 0 => h.1 | 1 => h.2⟩

theorem eq3 {s : Fin 3 → ℕ} {i j : (⟨3, s⟩ : Shape).Idx} (h0 : (i 0).val = (j 0).val) (h1 : (i 1).val = (j 1).val)
    (h2 : (i 2).val = (j 2).val) : i = j :=
  funext (all3.mpr ⟨Fin.ext h0, Fin.ext h1, Fin.ext h2⟩)

theorem eq2 {s : Fin 2 → ℕ} {i j : (⟨2, s⟩ : Shape).Idx} (h0 : (i 0).val = (j 0).val) (h1 : (i 1).val = (j 1).val) : i = j :=
  funext (all2.mpr ⟨Fin.ext h0, Fin.ext h1⟩)

section Sets

variable {off3 : Fin 3 → ℕ} {off2 : Fin 2 → ℕ}

abbrev gM : Memref sig .tc .vmem S4x4096x1024 .fp8e4m3 := Memref.whole cc0_scratch0
abbrev vM : Memref sig .tc .vmem S3x1024x8192 .fp8e4m3 := Memref.whole cc0_scratch1
abbrev tM : Memref sig .tc .vmem S2x1024x128 .fp8e4m3 := Memref.whole cc0_scratch2
abbrev bM : Memref sig .tc .vmem S2x4096x128 .f32 := Memref.whole cc0_scratch3
abbrev aM : Memref sig .tc .vmem S2x4096x128 .f32 := Memref.whole cc0_scratch4
abbrev xM : Memref sig .tc .hbm S4096x1024 .fp8e4m3 := Memref.whole main_arg0
abbrev wM : Memref sig .tc .hbm S1024x8192 .fp8e4m3 := Memref.whole main_arg1
abbrev oM : Memref sig .tc .hbm S4096x8192 .f32 := Memref.whole main_v1

/-- Half a slab, and a whole slab, of the gathered `x`. -/
abbrev gHalf (off : Fin 3 → ℕ) (inb : ∀ a, off a + S1x2048x1024.size a ≤ S4x4096x1024.size a) (hs) :=
  (gM.slice (Rect.unit (s := S4x4096x1024) off S1x2048x1024.size inb) hs).squeeze S2048x1024 squeezes_S1x2048x1024_S2048x1024
abbrev gSlab (off : Fin 3 → ℕ) (inb : ∀ a, off a + S1x4096x1024.size a ≤ S4x4096x1024.size a) (hs) :=
  (gM.slice (Rect.unit (s := S4x4096x1024) off S1x4096x1024.size inb) hs).squeeze S4096x1024 squeezes_S1x4096x1024_S4096x1024
/-- Half a slab of the gathered `w`. -/
abbrev vHalf (off : Fin 3 → ℕ) (inb : ∀ a, off a + S1x512x8192.size a ≤ S3x1024x8192.size a) (hs) :=
  (vM.slice (Rect.unit (s := S3x1024x8192) off S1x512x8192.size inb) hs).squeeze S512x8192 squeezes_S1x512x8192_S512x8192
/-- Half of `x`, half of `w`. -/
abbrev xHalf (off : Fin 2 → ℕ) (inb : ∀ a, off a + S2048x1024.size a ≤ S4096x1024.size a) (hs) :=
  xM.slice (Rect.unit (s := S4096x1024) off S2048x1024.size inb) hs
abbrev wHalf (off : Fin 2 → ℕ) (inb : ∀ a, off a + S512x8192.size a ≤ S1024x8192.size a) (hs) :=
  wM.slice (Rect.unit (s := S1024x8192) off S512x8192.size inb) hs

theorem gHalf_set (inb hs) (d r : ℕ) (ho : off3 = ![d, r, 0]) : (gHalf off3 inb hs).view.set = gS d r (r + 2048) := by
  subst ho
  show (((View.whole cc0_scratch0).slice _).reshape _ _).set = _
  rw [View.set_reshape, View.set_slice_whole]
  ext i
  rw [Rect.mem_set_unit]
  unfold gS
  refine (all3 (p := fun a : Fin 3 => _ ≤ (i a).val ∧ (i a).val < _)).trans (Iff.trans ?_ Finset.mem_filter.symm)
  have h2 := (i 2).isLt
  constructor
  · rintro ⟨⟨h1, h1'⟩, ⟨h3, h3'⟩, -⟩
    change d ≤ (i 0).val at h1; change (i 0).val < d + 1 at h1'
    change r ≤ (i 1).val at h3; change (i 1).val < r + 2048 at h3'
    exact ⟨Finset.mem_univ _, by omega, h3, h3'⟩
  · rintro ⟨-, h1, h3, h3'⟩
    refine ⟨⟨?_, ?_⟩, ⟨?_, ?_⟩, ⟨?_, ?_⟩⟩
    · show d ≤ (i 0).val; omega
    · show (i 0).val < d + 1; omega
    · exact h3
    · exact h3'
    · exact Nat.zero_le _
    · show (i 2).val < 0 + 1024; rw [Nat.zero_add]; exact h2

theorem gSlab_set (inb hs) (d : ℕ) (ho : off3 = ![d, 0, 0]) : (gSlab off3 inb hs).view.set = gS d 0 4096 := by
  subst ho
  show (((View.whole cc0_scratch0).slice _).reshape _ _).set = _
  rw [View.set_reshape, View.set_slice_whole]
  ext i
  rw [Rect.mem_set_unit]
  unfold gS
  refine (all3 (p := fun a : Fin 3 => _ ≤ (i a).val ∧ (i a).val < _)).trans (Iff.trans ?_ Finset.mem_filter.symm)
  have h2 := (i 2).isLt
  constructor
  · rintro ⟨⟨h1, h1'⟩, ⟨h3, h3'⟩, -⟩
    change d ≤ (i 0).val at h1; change (i 0).val < d + 1 at h1'
    change (i 1).val < 0 + 4096 at h3'
    exact ⟨Finset.mem_univ _, by omega, Nat.zero_le _, by omega⟩
  · rintro ⟨-, h1, h3, h3'⟩
    refine ⟨⟨?_, ?_⟩, ⟨?_, ?_⟩, ⟨?_, ?_⟩⟩
    · show d ≤ (i 0).val; omega
    · show (i 0).val < d + 1; omega
    · exact h3
    · show (i 1).val < 0 + 4096; omega
    · exact Nat.zero_le _
    · show (i 2).val < 0 + 1024; rw [Nat.zero_add]; exact h2

theorem vHalf_set (inb hs) (d r : ℕ) (ho : off3 = ![d, r, 0]) : (vHalf off3 inb hs).view.set = vS d r (r + 512) := by
  subst ho
  show (((View.whole cc0_scratch1).slice _).reshape _ _).set = _
  rw [View.set_reshape, View.set_slice_whole]
  ext i
  rw [Rect.mem_set_unit]
  unfold vS
  refine (all3 (p := fun a : Fin 3 => _ ≤ (i a).val ∧ (i a).val < _)).trans (Iff.trans ?_ Finset.mem_filter.symm)
  have h2 := (i 2).isLt
  constructor
  · rintro ⟨⟨h1, h1'⟩, ⟨h3, h3'⟩, -⟩
    change d ≤ (i 0).val at h1; change (i 0).val < d + 1 at h1'
    change r ≤ (i 1).val at h3; change (i 1).val < r + 512 at h3'
    exact ⟨Finset.mem_univ _, by omega, h3, h3'⟩
  · rintro ⟨-, h1, h3, h3'⟩
    refine ⟨⟨?_, ?_⟩, ⟨?_, ?_⟩, ⟨?_, ?_⟩⟩
    · show d ≤ (i 0).val; omega
    · show (i 0).val < d + 1; omega
    · exact h3
    · exact h3'
    · exact Nat.zero_le _
    · show (i 2).val < 0 + 8192; rw [Nat.zero_add]; exact h2

theorem xHalf_set (inb hs) (r : ℕ) (ho : off2 = ![r, 0]) : (xHalf off2 inb hs).view.set = xS r (r + 2048) := by
  subst ho
  show ((View.whole main_arg0).slice _).set = _
  rw [View.set_slice_whole]
  ext i
  rw [Rect.mem_set_unit]
  unfold xS
  refine (all2 (p := fun a : Fin 2 => _ ≤ (i a).val ∧ (i a).val < _)).trans (Iff.trans ?_ Finset.mem_filter.symm)
  have h2 := (i 1).isLt
  constructor
  · rintro ⟨⟨h1, h1'⟩, -⟩
    exact ⟨Finset.mem_univ _, h1, h1'⟩
  · rintro ⟨-, h1, h1'⟩
    refine ⟨⟨h1, h1'⟩, ⟨Nat.zero_le _, ?_⟩⟩
    show (i 1).val < 0 + 1024; rw [Nat.zero_add]; exact h2

theorem wHalf_set (inb hs) (r : ℕ) (ho : off2 = ![r, 0]) : (wHalf off2 inb hs).view.set = wS r (r + 512) := by
  subst ho
  show ((View.whole main_arg1).slice _).set = _
  rw [View.set_slice_whole]
  ext i
  rw [Rect.mem_set_unit]
  unfold wS
  refine (all2 (p := fun a : Fin 2 => _ ≤ (i a).val ∧ (i a).val < _)).trans (Iff.trans ?_ Finset.mem_filter.symm)
  have h2 := (i 1).isLt
  constructor
  · rintro ⟨⟨h1, h1'⟩, -⟩
    exact ⟨Finset.mem_univ _, h1, h1'⟩
  · rintro ⟨-, h1, h1'⟩
    refine ⟨⟨h1, h1'⟩, ⟨Nat.zero_le _, ?_⟩⟩
    show (i 1).val < 0 + 8192; rw [Nat.zero_add]; exact h2

/-! ## Reads -/

omit [FloatOps F]

theorem gHalf_read (inb hs) (f : S4x4096x1024.Idx → Elt F .fp8e4m3) (x : S2048x1024.Idx) (j : S4x4096x1024.Idx)
    (h0 : (j 0).val = off3 0) (h1 : (j 1).val = off3 1 + (x 0).val) (h2 : (j 2).val = off3 2 + (x 1).val) :
    (gHalf off3 inb hs).view.read (Elt F) f x = f j := by
  obtain ⟨e0, e1, e2⟩ := slab_emb (D := ![4, 4096, 1024]) (a := 2048) (b := 1024) (off := off3) (inb := inb) squeezes_S1x2048x1024_S2048x1024.numel_eq x
  exact congrArg f (eq3 (e0.trans h0.symm) (e1.trans h1.symm) (e2.trans h2.symm))

theorem gSlab_read (inb hs) (f : S4x4096x1024.Idx → Elt F .fp8e4m3) (x : S4096x1024.Idx) (j : S4x4096x1024.Idx)
    (h0 : (j 0).val = off3 0) (h1 : (j 1).val = off3 1 + (x 0).val) (h2 : (j 2).val = off3 2 + (x 1).val) :
    (gSlab off3 inb hs).view.read (Elt F) f x = f j := by
  obtain ⟨e0, e1, e2⟩ := slab_emb (D := ![4, 4096, 1024]) (a := 4096) (b := 1024) (off := off3) (inb := inb) squeezes_S1x4096x1024_S4096x1024.numel_eq x
  exact congrArg f (eq3 (e0.trans h0.symm) (e1.trans h1.symm) (e2.trans h2.symm))

theorem vHalf_read (inb hs) (f : S3x1024x8192.Idx → Elt F .fp8e4m3) (x : S512x8192.Idx) (j : S3x1024x8192.Idx)
    (h0 : (j 0).val = off3 0) (h1 : (j 1).val = off3 1 + (x 0).val) (h2 : (j 2).val = off3 2 + (x 1).val) :
    (vHalf off3 inb hs).view.read (Elt F) f x = f j := by
  obtain ⟨e0, e1, e2⟩ := slab_emb (D := ![3, 1024, 8192]) (a := 512) (b := 8192) (off := off3) (inb := inb) squeezes_S1x512x8192_S512x8192.numel_eq x
  exact congrArg f (eq3 (e0.trans h0.symm) (e1.trans h1.symm) (e2.trans h2.symm))

theorem xHalf_read (inb hs) (f : S4096x1024.Idx → Elt F .fp8e4m3) (x : S2048x1024.Idx) (j : S4096x1024.Idx)
    (h0 : (j 0).val = off2 0 + (x 0).val) (h1 : (j 1).val = off2 1 + (x 1).val) :
    (xHalf off2 inb hs).view.read (Elt F) f x = f j := by
  refine congrArg f (eq2 ?_ ?_)
  · show off2 0 + 1 * (x 0).val = _; omega
  · show off2 1 + 1 * (x 1).val = _; omega

theorem wHalf_read (inb hs) (f : S1024x8192.Idx → Elt F .fp8e4m3) (x : S512x8192.Idx) (j : S1024x8192.Idx)
    (h0 : (j 0).val = off2 0 + (x 0).val) (h1 : (j 1).val = off2 1 + (x 1).val) :
    (wHalf off2 inb hs).view.read (Elt F) f x = f j := by
  refine congrArg f (eq2 ?_ ?_)
  · show off2 0 + 1 * (x 0).val = _; omega
  · show off2 1 + 1 * (x 1).val = _; omega

end Sets

end Cert.RingProof

end
-- ==== Proof.Tiles.lean ====
/-
Tiles: the staging slots of the three passes, the local transfers that fill and drain them, and the waits.

A pass goes over the sixty-four column tiles of the result. Tile `j` uses the staging slots numbered `j % 2`:
one for the tile of `w` (first pass) or of the result so far (later passes) fetched ahead, one for the tile
of the result on its way out.
-/
module

public import proofs.«01_k».proof.Proof.Views

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ UU ℕ

/-! ## Element sets -/

/-- Slot `s` of the staged tiles of `w`, and of the staged tiles of the result. -/
def tS (s : ℕ) : Finset S2x1024x128.Idx := Finset.univ.filter fun i => (i 0).val = s
def bS (s : ℕ) : Finset S2x4096x128.Idx := Finset.univ.filter fun i => (i 0).val = s
/-- Column tile `j` of `w`. -/
def cS (j : ℕ) : Finset S1024x8192.Idx := Finset.univ.filter fun i => (i 1).val / 128 = j
/-- Column tile `j` of the result, the tiles before `k`, the tiles from `k` on. -/
def oT (j : ℕ) : Finset S4096x8192.Idx := Finset.univ.filter fun i => (i 1).val / 128 = j
def oLo (k : ℕ) : Finset S4096x8192.Idx := Finset.univ.filter fun i => (i 1).val / 128 < k
def oHi (k : ℕ) : Finset S4096x8192.Idx := Finset.univ.filter fun i => k ≤ (i 1).val / 128

theorem oHi_zero : oHi 0 = Finset.univ := Finset.filter_true_of_mem fun _ _ => Nat.zero_le _
theorem oLo_zero : oLo 0 = ∅ := Finset.filter_false_of_mem fun _ _ => Nat.not_lt_zero _
theorem oHi_end {k : ℕ} (hk : 64 ≤ k) : oHi k = ∅ := Finset.filter_false_of_mem fun i _ => by
  have h : (i 1).val < 8192 := (i 1).isLt
  omega
theorem oLo_end : oLo 64 = Finset.univ := Finset.filter_true_of_mem fun i _ => by
  have h : (i 1).val < 8192 := (i 1).isLt
  omega
theorem oHi_step (k : ℕ) : oHi k = oT k ∪ oHi (k + 1) := by
  ext i; simp only [oHi, oT, Finset.mem_union, Finset.mem_filter, Finset.mem_univ, true_and]; omega
theorem oHi_disj (k : ℕ) : Disjoint (oT k) (oHi (k + 1)) := by
  rw [Finset.disjoint_left]; intro i; simp only [oHi, oT, Finset.mem_filter, Finset.mem_univ, true_and]; omega
theorem oLo_step (k : ℕ) : oLo (k + 1) = oLo k ∪ oT k := by
  ext i; simp only [oLo, oT, Finset.mem_union, Finset.mem_filter, Finset.mem_univ, true_and]; omega
theorem oLo_disj (k : ℕ) : Disjoint (oLo k) (oT k) := by
  rw [Finset.disjoint_left]; intro i; simp only [oLo, oT, Finset.mem_filter, Finset.mem_univ, true_and]; omega

/-! ## Slices -/

abbrev tSlot (off : Fin 3 → ℕ) (inb : ∀ a, off a + S1x1024x128.size a ≤ S2x1024x128.size a) (hs) :=
  (tM.slice (Rect.unit (s := S2x1024x128) off S1x1024x128.size inb) hs).squeeze S1024x128 squeezes_S1x1024x128_S1024x128
abbrev bSlot (off : Fin 3 → ℕ) (inb : ∀ a, off a + S1x4096x128.size a ≤ S2x4096x128.size a) (hs) :=
  (bM.slice (Rect.unit (s := S2x4096x128) off S1x4096x128.size inb) hs).squeeze S4096x128 squeezes_S1x4096x128_S4096x128
abbrev aSlot (off : Fin 3 → ℕ) (inb : ∀ a, off a + S1x4096x128.size a ≤ S2x4096x128.size a) (hs) :=
  (aM.slice (Rect.unit (s := S2x4096x128) off S1x4096x128.size inb) hs).squeeze S4096x128 squeezes_S1x4096x128_S4096x128
abbrev wTile (off : Fin 2 → ℕ) (inb : ∀ a, off a + S1024x128.size a ≤ S1024x8192.size a) (hs) :=
  wM.slice (Rect.unit (s := S1024x8192) off S1024x128.size inb) hs
abbrev oTile (off : Fin 2 → ℕ) (inb : ∀ a, off a + S4096x128.size a ≤ S4096x8192.size a) (hs) :=
  oM.slice (Rect.unit (s := S4096x8192) off S4096x128.size inb) hs

section Sets
variable {off3 : Fin 3 → ℕ} {off2 : Fin 2 → ℕ}

/-- The box of a slot. -/
theorem slot_rect {n a b : ℕ} {inb : ∀ k, off3 k + (⟨3, ![1, a, b]⟩ : Shape).size k ≤ (⟨3, ![n, a, b]⟩ : Shape).size k} {s : ℕ}
    (ho : off3 = ![s, 0, 0]) :
    (Rect.unit (s := ⟨3, ![n, a, b]⟩) off3 (⟨3, ![1, a, b]⟩ : Shape).size inb).set
      = Finset.univ.filter fun i : (⟨3, ![n, a, b]⟩ : Shape).Idx => (i 0).val = s := by
  subst ho
  ext i
  rw [Rect.mem_set_unit]
  refine (all3 (p := fun k : Fin 3 => _ ≤ (i k).val ∧ (i k).val < _)).trans (Iff.trans ?_ Finset.mem_filter.symm)
  have h1 := (i 1).isLt
  have h2 := (i 2).isLt
  constructor
  · rintro ⟨⟨h3, h3'⟩, -⟩
    change s ≤ (i 0).val at h3; change (i 0).val < s + 1 at h3'
    exact ⟨Finset.mem_univ _, by omega⟩
  · rintro ⟨-, h3⟩
    refine ⟨⟨?_, ?_⟩, ⟨Nat.zero_le _, ?_⟩, ⟨Nat.zero_le _, ?_⟩⟩
    · show s ≤ (i 0).val; omega
    · show (i 0).val < s + 1; omega
    · show (i 1).val < 0 + a; rw [Nat.zero_add]; exact h1
    · show (i 2).val < 0 + b; rw [Nat.zero_add]; exact h2

/-- The box of a column tile. -/
theorem tile_rect {n : ℕ} {inb : ∀ k, off2 k + (⟨2, ![n, 128]⟩ : Shape).size k ≤ (⟨2, ![n, 8192]⟩ : Shape).size k} {j : ℕ}
    (ho : off2 = ![0, 128 * j]) :
    (Rect.unit (s := ⟨2, ![n, 8192]⟩) off2 (⟨2, ![n, 128]⟩ : Shape).size inb).set
      = Finset.univ.filter fun i : (⟨2, ![n, 8192]⟩ : Shape).Idx => (i 1).val / 128 = j := by
  subst ho
  ext i
  rw [Rect.mem_set_unit]
  refine (all2 (p := fun k : Fin 2 => _ ≤ (i k).val ∧ (i k).val < _)).trans (Iff.trans ?_ Finset.mem_filter.symm)
  have h1 := (i 0).isLt
  constructor
  · rintro ⟨-, ⟨h3, h3'⟩⟩
    change 128 * j ≤ (i 1).val at h3; change (i 1).val < 128 * j + 128 at h3'
    exact ⟨Finset.mem_univ _, by omega⟩
  · rintro ⟨-, h3⟩
    refine ⟨⟨Nat.zero_le _, ?_⟩, ⟨?_, ?_⟩⟩
    · show (i 0).val < 0 + n; rw [Nat.zero_add]; exact h1
    · show 128 * j ≤ (i 1).val; omega
    · show (i 1).val < 128 * j + 128; omega

theorem tSlot_set (inb hs) (s : ℕ) (ho : off3 = ![s, 0, 0]) : (tSlot off3 inb hs).view.set = tS s := by
  show (((View.whole cc0_scratch2).slice _).reshape _ _).set = _
  rw [View.set_reshape, View.set_slice_whole]; exact slot_rect ho
theorem bSlot_set (inb hs) (s : ℕ) (ho : off3 = ![s, 0, 0]) : (bSlot off3 inb hs).view.set = bS s := by
  show (((View.whole cc0_scratch3).slice _).reshape _ _).set = _
  rw [View.set_reshape, View.set_slice_whole]; exact slot_rect ho
theorem aSlot_set (inb hs) (s : ℕ) (ho : off3 = ![s, 0, 0]) : (aSlot off3 inb hs).view.set = bS s := by
  show (((View.whole cc0_scratch4).slice _).reshape _ _).set = _
  rw [View.set_reshape, View.set_slice_whole]; exact slot_rect ho
theorem wTile_set (inb hs) (j : ℕ) (ho : off2 = ![0, 128 * j]) : (wTile off2 inb hs).view.set = cS j := by
  show ((View.whole main_arg1).slice _).set = _
  rw [View.set_slice_whole]; exact tile_rect ho
theorem oTile_set (inb hs) (j : ℕ) (ho : off2 = ![0, 128 * j]) : (oTile off2 inb hs).view.set = oT j := by
  show ((View.whole main_v1).slice _).set = _
  rw [View.set_slice_whole]; exact tile_rect ho

theorem acc_t_set (inb) (s : ℕ) (ho : off3 = ![s, 0, 0]) : (tM.access (Rect.unit (s := S2x1024x128) off3 S1x1024x128.size inb)).set = tS s := by
  show ((View.whole cc0_scratch2).slice _).set = _
  rw [View.set_slice_whole]; exact slot_rect ho
theorem acc_b_set (inb) (s : ℕ) (ho : off3 = ![s, 0, 0]) : (bM.access (Rect.unit (s := S2x4096x128) off3 S1x4096x128.size inb)).set = bS s := by
  show ((View.whole cc0_scratch3).slice _).set = _
  rw [View.set_slice_whole]; exact slot_rect ho
theorem acc_a_set (inb) (s : ℕ) (ho : off3 = ![s, 0, 0]) : (aM.access (Rect.unit (s := S2x4096x128) off3 S1x4096x128.size inb)).set = bS s := by
  show ((View.whole cc0_scratch4).slice _).set = _
  rw [View.set_slice_whole]; exact slot_rect ho
theorem acc_g_set (inb) (d : ℕ) (ho : off3 = ![d, 0, 0]) :
    (gM.access (Rect.unit (s := S4x4096x1024) off3 S1x4096x1024.size inb)).set ⊆ gS d 0 4096 := by
  show ((View.whole cc0_scratch0).slice _).set ⊆ _
  rw [View.set_slice_whole]
  intro i hi
  have h := (Finset.ext_iff.mp (slot_rect (off3 := off3) (n := 4) (a := 4096) (b := 1024) (inb := inb) ho) i).mp hi
  exact Finset.mem_filter.mpr ⟨Finset.mem_univ _, (Finset.mem_filter.mp h).2, Nat.zero_le _, (i 1).isLt⟩
theorem acc_v_set (inb) (s j : ℕ) (ho : off3 = ![s, 0, 128 * j]) :
    (vM.access (Rect.unit (s := S3x1024x8192) off3 S1x1024x128.size inb)).set ⊆ vS s 0 1024 := by
  subst ho
  show ((View.whole cc0_scratch1).slice _).set ⊆ _
  rw [View.set_slice_whole]
  intro i hi
  have h : s ≤ (i 0).val ∧ (i 0).val < s + 1 := Rect.mem_set_unit.mp hi 0
  exact Finset.mem_filter.mpr ⟨Finset.mem_univ _, by omega, Nat.zero_le _, (i 1).isLt⟩

/-! ## What the tiles hold -/

set_option backward.proofsInPublic true in
/-- Column `128 j + x` of a row of 8192. -/
def col (j x : ℕ) : Fin 8192 := ⟨(128 * j + x) % 8192, Nat.mod_lt _ (by decide)⟩

/-- Tile `j` of `w` as a slot holds it, and as a load of it reads it. -/
def TW (f : S1024x8192.Idx → Elt F .fp8e4m3) (j : ℕ) : S2x1024x128.Idx → Elt F .fp8e4m3 := fun i => f (ix2 (i 1) (col j (i 2).val))
def LW (f : S1024x8192.Idx → Elt F .fp8e4m3) (j : ℕ) : S1x1024x128.Idx → Elt F .fp8e4m3 := fun i => f (ix2 (i 1) (col j (i 2).val))
/-- Tile `j` of the result as a slot holds it, and as a load of it reads it. -/
def TB (G : S4096x8192.Idx → Elt F .f32) (j : ℕ) : S2x4096x128.Idx → Elt F .f32 := fun i => G (ix2 (i 1) (col j (i 2).val))
def LB (G : S4096x8192.Idx → Elt F .f32) (j : ℕ) : S1x4096x128.Idx → Elt F .f32 := fun i => G (ix2 (i 1) (col j (i 2).val))
/-- A block of `x` as a load of its slab reads it. -/
def LX (f : S4096x1024.Idx → Elt F .fp8e4m3) : S1x4096x1024.Idx → Elt F .fp8e4m3 := fun i => f (ix2 (i 1) (i 2))
/-- A stored tile as its slot holds it. -/
def TA (P : S1x4096x128.Idx → Elt F .f32) : S2x4096x128.Idx → Elt F .f32 := fun i => P (ix3 (0 : Fin 1) (i 1) (i 2))

set_option backward.proofsInPublic true in
/-- The result whose tile `j` is `P j`. -/
def GP (P : ℕ → S1x4096x128.Idx → Elt F .f32) : S4096x8192.Idx → Elt F .f32 :=
  fun i => P ((i 1).val / 128) (ix3 (0 : Fin 1) (i 0) (⟨(i 1).val % 128, Nat.mod_lt _ (by decide)⟩ : Fin 128))

omit [FloatOps F]

theorem tSlot_read (inb hs) (s : ℕ) (ho : off3 = ![s, 0, 0]) (f : S1024x8192.Idx → Elt F .fp8e4m3) (j : ℕ) (x : S1024x128.Idx) :
    (tSlot off3 inb hs).view.read (Elt F) (TW f j) x = f (ix2 (x 0) (col j (x 1).val)) := by
  subst ho
  obtain ⟨-, e1, e2⟩ := slab_emb (D := ![2, 1024, 128]) (a := 1024) (b := 128) (off := ![s, 0, 0]) (inb := inb) squeezes_S1x1024x128_S1024x128.numel_eq x
  have e1' := e1.trans (Nat.zero_add _)
  have e2' := e2.trans (Nat.zero_add _)
  exact congrArg f (eq2 e1' (congrArg (fun n => (col j n).val) e2'))

theorem bSlot_read (inb hs) (s : ℕ) (ho : off3 = ![s, 0, 0]) (G : S4096x8192.Idx → Elt F .f32) (j : ℕ) (x : S4096x128.Idx) :
    (bSlot off3 inb hs).view.read (Elt F) (TB G j) x = G (ix2 (x 0) (col j (x 1).val)) := by
  subst ho
  obtain ⟨-, e1, e2⟩ := slab_emb (D := ![2, 4096, 128]) (a := 4096) (b := 128) (off := ![s, 0, 0]) (inb := inb) squeezes_S1x4096x128_S4096x128.numel_eq x
  have e1' := e1.trans (Nat.zero_add _)
  have e2' := e2.trans (Nat.zero_add _)
  exact congrArg G (eq2 e1' (congrArg (fun n => (col j n).val) e2'))

theorem aSlot_read (inb hs) (s : ℕ) (ho : off3 = ![s, 0, 0]) (P : S1x4096x128.Idx → Elt F .f32) (x : S4096x128.Idx) :
    (aSlot off3 inb hs).view.read (Elt F) (TA P) x = P (ix3 (0 : Fin 1) (x 0) (x 1)) := by
  subst ho
  obtain ⟨-, e1, e2⟩ := slab_emb (D := ![2, 4096, 128]) (a := 4096) (b := 128) (off := ![s, 0, 0]) (inb := inb) squeezes_S1x4096x128_S4096x128.numel_eq x
  exact congrArg P (eq3 rfl (e1.trans (Nat.zero_add _)) (e2.trans (Nat.zero_add _)))

theorem wTile_read (inb hs) (j : ℕ) (hj : j < 64) (ho : off2 = ![0, 128 * j]) (f : S1024x8192.Idx → Elt F .fp8e4m3) (x : S1024x128.Idx) :
    (wTile off2 inb hs).view.read (Elt F) f x = f (ix2 (x 0) (col j (x 1).val)) := by
  subst ho
  refine congrArg f (eq2 ?_ ?_)
  · show 0 + 1 * (x 0).val = (x 0).val; omega
  · have h : (x 1).val < 128 := (x 1).isLt
    show 128 * j + 1 * (x 1).val = (128 * j + (x 1).val) % 8192; omega

theorem oTile_read (inb hs) (j : ℕ) (hj : j < 64) (ho : off2 = ![0, 128 * j]) (G : S4096x8192.Idx → Elt F .f32) (x : S4096x128.Idx) :
    (oTile off2 inb hs).view.read (Elt F) G x = G (ix2 (x 0) (col j (x 1).val)) := by
  subst ho
  refine congrArg G (eq2 ?_ ?_)
  · show 0 + 1 * (x 0).val = (x 0).val; omega
  · have h : (x 1).val < 128 := (x 1).isLt
    show 128 * j + 1 * (x 1).val = (128 * j + (x 1).val) % 8192; omega

theorem GP_tile (P : ℕ → S1x4096x128.Idx → Elt F .f32) (j : ℕ) (hj : j < 64) (x : S4096x128.Idx) :
    GP P (ix2 (x 0) (col j (x 1).val)) = P j (ix3 (0 : Fin 1) (x 0) (x 1)) := by
  have h : (x 1).val < 128 := (x 1).isLt
  have h1 : (128 * j + (x 1).val) % 8192 / 128 = j := by omega
  have h2 : (128 * j + (x 1).val) % 8192 % 128 = (x 1).val := by omega
  show P ((128 * j + (x 1).val) % 8192 / 128) _ = _
  rw [h1]
  exact congrArg (P j) (eq3 rfl rfl h2)

/-! ### The loads -/

theorem load_t (inb) (s : ℕ) (ho : off3 = ![s, 0, 0]) (f : S1024x8192.Idx → Elt F .fp8e4m3) (j : ℕ) :
    (tM.access (Rect.unit (s := S2x1024x128) off3 S1x1024x128.size inb)).read (Elt F) (TW f j) = LW f j := by
  subst ho
  funext x
  refine congrArg f (eq2 ?_ ?_)
  · show 0 + 1 * (x 1).val = (x 1).val; omega
  · show (128 * j + (0 + 1 * (x 2).val)) % 8192 = (128 * j + (x 2).val) % 8192; congr 2; omega

theorem load_b (inb) (s : ℕ) (ho : off3 = ![s, 0, 0]) (G : S4096x8192.Idx → Elt F .f32) (j : ℕ) :
    (bM.access (Rect.unit (s := S2x4096x128) off3 S1x4096x128.size inb)).read (Elt F) (TB G j) = LB G j := by
  subst ho
  funext x
  refine congrArg G (eq2 ?_ ?_)
  · show 0 + 1 * (x 1).val = (x 1).val; omega
  · show (128 * j + (0 + 1 * (x 2).val)) % 8192 = (128 * j + (x 2).val) % 8192; congr 2; omega

theorem load_g (m : (ℓ : Loc nD τ sig) → Buf (Elt F) ℓ) (inb) (d : Dev nD) (ho : off3 = ![d.val, 0, 0]) :
    (gM.access (Rect.unit (s := S4x4096x1024) off3 S1x4096x1024.size inb)).read (Elt F) (XG m) = LX (X m d) := by
  subst ho
  funext x
  have hx : (x 0).val < 1 := (x 0).isLt
  show X m _ _ = X m d _
  refine congr (congrArg (X m) (Fin.ext ?_)) (eq2 ?_ ?_)
  · show d.val + 1 * (x 0).val = d.val; omega
  · show 0 + 1 * (x 1).val = (x 1).val; omega
  · show 0 + 1 * (x 2).val = (x 2).val; omega

theorem load_v (m : (ℓ : Loc nD τ sig) → Buf (Elt F) ℓ) (c : Dev nD) (inb) (s j : ℕ) (hj : j < 64) (ho : off3 = ![s, 0, 128 * j]) :
    (vM.access (Rect.unit (s := S3x1024x8192) off3 S1x1024x128.size inb)).read (Elt F) (WV m c) = LW (Wt m (who c s)) j := by
  subst ho
  funext x
  have hx : (x 0).val < 1 := (x 0).isLt
  have h2 : (x 2).val < 128 := (x 2).isLt
  show Wt m (who c _) _ = Wt m (who c s) _
  refine congr (congrArg (fun n => Wt m (who c n)) ?_) (eq2 ?_ ?_)
  · show s + 1 * (x 0).val = s; omega
  · show 0 + 1 * (x 1).val = (x 1).val; omega
  · show 128 * j + 1 * (x 2).val = (128 * j + (x 2).val) % 8192; omega

/-- A stored tile is the slot's contents. -/
theorem store_a (inb) (s : ℕ) (ho : off3 = ![s, 0, 0]) (f : S2x4096x128.Idx → Elt F .f32) (P : S1x4096x128.Idx → Elt F .f32) :
    ∀ i ∈ bS s, (aM.access (Rect.unit (s := S2x4096x128) off3 S1x4096x128.size inb)).write (Elt F) f P Finset.univ i = TA P i := by
  intro i hi
  rw [← acc_a_set inb s ho] at hi
  refine land_eq (aM.access (Rect.unit (s := S2x4096x128) off3 S1x4096x128.size inb)) f (TA P) P (fun x => ?_) i hi
  subst ho
  refine congrArg P (eq3 ?_ ?_ ?_)
  · have hx : (x 0).val < 1 := (x 0).isLt
    show (x 0).val = 0; omega
  · show (x 1).val = 0 + 1 * (x 1).val; omega
  · show (x 2).val = 0 + 1 * (x 2).val; omega

end Sets

end Cert.RingProof

end
-- ==== Proof.Local.lean ====
/-
Local: one lemma per local transfer of the kernel, and the one wait they share.

A transfer in flight owns both its ends; the wait for it gives them back, the destination holding what the
source held. Stated at the contents the passes need: tile `j` of `w`, tile `j` of the result so far, the
computed tile `j`.
-/
module

public import proofs.«01_k».proof.Proof.Tiles

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ UU ℕ

variable (m : (ℓ : Loc nD τ sig) → Buf (Elt F) ℓ) (c : Dev nD)

/-- The program `p` on device `c`, started with nothing but what the context owns. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Flights -/

omit [FloatOps F] in
/-- What a flight does not touch may travel with it. -/
theorem fly_frame {sm : SemLoc sig} {N : ℕ} {D R : sProp 𝕄} :
    iprop(Flight EC (c : Thread nD τ) sm () N D ∗ R) ⊢ Flight EC (c : Thread nD τ) sm () N iprop(D ∗ R) := by
  unfold Flight
  iintro ⟨⟨⟨%C, HC, %hcap, %hpeek⟩, Hcred⟩, HR⟩
  isplitl [HC HR]
  · iexists iprop(C ∗ R)
    isplitl [HC HR]; · isplitl [HC] <;> iassumption
    isplit
    · ipureintro
      intro K
      refine BIBase.Entails.trans ?_ (hcap K)
      iintro ⟨⟨HC, HR⟩, HK⟩
      isplitl [HC]; · iexact HC
      iintro ⟨Hv, HD⟩
      iapply HK
      isplitl [Hv]; · iexact Hv
      isplitl [HD] <;> iassumption
    · ipureintro
      intro K
      refine BIBase.Entails.trans ?_ (hpeek K)
      iintro ⟨⟨HC, HR⟩, HK⟩
      isplitl [HC]; · iexact HC
      iintro HC
      iapply HK
      isplitl [HC] <;> iassumption
  · iexact Hcred

/-- The obligations of device `c`, whatever it has waited for. -/
def Ow (O : CellTallies nD τ sig Unit) : sProp 𝕄 := iprop(∃ W, owes (c : Thread nD τ) O W)

/-- The flight on semaphore `n` that delivers `D`. -/
abbrev Fly (n N : ℕ) (D : sProp 𝕄) : sProp 𝕄 := Flight EC (c : Thread nD τ) (.dma (qsem n)) () N D
/-- Semaphore `n` at rest. -/
abbrev Rest (n : ℕ) : sProp 𝕄 := semVal ((c : Thread nD τ), SemLoc.dma (qsem n)) 0

theorem fly_wait {sp sp' : Space} {s s' : Shape} {e e' : EltTy} {κ' : Kind} {n N : ℕ} {D : sProp 𝕄} {O : CellTallies nD τ sig Unit} {sm : DmaSem sig}
    {srcw : Memref sig .tc sp' s' e'} {dstw : Memref sig κ' sp s e} {hsrc : srcw.view.WordExact} {hdst : dstw.view.WordExact}
    {α : Type} {k : PUnit → Prog (TpuEff nD τ sig (Elt F) Λ₀ .tc) α} {Q : α → sProp 𝕄}
    (hsm : sm = qsem n) (hN : dstw.view.dmaCredit = N)
    (hO : (levAts L lv : sProp 𝕄) ⊢ MayWait (c : Thread nD τ) (.dma (qsem n)) () O) :
    iprop(levAts L lv ∗ Fly c n N D ∗ Ow c O)
      ⊢ iprop((iprop(D ∗ Rest c n ∗ Ow c O) -∗ WP c (k ⟨⟩) Q) -∗ WP c (.op (.waitDma2 sm srcw dstw hsrc hdst) k) Q) := by
  subst hsm
  unfold Ow
  iintro ⟨#Hlev, Hf, ⟨%W, HO⟩⟩ Hk
  iapply (wp_waitLocalO EC 𝒱₀ (c : Thread nD τ) none () hN (D := D) (O := O) (W := W)) $$ [Hf HO]
  · isplitl [Hf]; · iexact Hf
    isplitl [HO]; · iexact HO
    iapply hO $$ Hlev
  iintro ⟨HD, Hv, HO⟩
  iapply Hk
  isplitl [HD]; · iexact HD
  isplitl [Hv]; · iexact Hv
  iexists (insert (SemLoc.dma (qsem n), ()) W)
  iexact HO

/-! ## Ownership of the staging slots and of the result -/

def tP (S : Finset S2x1024x128.Idx) (f : S2x1024x128.Idx → Elt F .fp8e4m3) : sProp 𝕄 :=
  ((c : Thread nD τ).loc cc0_scratch2) ↦[S]{fullShare} f
def bP (S : Finset S2x4096x128.Idx) (f : S2x4096x128.Idx → Elt F .f32) : sProp 𝕄 :=
  ((c : Thread nD τ).loc cc0_scratch3) ↦[S]{fullShare} f
def aP (S : Finset S2x4096x128.Idx) (f : S2x4096x128.Idx → Elt F .f32) : sProp 𝕄 :=
  ((c : Thread nD τ).loc cc0_scratch4) ↦[S]{fullShare} f
def oP (S : Finset S4096x8192.Idx) (f : S4096x8192.Idx → Elt F .f32) : sProp 𝕄 :=
  ((c : Thread nD τ).loc main_v1) ↦[S]{fullShare} f

section Congr
omit [FloatOps F]
theorem tP_congr {S} {f g : S2x1024x128.Idx → Elt F .fp8e4m3} (h : ∀ i ∈ S, f i = g i) : tP c S f = tP c S g := pointsTo_congr h
theorem bP_congr {S} {f g : S2x4096x128.Idx → Elt F .f32} (h : ∀ i ∈ S, f i = g i) : bP c S f = bP c S g := pointsTo_congr h
theorem aP_congr {S} {f g : S2x4096x128.Idx → Elt F .f32} (h : ∀ i ∈ S, f i = g i) : aP c S f = aP c S g := pointsTo_congr h
theorem oP_congr {S} {f g : S4096x8192.Idx → Elt F .f32} (h : ∀ i ∈ S, f i = g i) : oP c S f = oP c S g := pointsTo_congr h
end Congr

/-- The semaphore number `b` of a pair. -/
abbrev sem2 (A : DmaSems sig S2) (off : Fin 1 → ℕ) (inb : ∀ a, off a + S1.size a ≤ S2.size a) : DmaSem sig :=
  ((A.slice (Rect.unit (s := S2) off S1.size inb)).squeeze S_ squeezes_S1_S_).sem

theorem sem2_eq (A : DmaSems sig S2) (n : ℕ) (h0 : A.ix (ix1 (0 : Fin 2)) = qsem n) (h1 : A.ix (ix1 (1 : Fin 2)) = qsem (n + 1))
    {off : Fin 1 → ℕ} (inb) (b : ℕ) (hb : b < 2) (ho : off = ![b]) : sem2 A off inb = qsem (n + b) := by
  subst ho
  have e : sem2 A ![b] inb = A.ix (ix1 (⟨b, hb⟩ : Fin 2)) := by
    refine congrArg A.ix (funext fun a => ?_)
    obtain rfl : a = 0 := Subsingleton.elim _ _
    refine Fin.ext ?_
    show b + 1 * _ = b
    have : ∀ z : Fin 1, b + 1 * z.val = b := fun z => by omega
    exact this _
  rw [e]
  interval_cases b
  · exact h0
  · exact h1

theorem sem_t {off : Fin 1 → ℕ} (inb) (j : ℕ) (ho : off = ![j % 2]) : sem2 cc0_scratch7 off inb = qsem (28 + j % 2) :=
  sem2_eq cc0_scratch7 28 (by decide) (by decide) inb _ (Nat.mod_lt _ (by decide)) ho
theorem sem_b {off : Fin 1 → ℕ} (inb) (j : ℕ) (ho : off = ![j % 2]) : sem2 cc0_scratch8 off inb = qsem (30 + j % 2) :=
  sem2_eq cc0_scratch8 30 (by decide) (by decide) inb _ (Nat.mod_lt _ (by decide)) ho
theorem sem_a {off : Fin 1 → ℕ} (inb) (j : ℕ) (ho : off = ![j % 2]) : sem2 cc0_scratch9 off inb = qsem (32 + j % 2) :=
  sem2_eq cc0_scratch9 32 (by decide) (by decide) inb _ (Nat.mod_lt _ (by decide)) ho

/-! ## The credits -/

def NC : ℕ := gM.view.ref.dmaCredit S4096x1024 .fp8e4m3
def NT : ℕ := tM.view.ref.dmaCredit S1024x128 .fp8e4m3
def NB : ℕ := bM.view.ref.dmaCredit S4096x128 .f32
def NO : ℕ := oM.view.ref.dmaCredit S4096x128 .f32
theorem NC_pos : 0 < NC := by decide
theorem NT_pos : 0 < NT := by decide
theorem NB_pos : 0 < NB := by decide
theorem NO_pos : 0 < NO := by decide

/-! ## Tile `j` of `w`, fetched ahead -/

/-- The share of `w` lent to the fetch of tile `j`. -/
def qw (j : ℕ) : PosShare TreeShare := if j % 2 = 0 then qk.left else qk.right

def TFree (j : ℕ) : sProp 𝕄 := iprop((∃ f, tP (F := F) c (tS (j % 2)) f) ∗ Rest c (28 + j % 2) ∗ wP c (qw j) Finset.univ (Wt m c))
def TFly (j : ℕ) : sProp 𝕄 :=
  Fly c (28 + j % 2) NT iprop(tP (F := F) c (tS (j % 2)) (TW (Wt m c) j) ∗ wP c (qw j) Finset.univ (Wt m c))

theorem credit_t {off3 : Fin 3 → ℕ} (inb3 hs3) : (tSlot off3 inb3 hs3).view.dmaCredit = NT := rfl

theorem t_land {j : ℕ} (hj : j < 64) {off2 : Fin 2 → ℕ} {inb2 hs2} {off3 : Fin 3 → ℕ} {inb3 hs3}
    (h2 : off2 = ![0, 128 * j]) (h3 : off3 = ![j % 2, 0, 0]) (f : S2x1024x128.Idx → Elt F .fp8e4m3) (g : S1024x8192.Idx → Elt F .fp8e4m3) :
    ∀ i ∈ tS (j % 2), (tSlot off3 inb3 hs3).view.write (Elt F) f ((wTile off2 inb2 hs2).view.read (Elt F) g) Finset.univ i = TW g j i := by
  rw [← tSlot_set inb3 hs3 _ h3]
  exact land_eq (tSlot off3 inb3 hs3).view f (TW g j) _ fun x =>
    (wTile_read inb2 hs2 j hj h2 g x).trans (tSlot_read inb3 hs3 _ h3 g j x).symm

theorem t_fetch {α : Type} {k : PUnit → Prog (TpuEff nD τ sig (Elt F) Λ₀ .tc) α} {Q : α → sProp 𝕄} {j : ℕ} (hj : j < 64)
    {off1 : Fin 1 → ℕ} {inb1} {off2 : Fin 2 → ℕ} {inb2 hs2} {off3 : Fin 3 → ℕ} {inb3 hs3}
    (h1 : off1 = ![j % 2]) (h2 : off2 = ![0, 128 * j]) (h3 : off3 = ![j % 2, 0, 0])
    {hsrc : (wTile off2 inb2 hs2).view.WordExact} {hdst : (tSlot off3 inb3 hs3).view.WordExact}
    {ht : DmaTarget.Typed (nD := nD) (τ := τ) (p := .tc) .hbm (.dma (sem2 cc0_scratch7 off1 inb1)) (.here (tSlot off3 inb3 hs3))} :
    TFree m c j ⊢ iprop((TFly m c j -∗ WP c (k ⟨⟩) Q)
      -∗ WP c (.op (.enqueueDmaAs (wTile off2 inb2 hs2) (.here (tSlot off3 inb3 hs3)) .same (.dma (sem2 cc0_scratch7 off1 inb1)) hsrc hdst ht) k) Q) := by
  revert ht
  rw [sem_t inb1 j h1]
  intro ht
  unfold TFree TFly
  iintro ⟨⟨%f, Ht⟩, Hv, Hw⟩ Hk
  unfold tP wP
  ihave Hw := (pointsTo_split_subset (Finset.subset_univ (cS j))).mp $$ Hw
  icases Hw with ⟨Hw, Hw'⟩
  iapply (wp_dmaLocal EC 𝒱₀ (c : Thread nD τ) none (src := wTile off2 inb2 hs2) (dst := tSlot off3 inb3 hs3) (via := .same) (sm := .dma (qsem (28 + j % 2)))
    (fs := Wt m c) (fd := f) (q := qw j) (Sd := tS (j % 2)) () NT ((View.amount_dma _ _).trans (credit_t inb3 hs3)) NT_pos (tSlot_set inb3 hs3 _ h3).subset) $$ [Ht Hv Hw]
  · isplitl [Hw]; · rw [wTile_set inb2 hs2 j h2]; iexact Hw
    isplitl [Ht]; · iexact Ht
    iexact Hv
  iintro Hf
  iapply Hk
  ihave Hf := fly_frame c $$ [Hf Hw']
  · isplitl [Hf]; · iexact Hf
    iexact Hw'
  iapply (Flight_mono EC (c : Thread nD τ) ?_) $$ Hf
  iintro ⟨⟨Ht, Hw⟩, Hw'⟩
  isplitl [Ht]
  · have e := tP_congr (F := F) c (S := tS (j % 2)) (f := (tSlot off3 inb3 hs3).view.write (Elt F) f ((wTile off2 inb2 hs2).view.read (Elt F) (Wt m c)) Finset.univ)
      (g := TW (Wt m c) j) (t_land hj h2 h3 f (Wt m c))
    unfold tP at e
    rw [← e]
    iexact Ht
  · iapply (pointsTo_split_subset (Finset.subset_univ (cS j))).mpr
    isplitl [Hw]
    · rw [← wTile_set inb2 hs2 j h2]; iexact Hw
    · iexact Hw'

/-! ## Tile `j` of the result so far, fetched ahead -/

def BFree (j : ℕ) : sProp 𝕄 := iprop((∃ f, bP (F := F) c (bS (j % 2)) f) ∗ Rest c (30 + j % 2))
def BFly (G : S4096x8192.Idx → Elt F .f32) (j : ℕ) : sProp 𝕄 :=
  Fly c (30 + j % 2) NB iprop(bP (F := F) c (bS (j % 2)) (TB G j) ∗ oP c (oT j) G)

theorem credit_b {off3 : Fin 3 → ℕ} (inb3 hs3) : (bSlot off3 inb3 hs3).view.dmaCredit = NB := rfl

theorem b_land {j : ℕ} (hj : j < 64) {off2 : Fin 2 → ℕ} {inb2 hs2} {off3 : Fin 3 → ℕ} {inb3 hs3}
    (h2 : off2 = ![0, 128 * j]) (h3 : off3 = ![j % 2, 0, 0]) (f : S2x4096x128.Idx → Elt F .f32) (g : S4096x8192.Idx → Elt F .f32) :
    ∀ i ∈ bS (j % 2), (bSlot off3 inb3 hs3).view.write (Elt F) f ((oTile off2 inb2 hs2).view.read (Elt F) g) Finset.univ i = TB g j i := by
  rw [← bSlot_set inb3 hs3 _ h3]
  exact land_eq (bSlot off3 inb3 hs3).view f (TB g j) _ fun x =>
    (oTile_read inb2 hs2 j hj h2 g x).trans (bSlot_read inb3 hs3 _ h3 g j x).symm

theorem b_fetch (G : S4096x8192.Idx → Elt F .f32) {α : Type} {k : PUnit → Prog (TpuEff nD τ sig (Elt F) Λ₀ .tc) α} {Q : α → sProp 𝕄} {j : ℕ} (hj : j < 64)
    {off1 : Fin 1 → ℕ} {inb1} {off2 : Fin 2 → ℕ} {inb2 hs2} {off3 : Fin 3 → ℕ} {inb3 hs3}
    (h1 : off1 = ![j % 2]) (h2 : off2 = ![0, 128 * j]) (h3 : off3 = ![j % 2, 0, 0])
    {hsrc : (oTile off2 inb2 hs2).view.WordExact} {hdst : (bSlot off3 inb3 hs3).view.WordExact}
    {ht : DmaTarget.Typed (nD := nD) (τ := τ) (p := .tc) .hbm (.dma (sem2 cc0_scratch8 off1 inb1)) (.here (bSlot off3 inb3 hs3))} :
    iprop(BFree (F := F) c j ∗ oP c (oT j) G) ⊢ iprop((BFly c G j -∗ WP c (k ⟨⟩) Q)
      -∗ WP c (.op (.enqueueDmaAs (oTile off2 inb2 hs2) (.here (bSlot off3 inb3 hs3)) .same (.dma (sem2 cc0_scratch8 off1 inb1)) hsrc hdst ht) k) Q) := by
  revert ht
  rw [sem_b inb1 j h1]
  intro ht
  unfold BFree BFly
  iintro ⟨⟨⟨%f, Hb⟩, Hv⟩, Ho⟩ Hk
  unfold bP oP
  iapply (wp_dmaLocal EC 𝒱₀ (c : Thread nD τ) none (src := oTile off2 inb2 hs2) (dst := bSlot off3 inb3 hs3) (via := .same) (sm := .dma (qsem (30 + j % 2)))
    (fs := G) (fd := f) (q := fullShare) (Sd := bS (j % 2)) () NB ((View.amount_dma _ _).trans (credit_b inb3 hs3)) NB_pos (bSlot_set inb3 hs3 _ h3).subset) $$ [Hb Hv Ho]
  · isplitl [Ho]; · rw [oTile_set inb2 hs2 j h2]; iexact Ho
    isplitl [Hb]; · iexact Hb
    iexact Hv
  iintro Hf
  iapply Hk
  iapply (Flight_mono EC (c : Thread nD τ) ?_) $$ Hf
  iintro ⟨Hb, Ho⟩
  isplitl [Hb]
  · have e := bP_congr (F := F) c (S := bS (j % 2)) (f := (bSlot off3 inb3 hs3).view.write (Elt F) f ((oTile off2 inb2 hs2).view.read (Elt F) G) Finset.univ)
      (g := TB G j) (b_land hj h2 h3 f G)
    unfold bP at e
    rw [← e]
    iexact Hb
  · rw [← oTile_set inb2 hs2 j h2]; iexact Ho

/-! ## The computed tile `j`, on its way out -/

def AFree (j : ℕ) : sProp 𝕄 := iprop((∃ f, aP (F := F) c (bS (j % 2)) f) ∗ Rest c (32 + j % 2))
def AFly (G : S4096x8192.Idx → Elt F .f32) (j : ℕ) : sProp 𝕄 :=
  Fly c (32 + j % 2) NO iprop((∃ f, aP (F := F) c (bS (j % 2)) f) ∗ oP c (oT j) G)

theorem credit_o' {off2 : Fin 2 → ℕ} (inb2 hs2) :
    (oTile off2 inb2 hs2).view.ref.dmaCredit S4096x128 .f32 = oM.view.ref.dmaCredit S4096x128 .f32 := rfl
theorem credit_o'' {off2 : Fin 2 → ℕ} (inb2 hs2) :
    (oTile off2 inb2 hs2).view.dmaCredit = (oTile off2 inb2 hs2).view.ref.dmaCredit S4096x128 .f32 := rfl
theorem NO_eq : oM.view.ref.dmaCredit S4096x128 .f32 = NO := rfl
theorem credit_o {off2 : Fin 2 → ℕ} (inb2 hs2) : (oTile off2 inb2 hs2).view.dmaCredit = NO :=
  (credit_o'' inb2 hs2).trans ((credit_o' inb2 hs2).trans NO_eq)

theorem a_land {j : ℕ} (hj : j < 64) {off2 : Fin 2 → ℕ} {inb2 hs2} {off3 : Fin 3 → ℕ} {inb3 hs3}
    (h2 : off2 = ![0, 128 * j]) (h3 : off3 = ![j % 2, 0, 0]) (f : S4096x8192.Idx → Elt F .f32) (P : ℕ → S1x4096x128.Idx → Elt F .f32) :
    ∀ i ∈ oT j, (oTile off2 inb2 hs2).view.write (Elt F) f ((aSlot off3 inb3 hs3).view.read (Elt F) (TA (P j))) Finset.univ i = GP P i := by
  rw [← oTile_set inb2 hs2 _ h2]
  exact land_eq (oTile off2 inb2 hs2).view f (GP P) _ fun x =>
    ((aSlot_read inb3 hs3 _ h3 (P j) x).trans (GP_tile P j hj x).symm).trans (oTile_read inb2 hs2 j hj h2 (GP P) x).symm

theorem a_send (P : ℕ → S1x4096x128.Idx → Elt F .f32) {α : Type} {k : PUnit → Prog (TpuEff nD τ sig (Elt F) Λ₀ .tc) α} {Q : α → sProp 𝕄} {j : ℕ} (hj : j < 64)
    {off1 : Fin 1 → ℕ} {inb1} {off2 : Fin 2 → ℕ} {inb2 hs2} {off3 : Fin 3 → ℕ} {inb3 hs3}
    (h1 : off1 = ![j % 2]) (h2 : off2 = ![0, 128 * j]) (h3 : off3 = ![j % 2, 0, 0]) (f : S4096x8192.Idx → Elt F .f32)
    {hsrc : (aSlot off3 inb3 hs3).view.WordExact} {hdst : (oTile off2 inb2 hs2).view.WordExact}
    {ht : DmaTarget.Typed (nD := nD) (τ := τ) (p := .tc) .vmem (.dma (sem2 cc0_scratch9 off1 inb1)) (.here (oTile off2 inb2 hs2))} :
    iprop(aP c (bS (j % 2)) (TA (P j)) ∗ Rest c (32 + j % 2) ∗ oP c (oT j) f) ⊢ iprop((AFly c (GP P) j -∗ WP c (k ⟨⟩) Q)
      -∗ WP c (.op (.enqueueDmaAs (aSlot off3 inb3 hs3) (.here (oTile off2 inb2 hs2)) .same (.dma (sem2 cc0_scratch9 off1 inb1)) hsrc hdst ht) k) Q) := by
  revert ht
  rw [sem_a inb1 j h1]
  intro ht
  unfold AFly
  iintro ⟨Ha, Hv, Ho⟩ Hk
  unfold aP oP
  iapply (wp_dmaLocal EC 𝒱₀ (c : Thread nD τ) none (src := aSlot off3 inb3 hs3) (dst := oTile off2 inb2 hs2) (via := .same) (sm := .dma (qsem (32 + j % 2)))
    (fs := TA (P j)) (fd := f) (q := fullShare) (Sd := oT j) () NO ((View.amount_dma _ _).trans (credit_o inb2 hs2)) NO_pos (oTile_set inb2 hs2 _ h2).subset) $$ [Ha Hv Ho]
  · isplitl [Ha]; · rw [aSlot_set inb3 hs3 _ h3]; iexact Ha
    isplitl [Ho]; · iexact Ho
    iexact Hv
  iintro Hf
  iapply Hk
  iapply (Flight_mono EC (c : Thread nD τ) ?_) $$ Hf
  iintro ⟨Ho, Ha⟩
  isplitl [Ha]
  · iexists TA (P j); rw [← aSlot_set inb3 hs3 _ h3]; iexact Ha
  · have e := oP_congr (F := F) c (S := oT j) (f := (oTile off2 inb2 hs2).view.write (Elt F) f ((aSlot off3 inb3 hs3).view.read (Elt F) (TA (P j))) Finset.univ)
      (g := GP P) (a_land hj h2 h3 f P)
    unfold oP at e
    rw [← e]
    iexact Ho

/-- The store of the computed tile. -/
theorem a_store (P : S1x4096x128.Idx → Elt F .f32) {α : Type} {k : PUnit → Prog (TpuEff nD τ sig (Elt F) Λ₀ .tc) α} {Q : α → sProp 𝕄} {j : ℕ}
    {off3 : Fin 3 → ℕ} {inb3} (h3 : off3 = ![j % 2, 0, 0]) (f : S2x4096x128.Idx → Elt F .f32)
    {hx : (aM.access (Rect.unit (s := S2x4096x128) off3 S1x4096x128.size inb3)).Stores Finset.univ} {hm} :
    aP c (bS (j % 2)) f ⊢ iprop((aP c (bS (j % 2)) (TA P) -∗ WP c (k ⟨⟩) Q)
      -∗ WP c (.op (.store aM (Rect.unit (s := S2x4096x128) off3 S1x4096x128.size inb3) P Finset.univ hx hm) k) Q) := by
  iintro Ha Hk
  unfold aP
  iapply (wp_store 𝒱₀ (c : Thread nD τ) none Set.univ (m := aM) (r := Rect.unit (s := S2x4096x128) off3 S1x4096x128.size inb3) (S := bS (j % 2)) (f := f)
    (Mk := Finset.univ) (acc_a_set inb3 _ h3).subset) $$ [Ha]
  · iexact Ha
  iintro Ha
  iapply Hk
  have e := aP_congr (F := F) c (S := bS (j % 2)) (f := (aM.access (Rect.unit (s := S2x4096x128) off3 S1x4096x128.size inb3)).write (Elt F) f P Finset.univ)
    (g := TA P) (store_a inb3 _ h3 f P)
  unfold aP at e
  rw [← e]
  iexact Ha

end Cert.RingProof

end
-- ==== Proof.Passes.lean ====
/-
Passes: the three loops over the column tiles.
-/
module

public import proofs.«01_k».proof.Proof.Local

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ UU ℕ

variable (m : (ℓ : Loc nD τ sig) → Buf (Elt F) ℓ) (c : Dev nD)

/-! ## The generated words in closed form -/

/-- The share of a landed slab that the loads hold while the rest may be lent to a copy. -/
abbrev qr : PosShare TreeShare := fullShare.right

theorem trips1 : k0_t1_loop.trips = 64 := by decide +kernel
theorem trips2 : k0_t2_loop.trips = 64 := by decide +kernel
theorem trips3 : k0_t3_loop.trips = 64 := by decide +kernel
theorem cond1_iff : ∀ k : Fin k0_t1_loop.trips, k0_cond1 k = 1#1 ↔ k.val + 1 < 64 := by decide +kernel
theorem cond2_iff : ∀ k : Fin k0_t1_loop.trips, k0_cond2 k = 1#1 ↔ 2 ≤ k.val := by decide +kernel
theorem cond3_iff : ∀ k : Fin k0_t2_loop.trips, k0_cond3 k = 1#1 ↔ k.val + 1 < 64 := by decide +kernel
theorem cond4_iff : ∀ k : Fin k0_t2_loop.trips, k0_cond4 k = 1#1 ↔ 2 ≤ k.val := by decide +kernel
theorem cond5_iff : ∀ k : Fin k0_t3_loop.trips, k0_cond5 k = 1#1 ↔ k.val + 1 < 64 := by decide +kernel
theorem cond6_iff : ∀ k : Fin k0_t3_loop.trips, k0_cond6 k = 1#1 ↔ 2 ≤ k.val := by decide +kernel
theorem off20_eq : ∀ d : Dev nD, k0_off20 d = ![(rt d).val, 0, 0] := by decide +kernel
theorem off21_eq : ∀ d : Dev nD, k0_off21 d = ![(lt d).val, 2048, 0] := by decide +kernel
theorem off26_eq : ∀ d : Dev nD, k0_off26 d = ![(lt d).val, 0, 0] := by decide +kernel
theorem off28_eq : ∀ d : Dev nD, k0_off28 d = ![(rt d).val, 0, 0] := by decide +kernel
theorem off40_eq : ∀ d : Dev nD, k0_off40 d = ![(dg d).val, 0, 0] := by decide +kernel

/-! ## The bodies of the loops, on this kernel's buffers -/

section Bodies
variable (arg2 : Memref sig .tc .smem S1 .f32) (harg2 : arg2.IsWhole) (arg3 : Memref sig .tc .smem S1 .f32) (harg3 : arg3.IsWhole)

abbrev B1 (d0 : Dev nD) (v2 : BitVec 32) :=
  k0_t1_body (F := F) xM (Memref.isWhole_whole _) wM (Memref.isWhole_whole _) arg2 harg2 arg3 harg3 oM (Memref.isWhole_whole _)
    gM (Memref.isWhole_whole _) vM (Memref.isWhole_whole _) tM (Memref.isWhole_whole _) bM (Memref.isWhole_whole _) aM (Memref.isWhole_whole _)
    cc0_scratch5 cc0_scratch6 cc0_scratch7 cc0_scratch8 cc0_scratch9 d0 v2
abbrev B2 (d0 : Dev nD) (v13 v24 : BitVec 32) :=
  k0_t2_body (F := F) xM (Memref.isWhole_whole _) wM (Memref.isWhole_whole _) arg2 harg2 arg3 harg3 oM (Memref.isWhole_whole _)
    gM (Memref.isWhole_whole _) vM (Memref.isWhole_whole _) tM (Memref.isWhole_whole _) bM (Memref.isWhole_whole _) aM (Memref.isWhole_whole _)
    cc0_scratch5 cc0_scratch6 cc0_scratch7 cc0_scratch8 cc0_scratch9 d0 v13 v24
abbrev B3 (d0 : Dev nD) (v35 : BitVec 32) (v119 : F .f32) :=
  k0_t3_body (F := F) xM (Memref.isWhole_whole _) wM (Memref.isWhole_whole _) arg2 harg2 arg3 harg3 oM (Memref.isWhole_whole _)
    gM (Memref.isWhole_whole _) vM (Memref.isWhole_whole _) tM (Memref.isWhole_whole _) bM (Memref.isWhole_whole _) aM (Memref.isWhole_whole _)
    cc0_scratch5 cc0_scratch6 cc0_scratch7 cc0_scratch8 cc0_scratch9 d0 v35 v119
end Bodies

/-! ## What each pass computes -/

def P1 (j : ℕ) : S1x4096x128.Idx → Elt F .f32 := k0_pay4 (LX (X m c)) (LW (Wt m c) j)
abbrev G1 : S4096x8192.Idx → Elt F .f32 := GP (P1 m c)
def P2 (j : ℕ) : S1x4096x128.Idx → Elt F .f32 :=
  k0_pay5 (k0_pay1 (LX (X m (lt c))) (LW (Wt m (lt c)) j) (LX (X m (rt c))) (LW (Wt m (rt c)) j) (LB (G1 m c) j))
abbrev G2 : S4096x8192.Idx → Elt F .f32 := GP (P2 m c)
def P3 (s : F .f32) (j : ℕ) : S1x4096x128.Idx → Elt F .f32 :=
  k0_pay2 s (LX (X m (dg c))) (LW (Wt m (dg c)) j) (LB (G2 m c) j)
abbrev G3 (s : F .f32) : S4096x8192.Idx → Elt F .f32 := GP (P3 m c s)

/-! ## The staging slots between trips -/

/-- The slot of tile `j` of `w` before trip `j`. -/
def TN (j : ℕ) : sProp 𝕄 := if j < 64 then TFly m c j else TFree m c j
/-- The slot of tile `j` on its way out before trip `j`: tile `j - 2` may be in flight there. -/
def AN (G : S4096x8192.Idx → Elt F .f32) (j : ℕ) : sProp 𝕄 := if 2 ≤ j then AFly (F := F) c G (j - 2) else AFree c j
/-- The slot of tile `j` of the result so far, before trip `j`. -/
def BN (G : S4096x8192.Idx → Elt F .f32) (j : ℕ) : sProp 𝕄 := if j < 64 then BFly (F := F) c G j else BFree c j

theorem TFree_two (j : ℕ) : TFree m c (j + 2) = TFree m c j := by
  unfold TFree qw; rw [Nat.add_mod_right]
theorem BFree_two (j : ℕ) : BFree (F := F) c (j + 2) = BFree c j := by
  unfold BFree; rw [Nat.add_mod_right]
theorem AFree_two (j : ℕ) : AFree (F := F) c (j + 2) = AFree c j := by
  unfold AFree; rw [Nat.add_mod_right]

theorem TFree_in (j : ℕ) : TFree m c j ⊢ TFree m c (j + 1 + 1) := by rw [← TFree_two]
theorem BFree_in (j : ℕ) : BFree (F := F) c j ⊢ BFree c (j + 1 + 1) := by rw [← BFree_two]
theorem AN_in {G : S4096x8192.Idx → Elt F .f32} (j : ℕ) : AFly (F := F) c G j ⊢ AN c G (j + 1 + 1) := by
  rw [AN, if_pos (by omega)]; exact BIBase.Entails.rfl
theorem oLo_in (G : S4096x8192.Idx → Elt F .f32) (k : ℕ) : oP (F := F) c (oLo (k - 1)) G ⊢ oP c (oLo (k + 1 - 2)) G := by
  rw [show k + 1 - 2 = k - 1 by omega]

section Join
omit [FloatOps F]
variable (f g : S4096x8192.Idx → Elt F .f32)
theorem o_take (k : ℕ) : oP (F := F) c (oHi k) f ⊢ iprop(oP c (oT k) f ∗ oP c (oHi (k + 1)) f) := by
  rw [oHi_step k]; exact (pointsTo_union (oHi_disj k)).mp
theorem o_put (k : ℕ) : iprop(oP (F := F) c (oLo k) f ∗ oP c (oT k) f) ⊢ oP c (oLo (k + 1)) f := by
  rw [oLo_step k]; exact (pointsTo_union (oLo_disj k)).mpr
end Join

/-! ## A conditional operation -/

/-- An operation under a condition: it takes `P` to `R`, and `P` is already `R` where it does not run. -/
theorem if_op {α β : Type} {C : Prop} [Decidable C] {e : C → TpuEff nD τ sig (Elt F) Λ₀ .tc β} {rest : Prog (TpuEff nD τ sig (Elt F) Λ₀ .tc) α}
    {P R : sProp 𝕄} {Q : α → sProp 𝕄}
    (hpos : ∀ h : C, P ⊢ iprop((R -∗ WP c rest Q) -∗ WP c (.op (e h) fun _ => rest) Q)) (hneg : ¬C → P ⊢ R) :
    P ⊢ iprop((R -∗ WP c rest Q) -∗ WP c (if h : C then .op (e h) fun _ => rest else rest) Q) := by
  by_cases h : C
  · rw [dif_pos h]; exact hpos h
  · rw [dif_neg h]
    iintro HP HR
    iapply HR
    iapply hneg h $$ HP

/-- A finished program. -/
theorem ret_at {α : Type} {a : α} {Q : α → sProp 𝕄} : Q a ⊢ WP c (.ret a) Q := by
  unfold WP
  rw [wp_ret]
  iintro H
  imodintro
  iexact H

/-! ## Loads whose value is known -/

section Loads
variable {α : Type} (q : PosShare TreeShare) {off3 : Fin 3 → ℕ}

theorem g_load {Q : α → sProp 𝕄} {k : (S1x4096x1024.Idx → Elt F .fp8e4m3) → Prog (TpuEff nD τ sig (Elt F) Λ₀ .tc) α} {inb3} (d : Dev nD) (h3 : off3 = ![d.val, 0, 0])
    {hl : gM.view.LoadsAt (Rect.unit (s := S4x4096x1024) off3 S1x4096x1024.size inb3).toLoadRect} :
    gP c q (gS d.val 0 4096) (XG m) ⊢ iprop((gP c q (gS d.val 0 4096) (XG m) -∗ WP c (k (LX (X m d))) Q)
      -∗ WP c (.op (.load gM (Rect.unit (s := S4x4096x1024) off3 S1x4096x1024.size inb3).toLoadRect hl) k) Q) := by
  have h := wp_load_rect (defs := defs₀ (F := F)) (Γ := []) (Val := Elt F) (Q := Q) (k := k) (f := XG m) (q := q) 𝒱₀ (c : Thread nD τ) none Set.univ (m := gM) (r := (Rect.unit (s := S4x4096x1024) off3 S1x4096x1024.size inb3)) (hl := hl) (acc_g_set inb3 d.val h3)
  rw [load_g m inb3 d h3] at h
  exact h

theorem v_load {Q : α → sProp 𝕄} {k : (S1x1024x128.Idx → Elt F .fp8e4m3) → Prog (TpuEff nD τ sig (Elt F) Λ₀ .tc) α} {inb3} (s j : ℕ) (hj : j < 64) (h3 : off3 = ![s, 0, 128 * j])
    {hl : vM.view.LoadsAt (Rect.unit (s := S3x1024x8192) off3 S1x1024x128.size inb3).toLoadRect} :
    vP c q (vS s 0 1024) (WV m c) ⊢ iprop((vP c q (vS s 0 1024) (WV m c) -∗ WP c (k (LW (Wt m (who c s)) j)) Q)
      -∗ WP c (.op (.load vM (Rect.unit (s := S3x1024x8192) off3 S1x1024x128.size inb3).toLoadRect hl) k) Q) := by
  have h := wp_load_rect (defs := defs₀ (F := F)) (Γ := []) (Val := Elt F) (Q := Q) (k := k) (f := WV m c) (q := q) 𝒱₀ (c : Thread nD τ) none Set.univ (m := vM) (r := (Rect.unit (s := S3x1024x8192) off3 S1x1024x128.size inb3)) (hl := hl) (acc_v_set inb3 s j h3)
  rw [load_v m c inb3 s j hj h3] at h
  exact h

theorem t_load {Q : α → sProp 𝕄} {k : (S1x1024x128.Idx → Elt F .fp8e4m3) → Prog (TpuEff nD τ sig (Elt F) Λ₀ .tc) α} {inb3} (f : S1024x8192.Idx → Elt F .fp8e4m3) (s j : ℕ) (h3 : off3 = ![s, 0, 0])
    {hl : tM.view.LoadsAt (Rect.unit (s := S2x1024x128) off3 S1x1024x128.size inb3).toLoadRect} :
    tP c (tS s) (TW f j) ⊢ iprop((tP c (tS s) (TW f j) -∗ WP c (k (LW f j)) Q)
      -∗ WP c (.op (.load tM (Rect.unit (s := S2x1024x128) off3 S1x1024x128.size inb3).toLoadRect hl) k) Q) := by
  have h := wp_load_rect (defs := defs₀ (F := F)) (Γ := []) (Val := Elt F) (Q := Q) (k := k) (f := TW f j) (q := fullShare) 𝒱₀ (c : Thread nD τ) none Set.univ (m := tM) (r := (Rect.unit (s := S2x1024x128) off3 S1x1024x128.size inb3)) (hl := hl) (acc_t_set inb3 s h3).subset
  rw [load_t inb3 s h3] at h
  exact h

theorem b_load {Q : α → sProp 𝕄} {k : (S1x4096x128.Idx → Elt F .f32) → Prog (TpuEff nD τ sig (Elt F) Λ₀ .tc) α} {inb3} (G : S4096x8192.Idx → Elt F .f32) (s j : ℕ) (h3 : off3 = ![s, 0, 0])
    {hl : bM.view.LoadsAt (Rect.unit (s := S2x4096x128) off3 S1x4096x128.size inb3).toLoadRect} :
    bP c (bS s) (TB G j) ⊢ iprop((bP c (bS s) (TB G j) -∗ WP c (k (LB G j)) Q)
      -∗ WP c (.op (.load bM (Rect.unit (s := S2x4096x128) off3 S1x4096x128.size inb3).toLoadRect hl) k) Q) := by
  have h := wp_load_rect (defs := defs₀ (F := F)) (Γ := []) (Val := Elt F) (Q := Q) (k := k) (f := TB G j) (q := fullShare) 𝒱₀ (c : Thread nD τ) none Set.univ (m := bM) (r := (Rect.unit (s := S2x4096x128) off3 S1x4096x128.size inb3)) (hl := hl) (acc_b_set inb3 s h3).subset
  rw [load_b inb3 s h3] at h
  exact h

end Loads

section Next
variable {α : Type} {rest : Prog (TpuEff nD τ sig (Elt F) Λ₀ .tc) α} {j : ℕ} (hj : j < 64)
include hj

theorem t_next {Q : α → sProp 𝕄}
    {off1 : Fin 1 → ℕ} {inb1} {off2 : Fin 2 → ℕ} {inb2 hs2} {off3 : Fin 3 → ℕ} {inb3 hs3}
    (h1 : off1 = ![j % 2]) (h2 : off2 = ![0, 128 * j]) (h3 : off3 = ![j % 2, 0, 0])
    {hsrc : (wTile off2 inb2 hs2).view.WordExact} {hdst : (tSlot off3 inb3 hs3).view.WordExact}
    {ht : DmaTarget.Typed (nD := nD) (τ := τ) (p := .tc) .hbm (.dma (sem2 cc0_scratch7 off1 inb1)) (.here (tSlot off3 inb3 hs3))} :
    TFree m c j ⊢ iprop((TN m c j -∗ WP c rest Q)
      -∗ WP c (.op (.enqueueDmaAs (wTile off2 inb2 hs2) (.here (tSlot off3 inb3 hs3)) .same (.dma (sem2 cc0_scratch7 off1 inb1)) hsrc hdst ht) fun _ => rest) Q) := by
  rw [TN, if_pos hj]
  exact t_fetch (k := fun _ => rest) (Q := Q) m c hj h1 h2 h3

theorem b_next {Q : α → sProp 𝕄} (G : S4096x8192.Idx → Elt F .f32)
    {off1 : Fin 1 → ℕ} {inb1} {off2 : Fin 2 → ℕ} {inb2 hs2} {off3 : Fin 3 → ℕ} {inb3 hs3}
    (h1 : off1 = ![j % 2]) (h2 : off2 = ![0, 128 * j]) (h3 : off3 = ![j % 2, 0, 0])
    {hsrc : (oTile off2 inb2 hs2).view.WordExact} {hdst : (bSlot off3 inb3 hs3).view.WordExact}
    {ht : DmaTarget.Typed (nD := nD) (τ := τ) (p := .tc) .hbm (.dma (sem2 cc0_scratch8 off1 inb1)) (.here (bSlot off3 inb3 hs3))} :
    iprop(BFree (F := F) c j ∗ oP c (oHi j) G) ⊢ iprop((iprop(BN c G j ∗ oP c (oHi (j + 1)) G) -∗ WP c rest Q)
      -∗ WP c (.op (.enqueueDmaAs (oTile off2 inb2 hs2) (.here (bSlot off3 inb3 hs3)) .same (.dma (sem2 cc0_scratch8 off1 inb1)) hsrc hdst ht) fun _ => rest) Q) := by
  rw [BN, if_pos hj]
  iintro ⟨Hb, Ho⟩ Hk
  ihave H := o_take c G j $$ Ho
  icases H with ⟨Ho, Ho'⟩
  iapply (b_fetch c G hj h1 h2 h3) $$ [Hb Ho]
  · isplitl [Hb] <;> iassumption
  iintro Hb
  iapply Hk
  isplitl [Hb] <;> iassumption

end Next

theorem a_wait {G : S4096x8192.Idx → Elt F .f32} {O : CellTallies nD τ sig Unit}
    (hO : ∀ n, 28 ≤ n → n < 34 → (levAts L lv : sProp 𝕄) ⊢ MayWait (c : Thread nD τ) (.dma (qsem n)) () O)
    {α : Type} {rest : Prog (TpuEff nD τ sig (Elt F) Λ₀ .tc) α} {Q : α → sProp 𝕄} {j : ℕ}
    {off1 : Fin 1 → ℕ} {inb1} {off2 : Fin 2 → ℕ} {inb2 hs2} {off3 : Fin 3 → ℕ} {inb3 hs3} (h1 : off1 = ![j % 2])
    {hsrc : (aSlot off3 inb3 hs3).view.WordExact} {hdst : (oTile off2 inb2 hs2).view.WordExact} (h : 2 ≤ j) :
    iprop(levAts L lv ∗ AN (F := F) c G j ∗ Ow c O ∗ oP c (oLo (j - 2)) G)
      ⊢ iprop((iprop(AFree (F := F) c j ∗ Ow c O ∗ oP c (oLo (j - 1)) G) -∗ WP c rest Q)
        -∗ WP c (.op (.waitDma2 (sem2 cc0_scratch9 off1 inb1) (aSlot off3 inb3 hs3) (oTile off2 inb2 hs2) hsrc hdst) fun _ => rest) Q) := by
  unfold AN
  rw [if_pos h]
  obtain ⟨i, rfl⟩ : ∃ i, j = i + 2 := ⟨j - 2, by omega⟩
  rw [AFree_two, show i + 2 - 2 = i by omega, show i + 2 - 1 = i + 1 by omega]
  unfold AFly AFree
  iintro ⟨#Hlev, Ha, HO, Ho⟩ Hk
  iapply (fly_wait c (n := 32 + i % 2) ((sem_a inb1 (i + 2) h1).trans (by rw [Nat.add_mod_right])) (credit_o inb2 hs2) (hO _ (by omega) (by omega))) $$ [Ha HO]
  · isplitr; · iexact Hlev
    isplitl [Ha] <;> iassumption
  iintro ⟨⟨Ha, Ho'⟩, Hv, HO⟩
  iapply Hk
  isplitl [Ha Hv]; · isplitl [Ha] <;> iassumption
  isplitl [HO]; · iexact HO
  iapply o_put
  isplitl [Ho] <;> iassumption

section Take

/-- The fetched tile of `w` arrives and is loaded; its slot is free again. -/
theorem t_take {O : CellTallies nD τ sig Unit} {α : Type} {Q : α → sProp 𝕄} {j : ℕ}
    (hO : ∀ n, 28 ≤ n → n < 34 → (levAts L lv : sProp 𝕄) ⊢ MayWait (c : Thread nD τ) (.dma (qsem n)) () O) (hj : j < 64)
    {kk : (S1x1024x128.Idx → Elt F .fp8e4m3) → Prog (TpuEff nD τ sig (Elt F) Λ₀ .tc) α}
    {off1 : Fin 1 → ℕ} {inb1} {off2 : Fin 2 → ℕ} {inb2 hs2} {off3 off3' : Fin 3 → ℕ} {inb3 hs3 inb3'}
    (h1 : off1 = ![j % 2]) (h3' : off3' = ![j % 2, 0, 0])
    {hsrc : (wTile off2 inb2 hs2).view.WordExact} {hdst : (tSlot off3 inb3 hs3).view.WordExact}
    {hl : tM.view.LoadsAt (Rect.unit (s := S2x1024x128) off3' S1x1024x128.size inb3').toLoadRect} :
    iprop(levAts L lv ∗ TN m c j ∗ Ow c O)
      ⊢ iprop((iprop(TFree m c j ∗ Ow c O) -∗ WP c (kk (LW (Wt m c) j)) Q)
        -∗ WP c (.op (.waitDma2 (sem2 cc0_scratch7 off1 inb1) (wTile off2 inb2 hs2) (tSlot off3 inb3 hs3) hsrc hdst) fun _ =>
            .op (.load tM (Rect.unit (s := S2x1024x128) off3' S1x1024x128.size inb3').toLoadRect hl) kk) Q) := by
  rw [TN, if_pos hj]
  unfold TFly TFree
  iintro ⟨#Hlev, Ht, HO⟩ Hk
  iapply (fly_wait c (n := 28 + j % 2) (sem_t inb1 j h1) (credit_t inb3 hs3) (hO _ (by omega) (by omega))) $$ [Ht HO]
  · isplitr; · iexact Hlev
    isplitl [Ht] <;> iassumption
  iintro ⟨⟨Ht, Hw⟩, Hv, HO⟩
  iapply (t_load c (Wt m c) (j % 2) j h3') $$ Ht
  iintro Ht
  iapply Hk
  isplitr [HO]
  · isplitl [Ht]; · iexists _; iexact Ht
    isplitl [Hv] <;> iassumption
  · iexact HO

/-- The fetched tile of the result so far arrives and is loaded; its slot is free again. -/
theorem b_take {O : CellTallies nD τ sig Unit} {α : Type} {Q : α → sProp 𝕄} {j : ℕ}
    (hO : ∀ n, 28 ≤ n → n < 34 → (levAts L lv : sProp 𝕄) ⊢ MayWait (c : Thread nD τ) (.dma (qsem n)) () O) (hj : j < 64)
    (G : S4096x8192.Idx → Elt F .f32) {kk : (S1x4096x128.Idx → Elt F .f32) → Prog (TpuEff nD τ sig (Elt F) Λ₀ .tc) α}
    {off1 : Fin 1 → ℕ} {inb1} {off2 : Fin 2 → ℕ} {inb2 hs2} {off3 off3' : Fin 3 → ℕ} {inb3 hs3 inb3'}
    (h1 : off1 = ![j % 2]) (h3' : off3' = ![j % 2, 0, 0])
    {hsrc : (oTile off2 inb2 hs2).view.WordExact} {hdst : (bSlot off3 inb3 hs3).view.WordExact}
    {hl : bM.view.LoadsAt (Rect.unit (s := S2x4096x128) off3' S1x4096x128.size inb3').toLoadRect} :
    iprop(levAts L lv ∗ BN (F := F) c G j ∗ Ow c O)
      ⊢ iprop((iprop(BFree (F := F) c j ∗ oP c (oT j) G ∗ Ow c O) -∗ WP c (kk (LB G j)) Q)
        -∗ WP c (.op (.waitDma2 (sem2 cc0_scratch8 off1 inb1) (oTile off2 inb2 hs2) (bSlot off3 inb3 hs3) hsrc hdst) fun _ =>
            .op (.load bM (Rect.unit (s := S2x4096x128) off3' S1x4096x128.size inb3').toLoadRect hl) kk) Q) := by
  rw [BN, if_pos hj]
  unfold BFly BFree
  iintro ⟨#Hlev, Ht, HO⟩ Hk
  iapply (fly_wait c (n := 30 + j % 2) (sem_b inb1 j h1) (credit_b inb3 hs3) (hO _ (by omega) (by omega))) $$ [Ht HO]
  · isplitr; · iexact Hlev
    isplitl [Ht] <;> iassumption
  iintro ⟨⟨Ht, Hw⟩, Hv, HO⟩
  iapply (b_load c G (j % 2) j h3') $$ Ht
  iintro Ht
  iapply Hk
  isplitl [Ht Hv]
  · isplitl [Ht]; · iexists _; iexact Ht
    iexact Hv
  isplitl [Hw] <;> iassumption

end Take

section Out
variable {α : Type} {j : ℕ} (hj : j < 64)
include hj

omit hj in
/-- The finished tile is stored in its slot. -/
theorem a_put {Q : α → sProp 𝕄} (P : S1x4096x128.Idx → Elt F .f32)
    {off3' : Fin 3 → ℕ} {inb3'} (h3' : off3' = ![j % 2, 0, 0])
    {kk : PUnit → Prog (TpuEff nD τ sig (Elt F) Λ₀ .tc) α}
    {hl : aM.view.LoadsAt (Rect.unit (s := S2x4096x128) off3' S1x4096x128.size inb3').toLoadRect}
    {hx : (aM.access (Rect.unit (s := S2x4096x128) off3' S1x4096x128.size inb3')).Stores Finset.univ} {hm} :
    AFree (F := F) c j
      ⊢ iprop((iprop(aP c (bS (j % 2)) (TA P) ∗ Rest (F := F) c (32 + j % 2)) -∗ WP c (kk ⟨⟩) Q)
        -∗ WP c (.op (.load aM (Rect.unit (s := S2x4096x128) off3' S1x4096x128.size inb3').toLoadRect hl) fun _ =>
            .op (.store aM (Rect.unit (s := S2x4096x128) off3' S1x4096x128.size inb3') P Finset.univ hx hm) kk) Q) := by
  unfold AFree
  iintro ⟨⟨%g, Ha⟩, Hv⟩ Hk
  unfold aP
  iapply (wp_load_rect 𝒱₀ (c : Thread nD τ) none Set.univ (m := aM) (r := (Rect.unit (s := S2x4096x128) off3' S1x4096x128.size inb3')) (acc_a_set inb3' _ h3').subset) $$ [Ha]
  · iexact Ha
  iintro Ha
  iapply (a_store c P h3' g) $$ [Ha]
  · unfold aP; iexact Ha
  iintro Ha
  iapply Hk
  isplitl [Ha]
  · unfold aP; iexact Ha
  · iexact Hv

/-- The finished tile is stored in its slot and sent to its place in the result. -/
theorem a_out {Q : α → sProp 𝕄} (P : ℕ → S1x4096x128.Idx → Elt F .f32) (f : S4096x8192.Idx → Elt F .f32)
    {kk : PUnit → Prog (TpuEff nD τ sig (Elt F) Λ₀ .tc) α}
    {off1 : Fin 1 → ℕ} {inb1} {off2 : Fin 2 → ℕ} {inb2 hs2} {off3 off3' : Fin 3 → ℕ} {inb3 hs3 inb3'}
    (h1 : off1 = ![j % 2]) (h2 : off2 = ![0, 128 * j]) (h3 : off3 = ![j % 2, 0, 0]) (h3' : off3' = ![j % 2, 0, 0])
    {hl : aM.view.LoadsAt (Rect.unit (s := S2x4096x128) off3' S1x4096x128.size inb3').toLoadRect}
    {hx : (aM.access (Rect.unit (s := S2x4096x128) off3' S1x4096x128.size inb3')).Stores Finset.univ} {hm}
    {hsrc : (aSlot off3 inb3 hs3).view.WordExact} {hdst : (oTile off2 inb2 hs2).view.WordExact}
    {ht : DmaTarget.Typed (nD := nD) (τ := τ) (p := .tc) .vmem (.dma (sem2 cc0_scratch9 off1 inb1)) (.here (oTile off2 inb2 hs2))} :
    iprop(AFree (F := F) c j ∗ oP c (oT j) f)
      ⊢ iprop((AFly (F := F) c (GP P) j -∗ WP c (kk ⟨⟩) Q)
        -∗ WP c (.op (.load aM (Rect.unit (s := S2x4096x128) off3' S1x4096x128.size inb3').toLoadRect hl) fun _ =>
            .op (.store aM (Rect.unit (s := S2x4096x128) off3' S1x4096x128.size inb3') (P j) Finset.univ hx hm) fun _ =>
            .op (.enqueueDmaAs (aSlot off3 inb3 hs3) (.here (oTile off2 inb2 hs2)) .same (.dma (sem2 cc0_scratch9 off1 inb1)) hsrc hdst ht) kk) Q) := by
  iintro ⟨Ha, Ho⟩ Hk
  iapply (a_put c (P j) h3') $$ Ha
  iintro ⟨Ha, Hv⟩
  iapply (a_send c P hj h1 h2 h3 f) $$ [Ha Hv Ho]
  · isplitl [Ha]; · iexact Ha
    isplitl [Hv] <;> iassumption
  iexact Hk

end Out

/-! ## Pass one -/

/-- Before trip `k` of pass one: the fetched tiles of `w`, the outgoing tiles, the device's slab of the gathered
    `x`, the tiles of the result not yet written at `f`, those written and landed at their values. -/
def I1 (O : CellTallies nD τ sig Unit) (f : S4096x8192.Idx → Elt F .f32) (k : ℕ) (_ : Unit) : sProp 𝕄 :=
  iprop(levAts L lv ∗ Ow c O ∗ TN m c k ∗ TFree m c (k + 1) ∗ AN c (G1 m c) k ∗ AN c (G1 m c) (k + 1)
    ∗ gP c fullShare (gS c.val 0 4096) (XG m) ∗ oP c (oHi k) f ∗ oP c (oLo (k - 2)) (G1 m c))

set_option maxHeartbeats 1000000 in
theorem pass1_step (O : CellTallies nD τ sig Unit) (hO : ∀ n, 28 ≤ n → n < 34 → (levAts L lv : sProp 𝕄) ⊢ MayWait (c : Thread nD τ) (.dma (qsem n)) () O)
    (f : S4096x8192.Idx → Elt F .f32) (arg2 : Memref sig .tc .smem S1 .f32) (harg2 : arg2.IsWhole) (arg3 : Memref sig .tc .smem S1 .f32) (harg3 : arg3.IsWhole)
    (v2 : BitVec 32) (k : Fin k0_t1_loop.trips) (u : Unit) :
    I1 m c O f k.val u ⊢ WP c (B1 (F := F) arg2 harg2 arg3 harg3 c v2 k u) (I1 m c O f (k.val + 1)) := by
  have hk : k.val < 64 := trips1 ▸ k.isLt
  unfold B1 k0_t1_body
  simp only [Prog.lift, Prog.bind_op, Prog.bind_ret, Prog.pure_eq_ret]
  unfold I1
  iintro ⟨#Hlev, HO, HT, HT', HA, HA', Hg, Ho, Hd⟩
  -- the next tile of `w`
  iapply (if_op c (P := TFree m c (k.val + 1)) (R := TN m c (k.val + 1))
    (fun h => t_next m c ((cond1_iff k).mp h) (k0_off6_eq k) (k0_off8_eq k) (k0_off7_eq k))
    (fun h => by rw [TN, if_neg (fun h' => h ((cond1_iff k).mpr h'))])) $$ HT'
  iintro HT'
  -- the slab of `x`, this tile of `w`
  iapply (g_load m c fullShare c (k0_off9_eq c)) $$ Hg
  iintro Hg
  iapply (t_take m c hO hk (k0_off10_eq k) (k0_off13_eq k)) $$ [HT HO]
  · isplitr; · iexact Hlev
    isplitl [HT] <;> iassumption
  iintro ⟨HT, HO⟩
  -- the slot of the tile on its way out
  iapply (if_op c (P := iprop(levAts L lv ∗ AN (F := F) c (G1 m c) k.val ∗ Ow c O ∗ oP c (oLo (k.val - 2)) (G1 m c)))
    (R := iprop(AFree (F := F) c k.val ∗ Ow c O ∗ oP c (oLo (k.val - 1)) (G1 m c)))
    (fun h => a_wait c hO (k0_off14_eq k) ((cond2_iff k).mp h))
    (fun h => by
      have h' : ¬2 ≤ k.val := fun h' => h ((cond2_iff k).mpr h')
      rw [AN, if_neg h', show k.val - 2 = k.val - 1 by omega]
      iintro ⟨_, H⟩; iexact H)) $$ [HA HO Hd]
  · isplitr; · iexact Hlev
    isplitl [HA]; · iexact HA
    isplitl [HO] <;> iassumption
  iintro ⟨HA, HO, Hd⟩
  ihave H := o_take c f k.val $$ Ho
  icases H with ⟨Ho, Ho'⟩
  iapply (a_out c hk (P1 m c) f (k0_off10_eq k) (k0_off18_eq k) (k0_off19_eq k) (k0_off17_eq k)) $$ [HA Ho]
  · isplitl [HA] <;> iassumption
  iintro HA
  iapply (ret_at c)
  isplitr; · iexact Hlev
  isplitl [HO]; · iexact HO
  isplitl [HT']; · iexact HT'
  isplitl [HT]; · iapply (TFree_in m c k.val) $$ HT
  isplitl [HA']; · iexact HA'
  isplitl [HA]; · iapply (AN_in c (G := (G1 m c)) k.val) $$ HA
  isplitl [Hg]; · iexact Hg
  isplitl [Ho']; · iexact Ho'
  iapply (oLo_in c (G1 m c) k.val) $$ Hd

/-! ## Pass two -/

/-- Before trip `k` of pass two: the fetched tiles of the first sum (`G1`), the outgoing tiles, the neighbours' slabs
    of the gathered `x` and `w` (a share), the tiles of the result still to be fetched, and those replaced. -/
def I2 (O : CellTallies nD τ sig Unit) (k : ℕ) (_ : Unit) : sProp 𝕄 :=
  iprop(levAts L lv ∗ Ow c O ∗ BN c (G1 m c) k ∗ BFree c (k + 1) ∗ AN c (G2 m c) k ∗ AN c (G2 m c) (k + 1)
    ∗ gP c qr (gS (lt c).val 0 4096) (XG m) ∗ vP c qr (vS 0 0 1024) (WV m c)
    ∗ gP c qr (gS (rt c).val 0 4096) (XG m) ∗ vP c qr (vS 1 0 1024) (WV m c)
    ∗ oP c (oHi (min 64 (k + 1))) (G1 m c) ∗ oP c (oLo (k - 2)) (G2 m c))

/-- The next tile of the result so far is fetched where there is one. -/
theorem b_cond {C : Prop} [Decidable C] {α : Type} {rest : Prog (TpuEff nD τ sig (Elt F) Λ₀ .tc) α} {Q : α → sProp 𝕄} {k : ℕ} (hk : k < 64) (G : S4096x8192.Idx → Elt F .f32)
    (hC : C ↔ k + 1 < 64) {e : C → TpuEff nD τ sig (Elt F) Λ₀ .tc PUnit}
    (he : ∀ h : C, iprop(BFree (F := F) c (k + 1) ∗ oP c (oHi (k + 1)) G) ⊢ iprop((iprop(BN c G (k + 1) ∗ oP c (oHi (k + 1 + 1)) G) -∗ WP c rest Q)
      -∗ WP c (.op (e h) fun _ => rest) Q)) :
    iprop(BFree (F := F) c (k + 1) ∗ oP c (oHi (min 64 (k + 1))) G)
      ⊢ iprop((iprop(BN c G (k + 1) ∗ oP c (oHi (min 64 (k + 1 + 1))) G) -∗ WP c rest Q)
        -∗ WP c (if h : C then .op (e h) fun _ => rest else rest) Q) := by
  refine if_op c (fun h => ?_) (fun h => ?_)
  · have h' := hC.mp h
    rw [Nat.min_eq_right (by omega : k + 1 ≤ 64), Nat.min_eq_right (by omega : k + 1 + 1 ≤ 64)]
    exact he h
  · have h' : ¬(k + 1 < 64) := fun h' => h (hC.mpr h')
    rw [BN, if_neg h', Nat.min_eq_left (by omega : 64 ≤ k + 1), Nat.min_eq_left (by omega : 64 ≤ k + 1 + 1)]

set_option maxHeartbeats 1000000 in
theorem pass2_step (O : CellTallies nD τ sig Unit) (hO : ∀ n, 28 ≤ n → n < 34 → (levAts L lv : sProp 𝕄) ⊢ MayWait (c : Thread nD τ) (.dma (qsem n)) () O)
    (arg2 : Memref sig .tc .smem S1 .f32) (harg2 : arg2.IsWhole) (arg3 : Memref sig .tc .smem S1 .f32) (harg3 : arg3.IsWhole)
    (v13 v24 : BitVec 32) (k : Fin k0_t2_loop.trips) (u : Unit) :
    I2 m c O k.val u ⊢ WP c (B2 (F := F) arg2 harg2 arg3 harg3 c v13 v24 k u) (I2 m c O (k.val + 1)) := by
  have hk : k.val < 64 := trips2 ▸ k.isLt
  unfold B2 k0_t2_body
  simp only [k0_part1_eq_skeleton]
  unfold k0_part1_skel
  simp only [Prog.lift, Prog.bind_op, Prog.bind_ret, Prog.pure_eq_ret]
  unfold I2 WP
  rw [wp_bind]
  iintro ⟨#Hlev, HO, HB, HB', HA, HA', Hgl, Hvl, Hgr, Hvr, Ho, Hd⟩
  -- the next tile of the result so far
  iapply (b_cond c hk (G1 m c) (cond3_iff k)
    (fun h => b_next c ((cond3_iff k).mp h) (G1 m c) (k0_off23_eq k) (k0_off25_eq k) (k0_off24_eq k))) $$ [HB' Ho]
  · isplitl [HB'] <;> iassumption
  iintro ⟨HB', Ho⟩
  iapply (g_load m c qr (lt c) (off26_eq c)) $$ Hgl
  iintro Hgl
  iapply (v_load m c qr 0 k.val hk (k0_off27_eq k)) $$ Hvl
  iintro Hvl
  iapply (g_load m c qr (rt c) (off28_eq c)) $$ Hgr
  iintro Hgr
  iapply (v_load m c qr 1 k.val hk (k0_off29_eq k)) $$ Hvr
  iintro Hvr
  iapply (b_take c hO hk (G1 m c) (k0_off30_eq k) (k0_off33_eq k)) $$ [HB HO]
  · isplitr; · iexact Hlev
    isplitl [HB] <;> iassumption
  iintro ⟨HB, Hoj, HO⟩
  iapply (ret_at c)
  -- the slot of the tile on its way out
  iapply (if_op c (P := iprop(levAts L lv ∗ AN (F := F) c (G2 m c) k.val ∗ Ow c O ∗ oP c (oLo (k.val - 2)) (G2 m c)))
    (R := iprop(AFree (F := F) c k.val ∗ Ow c O ∗ oP c (oLo (k.val - 1)) (G2 m c)))
    (fun h => a_wait c hO (k0_off34_eq k) ((cond4_iff k).mp h))
    (fun h => by
      have h' : ¬2 ≤ k.val := fun h' => h ((cond4_iff k).mpr h')
      rw [AN, if_neg h', show k.val - 2 = k.val - 1 by omega]
      iintro ⟨_, H⟩; iexact H)) $$ [HA HO Hd]
  · isplitr; · iexact Hlev
    isplitl [HA]; · iexact HA
    isplitl [HO] <;> iassumption
  iintro ⟨HA, HO, Hd⟩
  iapply (a_out c hk (P2 m c) (G1 m c) (k0_off30_eq k) (k0_off32_eq k) (k0_off31_eq k) (k0_off33_eq k)) $$ [HA Hoj]
  · isplitl [HA] <;> iassumption
  iintro HA
  iapply (ret_at c)
  isplitr; · iexact Hlev
  isplitl [HO]; · iexact HO
  isplitl [HB']; · iexact HB'
  isplitl [HB]; · iapply (BFree_in c k.val) $$ HB
  isplitl [HA']; · iexact HA'
  isplitl [HA]; · iapply (AN_in c (G := (G2 m c)) k.val) $$ HA
  isplitl [Hgl]; · iexact Hgl
  isplitl [Hvl]; · iexact Hvl
  isplitl [Hgr]; · iexact Hgr
  isplitl [Hvr]; · iexact Hvr
  isplitl [Ho]; · iexact Ho
  iapply (oLo_in c (G2 m c) k.val) $$ Hd

/-! ## Pass three -/

/-- Before trip `k` of pass three: as in pass two, with the opposite device's slabs and the final values. -/
def I3 (O : CellTallies nD τ sig Unit) (s : F .f32) (q₁ q₂ : PosShare TreeShare) (k : ℕ) (_ : Unit) : sProp 𝕄 :=
  iprop(levAts L lv ∗ Ow c O ∗ BN c (G2 m c) k ∗ BFree c (k + 1) ∗ AN c (G3 m c s) k ∗ AN c (G3 m c s) (k + 1)
    ∗ gP c q₁ (gS (dg c).val 0 4096) (XG m) ∗ vP c q₂ (vS 2 0 1024) (WV m c)
    ∗ oP c (oHi (min 64 (k + 1))) (G2 m c) ∗ oP c (oLo (k - 2)) (G3 m c s))

set_option maxHeartbeats 1000000 in
theorem pass3_step (O : CellTallies nD τ sig Unit) (hO : ∀ n, 28 ≤ n → n < 34 → (levAts L lv : sProp 𝕄) ⊢ MayWait (c : Thread nD τ) (.dma (qsem n)) () O)
    (s : F .f32) (q₁ q₂ : PosShare TreeShare) (arg2 : Memref sig .tc .smem S1 .f32) (harg2 : arg2.IsWhole) (arg3 : Memref sig .tc .smem S1 .f32) (harg3 : arg3.IsWhole)
    (v35 : BitVec 32) (k : Fin k0_t3_loop.trips) (u : Unit) :
    I3 m c O s q₁ q₂ k.val u ⊢ WP c (B3 (F := F) arg2 harg2 arg3 harg3 c v35 s k u) (I3 m c O s q₁ q₂ (k.val + 1)) := by
  have hk : k.val < 64 := trips3 ▸ k.isLt
  unfold B3 k0_t3_body
  simp only [k0_part2_eq_skeleton]
  unfold k0_part2_skel
  simp only [Prog.lift, Prog.bind_op, Prog.bind_ret, Prog.pure_eq_ret]
  unfold I3 WP
  rw [wp_bind]
  iintro ⟨#Hlev, HO, HB, HB', HA, HA', Hg, Hv, Ho, Hd⟩
  -- the next tile of the result so far
  iapply (b_cond c hk (G2 m c) (cond5_iff k)
    (fun h => b_next c ((cond5_iff k).mp h) (G2 m c) (k0_off37_eq k) (k0_off39_eq k) (k0_off38_eq k))) $$ [HB' Ho]
  · isplitl [HB'] <;> iassumption
  iintro ⟨HB', Ho⟩
  iapply (g_load m c q₁ (dg c) (off40_eq c)) $$ Hg
  iintro Hg
  iapply (v_load m c q₂ 2 k.val hk (k0_off41_eq k)) $$ Hv
  iintro Hv
  iapply (b_take c hO hk (G2 m c) (k0_off42_eq k) (k0_off45_eq k)) $$ [HB HO]
  · isplitr; · iexact Hlev
    isplitl [HB] <;> iassumption
  iintro ⟨HB, Hoj, HO⟩
  -- the slot of the tile on its way out
  iapply (if_op c (P := iprop(levAts L lv ∗ AN (F := F) c (G3 m c s) k.val ∗ Ow c O ∗ oP c (oLo (k.val - 2)) (G3 m c s)))
    (R := iprop(AFree (F := F) c k.val ∗ Ow c O ∗ oP c (oLo (k.val - 1)) (G3 m c s)))
    (fun h => a_wait c hO (k0_off46_eq k) ((cond6_iff k).mp h))
    (fun h => by
      have h' : ¬2 ≤ k.val := fun h' => h ((cond6_iff k).mpr h')
      rw [AN, if_neg h', show k.val - 2 = k.val - 1 by omega]
      iintro ⟨_, H⟩; iexact H)) $$ [HA HO Hd]
  · isplitr; · iexact Hlev
    isplitl [HA]; · iexact HA
    isplitl [HO] <;> iassumption
  iintro ⟨HA, HO, Hd⟩
  iapply (a_put c _ (k0_off45_eq k)) $$ HA
  iintro ⟨HA, Hv'⟩
  iapply (ret_at c)
  iapply (a_send c (P3 m c s) hk (k0_off42_eq k) (k0_off44_eq k) (k0_off43_eq k) (G2 m c)) $$ [HA Hv' Hoj]
  · isplitl [HA]; · unfold P3; iexact HA
    isplitl [Hv'] <;> iassumption
  iintro HA
  iapply (ret_at c)
  isplitr; · iexact Hlev
  isplitl [HO]; · iexact HO
  isplitl [HB']; · iexact HB'
  isplitl [HB]; · iapply (BFree_in c k.val) $$ HB
  isplitl [HA']; · iexact HA'
  isplitl [HA]; · iapply (AN_in c (G := (G3 m c s)) k.val) $$ HA
  isplitl [Hg]; · iexact Hg
  isplitl [Hv]; · iexact Hv
  isplitl [Ho]; · iexact Ho
  iapply (oLo_in c (G3 m c s) k.val) $$ Hd

end Cert.RingProof

end
-- ==== Proof.Copies.lean ====
/-
Copies: the twelve remote copies of the kernel, one rule for sending and one for the two waits.
-/
module

public import proofs.«01_k».proof.Proof.Passes

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (c : Dev nD) (K : Dev nD × Fin 25 → ℕ)

/-! ## The records of every cell -/

/-- Cell number `i` of device `c`: a semaphore of the remote copies, or the barrier. -/
def kcell (ci : Dev nD × Fin 25) : GSem nD τ sig := if ci.2.val < 24 then dCell ci.1 ci.2.val else barCell ci.1

/-- Every cell's invariant is in force, and every cell has reached round 0. -/
def Recs : sProp 𝕄 :=
  bigSep Finset.univ fun ci : Dev nD × Fin 25 => iprop(cellInv ER (Rd m) (K ci) (kcell ci) ∗ reached ER (kcell ci) 0)

instance Recs_persistent : BI.Persistent (Recs m K) := by unfold Recs; infer_instance

omit [FloatOps F] in
theorem recs_d (d : Dev nD) (i : ℕ) (hi : i < 24) :
    Recs m K ⊢ iprop(cellInv ER (Rd m) (K (d, ⟨i, by omega⟩)) (dCell d i) ∗ reached ER (dCell d i) 0) := by
  have h := bigSep_elim (Φ := fun ci : Dev nD × Fin 25 => iprop(cellInv ER (Rd m) (K ci) (kcell ci) ∗ reached ER (kcell ci) 0))
    (Finset.mem_univ ((d, ⟨i, by omega⟩) : Dev nD × Fin 25))
  rw [show kcell (d, ⟨i, by omega⟩) = dCell d i from if_pos hi] at h
  exact h

omit [FloatOps F] in
theorem recs_bar (d : Dev nD) :
    Recs m K ⊢ iprop(cellInv ER (Rd m) (K (d, ⟨24, by omega⟩)) (barCell d) ∗ reached ER (barCell d) 0) := by
  have h := bigSep_elim (Φ := fun ci : Dev nD × Fin 25 => iprop(cellInv ER (Rd m) (K ci) (kcell ci) ∗ reached ER (kcell ci) 0))
    (Finset.mem_univ ((d, ⟨24, by omega⟩) : Dev nD × Fin 25))
  rw [show kcell (d, ⟨24, by omega⟩) = barCell d from if_neg (Nat.lt_irrefl 24)] at h
  exact h

/-! ## The states of copy `t` -/

/-- Not yet sent: the right to pay both cells, the positions of the device's own two cells, the credit its own landing
    will be waited with. -/
def Ready (t : ℕ) : sProp 𝕄 :=
  iprop(dutyTok ER (dCell c (2 * t)) 0 false ∗ dutyTok ER (dCell (peer c t) (2 * t + 1)) 0 false
    ∗ atPos ER (dCell c (2 * t)) 0 ∅ 0 ∗ atPos ER (dCell c (2 * t + 1)) 0 ∅ 0 ∗ cred (tallyAt (dCell c (2 * t + 1)) () (amt t)))
/-- Sent, neither end waited for. -/
def Sent (t : ℕ) : sProp 𝕄 :=
  iprop(cred (tallyAt (dCell c (2 * t)) () (amt t)) ∗ cred (tallyAt (dCell c (2 * t + 1)) () (amt t))
    ∗ atPos ER (dCell c (2 * t)) 0 ∅ 0 ∗ atPos ER (dCell c (2 * t + 1)) 0 ∅ 0)
/-- Both ends waited for. -/
def Done (t : ℕ) : sProp 𝕄 := iprop(Rest (F := F) c (4 + 2 * t) ∗ Rest c (4 + (2 * t + 1)))

/-! ## Sending -/

theorem copy_out {α : Type} {Q : α → sProp 𝕄} {k : PUnit → Prog (TpuEff nD τ sig (Elt F) Λ₀ .tc) α} {t k' : ℕ} (ht : t + k' = 11)
    {sp sp' : Space} {s : Shape} {e : EltTy} {src : Memref sig .tc sp s e} {n : Dev nD} (hn : n = peer c t)
    {dst : Memref sig .tc sp' s e} {sS sR : DmaSem sig} (hS : sS = dsem (2 * t)) (hR : sR = dsem (2 * t + 1))
    {hsc : (dst : Memref sig (Dev.tc n : Thread nD τ).2.kind sp' s e).view.ref.isScScratch = false} {hsrc : src.view.WordExact} {hdst : (dst : Memref sig (Dev.tc n : Thread nD τ).2.kind sp' s e).view.WordExact}
    {hsem : DmaTarget.Typed sp (.dma sR) (.remote (Dev.tc n : Thread nD τ) dst (.dma sS) hsc)}
    {q : PosShare TreeShare} {fs : Buf (Elt F) (src.view.loc (c : Thread nD τ))} {fd : Buf (Elt F) (dst.view.loc ((peer c t : Dev nD) : Thread nD τ))}
    (hN : dst.view.amount (.dma (dsem (2 * t + 1))) = amt t)
    (hpay₁ : (src.view.loc (c : Thread nD τ) ↦[src.view.set]{q} fs) ⊢ sendPay m c t)
    (hpay₂ : (dst.view.loc ((peer c t : Dev nD) : Thread nD τ) ↦[dst.view.set]{fullShare} (dst.view.write (Elt F) fd (src.view.read (Elt F) fs) Finset.univ))
      ⊢ recvPay m (peer c t) t) :
    iprop(Recs m K ∗ Ready c t ∗ (src.view.loc (c : Thread nD τ) ↦[src.view.set]{q} fs)
        ∗ (dst.view.loc ((peer c t : Dev nD) : Thread nD τ) ↦[dst.view.set]{fullShare} fd) ∗ Ow c (OR c (k' + 1)))
      ⊢ iprop((iprop(Sent c t ∗ Ow c (OR c k')) -∗ WP c (k ⟨⟩) Q)
        -∗ WP c (.op (.enqueueDmaAs src (.remote (Dev.tc n : Thread nD τ) dst (.dma sS) hsc) .same (.dma sR) hsrc hdst hsem) k) Q) := by
  subst hn hS hR
  unfold Ready Sent Ow
  iintro ⟨#Hrec, ⟨HtS, HtR, HaS, HaR, HcR⟩, Hsrc, Hdst, ⟨%W, HO⟩⟩ Hk
  ihave #HS := recs_d m K c (2 * t) (by omega) $$ Hrec
  ihave #HR := recs_d m K (peer c t) (2 * t + 1) (by omega) $$ Hrec
  icases HS with ⟨#HiS, #HrS⟩
  icases HR with ⟨#HiR, #HrR⟩
  iapply (Rounds.wp_send_pointsTo 𝒱₀ ER (Rd m) (c : Thread nD τ) none (κ₁ := K (c, ⟨2 * t, by omega⟩)) (κ₂ := K (peer c t, ⟨2 * t + 1, by omega⟩))
    (c' := ((peer c t : Dev nD) : Thread nD τ)) (src := src) (dst := dst) (q := q) (fs := fs)
    (r₁ := 0) (r₂ := 0) (d₁ := false) (d₂ := false) (fd := fd)
    (by rw [duties_d m c _ (by omega)]; exact Finset.mem_singleton_self _)
    (by rw [duties_d m _ _ (by omega)]; exact Finset.mem_singleton_self _)
    () () (amt t) hN (by rw [amount_d m c _ (by omega)]; congr 1; omega) (by rw [amount_d m _ _ (by omega)]; congr 1; omega)
    (OR c k') (show OR c (k' + 1) = OR c k' + tallyAt (dCell (peer c t) (2 * t + 1)) () (amt t) by
      show OR c k' + ow c (11 - k') = _
      rw [show 11 - k' = t by omega]; rfl) (W := W)
    (by rw [payload_send m c t (by omega)]; exact hpay₁) (by rw [payload_recv m _ t (by omega)]; exact hpay₂)) $$ [HtS HtR Hsrc Hdst HO]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitr [HO]
  · isplitl [HcS]; · iexact HcS
    isplitl [HcR]; · iexact HcR
    isplitl [HaS] <;> iassumption
  · iexists W; iexact HO

/-! ## The two waits -/

theorem copy_wait {α : Type} {Q : α → sProp 𝕄} {k : PUnit → Prog (TpuEff nD τ sig (Elt F) Λ₀ .tc) α} {i : ℕ} (hi : i < 24) {N : ℕ} (hN : amt (i / 2) = N)
    {sp sp' : Space} {s s' : Shape} {e e' : EltTy} {κ' : Kind} {sm : DmaSem sig} (hsm : sm = dsem i)
    {srcw : Memref sig .tc sp' s' e'} {dstw : Memref sig κ' sp s e} (hcr : dstw.view.dmaCredit = N) {hsrc : srcw.view.WordExact} {hdst : dstw.view.WordExact}
    {O : CellTallies nD τ sig Unit} (hO : (levAts L lv : sProp 𝕄) ⊢ MayWait (c : Thread nD τ) (.dma (dsem i)) () O) :
    iprop(Recs m K ∗ levAts L lv ∗ cred (tallyAt (dCell c i) () N) ∗ atPos ER (dCell c i) 0 ∅ 0 ∗ Ow c O)
      ⊢ iprop((iprop(semPay m c i ∗ Rest c (4 + i) ∗ Ow c O) -∗ WP c (k ⟨⟩) Q)
        -∗ WP c (.op (.waitDma2 sm srcw dstw hsrc hdst) k) Q) := by
  subst hsm hN
  unfold Ow
  iintro ⟨#Hrec, #Hlev, Hcr, Hat, ⟨%W, HO⟩⟩ Hk
  ihave #HS := recs_d m K c i hi $$ Hrec
  icases HS with ⟨#HiS, -⟩
  iapply (Rounds.wp_wait_rest_token 𝒱₀ ER (Rd m) (c : Thread nD τ) none (κ := K (c, ⟨i, by omega⟩))
      (wpE_waitDma2_eq 𝒱₀ (c : Thread nD τ) none Set.univ) (Set.mem_univ _) () (O := O) (W := W) (R := 0) (m := 0) (T := ∅)
      (by rw [Nat.zero_add, expect_d m c i hi, hcr])) $$ [Hcr HO Hat]
  · isplitr; · iexact HiS
    isplitl [Hcr]; · rw [hcr]; iexact Hcr
    isplitl [HO]; · iexact HO
    isplitr; · iapply hO; iexact Hlev
    iexact Hat
  iintro ⟨HO, Hat, -, Hpay⟩
  ihave Hpay := (Entails.of_eq (rest_d m c i hi)) $$ Hpay
  imod (Rounds.cell_close ER (Rd m) (Set.mem_univ (K (c, ⟨i, by omega⟩))) (fun h => h) (R := 0 + 1) (duties_later m (dCell c i))) $$ [Hat] with Hz
  · isplitr; · iexact HiS
    iexact Hat
  iapply Hk
  isplitl [Hpay]; · iexact Hpay
  isplitl [Hz]; · iexact Hz
  iexists _; iexact HO

theorem copy_done {α : Type} {Q : α → sProp 𝕄} {k : PUnit → Prog (TpuEff nD τ sig (Elt F) Λ₀ .tc) α} {t : ℕ} (ht : t < 12) {N : ℕ} (hN : amt t = N)
    {sp₁ sp₁' sp₂ sp₂' : Space} {s₁ s₁' s₂ s₂' : Shape} {e₁ e₁' e₂ e₂' : EltTy} {sm₁ sm₂ : DmaSem sig} (h₁ : sm₁ = dsem (2 * t)) (h₂ : sm₂ = dsem (2 * t + 1))
    {src₁ : Memref sig .tc sp₁' s₁' e₁'} {dst₁ : Memref sig .tc sp₁ s₁ e₁} (hcr₁ : dst₁.view.dmaCredit = N) {hsrc₁ : src₁.view.WordExact} {hdst₁ : dst₁.view.WordExact}
    {src₂ : Memref sig .tc sp₂' s₂' e₂'} {dst₂ : Memref sig .tc sp₂ s₂ e₂} (hcr₂ : dst₂.view.dmaCredit = N) {hsrc₂ : src₂.view.WordExact} {hdst₂ : dst₂.view.WordExact}
    {O : CellTallies nD τ sig Unit} (hO₁ : (levAts L lv : sProp 𝕄) ⊢ MayWait (c : Thread nD τ) (.dma (dsem (2 * t))) () O)
    (hO₂ : (levAts L lv : sProp 𝕄) ⊢ MayWait (c : Thread nD τ) (.dma (dsem (2 * t + 1))) () O) :
    iprop(Recs m K ∗ levAts L lv ∗ Sent c t ∗ Ow c O)
      ⊢ iprop((iprop(Done c t ∗ sendPay m c t ∗ recvPay m c t ∗ Ow c O) -∗ WP c (k ⟨⟩) Q)
        -∗ WP c (.op (.waitDma2 sm₁ src₁ dst₁ hsrc₁ hdst₁) fun _ => .op (.waitDma2 sm₂ src₂ dst₂ hsrc₂ hdst₂) k) Q) := by
  unfold Sent Done
  rw [hN]
  iintro ⟨#Hrec, #Hlev, ⟨HcS, HcR, HaS, HaR⟩, HO⟩ Hk
  iapply (copy_wait m c K (i := 2 * t) (by omega) (N := N) (by rw [← hN]; congr 1; omega) h₁ hcr₁ hO₁) $$ [HcS HaS HO]
  · isplitr; · iexact Hrec
    isplitr; · iexact Hlev
    isplitl [HcS]; · iexact HcS
    isplitl [HaS] <;> iassumption
  iintro ⟨HpS, HzS, HO⟩
  iapply (copy_wait m c K (i := 2 * t + 1) (by omega) (N := N) (by rw [← hN]; congr 1; omega) h₂ hcr₂ hO₂) $$ [HcR HaR HO]
  · isplitr; · iexact Hrec
    isplitr; · iexact Hlev
    isplitl [HcR]; · iexact HcR
    isplitl [HaR] <;> iassumption
  iintro ⟨HpR, HzR, HO⟩
  have eS : semPay m c (2 * t) = sendPay m c t := by unfold semPay; rw [if_pos (by omega)]; congr 1; omega
  have eR : semPay m c (2 * t + 1) = recvPay m c t := by unfold semPay; rw [if_neg (by omega)]; congr 1; omega
  ihave HpS := (Entails.of_eq eS) $$ HpS
  ihave HpR := (Entails.of_eq eR) $$ HpR
  iapply Hk
  isplitl [HzS HzR]; · isplitl [HzS] <;> iassumption
  isplitl [HpS]; · iexact HpS
  isplitl [HpR] <;> iassumption

end Cert.RingProof

end
-- ==== Proof.Sends.lean ====
/-
Sends: the four kinds of remote copy of the kernel, at the views the program names.
-/
module

public import proofs.«01_k».proof.Proof.Copies

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (c : Dev nD) (K : Dev nD × Fin 25 → ℕ)

/-! ## Semaphores and credits -/

/-- Semaphore `i` of the twenty-four. -/
abbrev sem24 (off : Fin 1 → ℕ) (inb : ∀ a, off a + S1.size a ≤ S24.size a) : DmaSem sig :=
  ((cc0_scratch6.slice (Rect.unit (s := S24) off S1.size inb)).squeeze S_ squeezes_S1_S_).sem

theorem sem24_eq {off : Fin 1 → ℕ} (inb) (i : ℕ) (hi : i < 24) (ho : off = ![i]) : sem24 off inb = dsem i := by
  subst ho
  have e : sem24 ![i] inb = cc0_scratch6.ix (ix1 (⟨i, hi⟩ : Fin 24)) := by
    refine congrArg cc0_scratch6.ix (funext fun a => ?_)
    obtain rfl : a = 0 := Subsingleton.elim _ _
    refine Fin.ext ?_
    show i + 1 * _ = i
    have : ∀ z : Fin 1, i + 1 * z.val = i := fun z => by omega
    exact this _
  rw [e]
  interval_cases i <;> rfl

theorem credit_g {off : Fin 3 → ℕ} (inb hs) : (gHalf off inb hs).view.dmaCredit = NX := rfl
theorem credit_v {off : Fin 3 → ℕ} (inb hs) : (vHalf off inb hs).view.dmaCredit = NW := rfl
theorem NX_eq : NX = (Memref.whole main_arg0 : Memref sig .tc .hbm S4096x1024 .fp8e4m3).view.ref.dmaCredit S2048x1024 .fp8e4m3 := by decide
theorem NW_eq : NW = (Memref.whole main_arg1 : Memref sig .tc .hbm S1024x8192 .fp8e4m3).view.ref.dmaCredit S512x8192 .fp8e4m3 := by decide
theorem credit_xh {off : Fin 2 → ℕ} (inb hs) : (xHalf off inb hs).view.dmaCredit = NX := by rw [NX_eq]; rfl
theorem credit_wh {off : Fin 2 → ℕ} (inb hs) : (wHalf off inb hs).view.dmaCredit = NW := by rw [NW_eq]; rfl

theorem amt_even {t : ℕ} (h : t % 2 = 0) : amt t = NX := if_pos h
theorem amt_odd {t : ℕ} (h : t % 2 = 1) : amt t = NW := if_neg (by omega)

/-! ## Contents that land -/

omit [FloatOps F] in
theorem land_x {off2 : Fin 2 → ℕ} {inb2 hs2} {off3 : Fin 3 → ℕ} {inb3 hs3} (d : Dev nD) (r : ℕ) (hr : r ≤ 2048)
    (h2 : off2 = ![r, 0]) (h3 : off3 = ![d.val, r, 0]) (fd : S4x4096x1024.Idx → Elt F .fp8e4m3) :
    ∀ i ∈ gS d.val r (r + 2048), (gHalf off3 inb3 hs3).view.write (Elt F) fd ((xHalf off2 inb2 hs2).view.read (Elt F) (X m d)) Finset.univ i = XG m i := by
  rw [← gHalf_set inb3 hs3 _ _ h3]
  subst h2 h3
  refine land_eq (gHalf _ inb3 hs3).view fd (XG m) _ fun x => ?_
  have hx0 : (x 0).val < 2048 := (x 0).isLt
  have hx1 : (x 1).val < 1024 := (x 1).isLt
  rw [xHalf_read inb2 hs2 (X m d) x (ix2 ⟨r + (x 0).val, by omega⟩ ⟨(x 1).val, hx1⟩) rfl (Nat.zero_add _).symm,
    gHalf_read inb3 hs3 (XG m) x (ix3 ⟨d.val, d.isLt⟩ ⟨r + (x 0).val, by omega⟩ ⟨(x 1).val, hx1⟩) rfl rfl (Nat.zero_add _).symm]
  rfl

omit [FloatOps F] in
theorem land_w {off2 : Fin 2 → ℕ} {inb2 hs2} {off3 : Fin 3 → ℕ} {inb3 hs3} (d e : Dev nD) (s r : ℕ) (hs : s < 3) (hr : r ≤ 512) (he : who e s = d)
    (h2 : off2 = ![r, 0]) (h3 : off3 = ![s, r, 0]) (fd : S3x1024x8192.Idx → Elt F .fp8e4m3) :
    ∀ i ∈ vS s r (r + 512), (vHalf off3 inb3 hs3).view.write (Elt F) fd ((wHalf off2 inb2 hs2).view.read (Elt F) (Wt m d)) Finset.univ i = WV m e i := by
  rw [← vHalf_set inb3 hs3 _ _ h3]
  subst h2 h3 he
  refine land_eq (vHalf _ inb3 hs3).view fd (WV m e) _ fun x => ?_
  have hx0 : (x 0).val < 512 := (x 0).isLt
  have hx1 : (x 1).val < 8192 := (x 1).isLt
  rw [wHalf_read inb2 hs2 (Wt m (who e s)) x (ix2 ⟨r + (x 0).val, by omega⟩ ⟨(x 1).val, hx1⟩) rfl (Nat.zero_add _).symm,
    vHalf_read inb3 hs3 (WV m e) x (ix3 ⟨s, hs⟩ ⟨r + (x 0).val, by omega⟩ ⟨(x 1).val, hx1⟩) rfl rfl (Nat.zero_add _).symm]
  rfl

omit [FloatOps F] in
theorem land_g {off3 : Fin 3 → ℕ} {inb3 hs3} (d r : ℕ) (h3 : off3 = ![d, r, 0]) (fd : S4x4096x1024.Idx → Elt F .fp8e4m3) :
    ∀ i ∈ gS d r (r + 2048), (gHalf off3 inb3 hs3).view.write (Elt F) fd ((gHalf off3 inb3 hs3).view.read (Elt F) (XG m)) Finset.univ i = XG m i := by
  rw [← gHalf_set inb3 hs3 _ _ h3]
  exact land_eq (gHalf _ inb3 hs3).view fd (XG m) _ fun x => rfl

omit [FloatOps F] in
theorem land_v {off3 : Fin 3 → ℕ} {inb3 hs3} {off3' : Fin 3 → ℕ} {inb3' hs3'} (d e : Dev nD) (s s' r : ℕ) (hs : s < 3) (hs' : s' < 3) (hr : r ≤ 512)
    (he : who d s = who e s')
    (h3 : off3 = ![s, r, 0]) (h3' : off3' = ![s', r, 0]) (fd : S3x1024x8192.Idx → Elt F .fp8e4m3) :
    ∀ i ∈ vS s' r (r + 512), (vHalf off3' inb3' hs3').view.write (Elt F) fd ((vHalf off3 inb3 hs3).view.read (Elt F) (WV m d)) Finset.univ i = WV m e i := by
  rw [← vHalf_set inb3' hs3' _ _ h3']
  subst h3 h3'
  refine land_eq (vHalf _ inb3' hs3').view fd (WV m e) _ fun x => ?_
  have hx0 : (x 0).val < 512 := (x 0).isLt
  have hx1 : (x 1).val < 8192 := (x 1).isLt
  rw [vHalf_read inb3 hs3 (WV m d) x (ix3 ⟨s, hs⟩ ⟨r + (x 0).val, by omega⟩ ⟨(x 1).val, hx1⟩) rfl rfl (Nat.zero_add _).symm,
    vHalf_read inb3' hs3' (WV m e) x (ix3 ⟨s', hs'⟩ ⟨r + (x 0).val, by omega⟩ ⟨(x 1).val, hx1⟩) rfl rfl (Nat.zero_add _).symm]
  show Wt m (who d s) _ = Wt m (who e s') _
  rw [he]

/-! ## The four kinds -/

theorem send_x {α : Type} {Q : α → sProp 𝕄} {k : PUnit → Prog (TpuEff nD τ sig (Elt F) Λ₀ .tc) α} {t k' r : ℕ} (ht : t + k' = 11) (he : t % 2 = 0)
    (hr : r ≤ 2048) {q : PosShare TreeShare} (hsp : sendPay m c t = xP c q (xS r (r + 2048)) (X m c))
    (hlp : ∀ fx fw, landP (F := F) (peer c t) t fx fw = gP (peer c t) fullShare (gS c.val r (r + 2048)) fx)
    {off2 : Fin 2 → ℕ} {inb2 hs2} {off3 : Fin 3 → ℕ} {inb3 hs3} (h2 : off2 = ![r, 0]) (h3 : off3 = ![c.val, r, 0])
    {n : Dev nD} (hn : n = peer c t) {offS : Fin 1 → ℕ} {inbS} (hS : offS = ![2 * t]) {offR : Fin 1 → ℕ} {inbR} (hR : offR = ![2 * t + 1])
    {hsc hsrc hdst hsem} {fx : S4x4096x1024.Idx → Elt F .fp8e4m3} {fw : S3x1024x8192.Idx → Elt F .fp8e4m3} :
    iprop(Recs m K ∗ Ready c t ∗ sendPay m c t ∗ landP (peer c t) t fx fw ∗ Ow c (OR c (k' + 1)))
      ⊢ iprop((iprop(Sent c t ∗ Ow c (OR c k')) -∗ WP c (k ⟨⟩) Q)
        -∗ WP c (.op (.enqueueDmaAs (xHalf off2 inb2 hs2) (.remote (Dev.tc n : Thread nD τ) (gHalf off3 inb3 hs3) (.dma (sem24 offS inbS)) hsc) .same
          (.dma (sem24 offR inbR)) hsrc hdst hsem) k) Q) := by
  have e1 : sendPay m c t = (((xHalf off2 inb2 hs2).view.loc (c : Thread nD τ)) ↦[(xHalf off2 inb2 hs2).view.set]{q} X m c) := by
    rw [hsp, ← xHalf_set inb2 hs2 r h2]; rfl
  have e2 : ∀ fx, landP (F := F) (peer c t) t fx fw
      = (((gHalf off3 inb3 hs3).view.loc ((peer c t : Dev nD) : Thread nD τ)) ↦[(gHalf off3 inb3 hs3).view.set]{fullShare} fx) := fun fx => by
    rw [hlp, ← gHalf_set inb3 hs3 c.val r h3]; rfl
  rw [e1, e2]
  refine copy_out m c K (Q := Q) (k := k) ht (src := xHalf off2 inb2 hs2) (dst := gHalf off3 inb3 hs3) hn (sem24_eq inbS _ (by omega) hS) (sem24_eq inbR _ (by omega) hR)
    (q := q) (fs := X m c) (fd := fx) ?_ ?_ ?_
  · exact ((View.amount_dma _ _).trans (credit_g inb3 hs3)).trans (amt_even he).symm
  · rw [e1]
  · have e3 : recvPay m (peer c t) t = gP (peer c t) fullShare (gS c.val r (r + 2048)) (XG m) := hlp _ _
    rw [e3, gHalf_set inb3 hs3 c.val r h3]
    exact Entails.of_eq (pointsTo_congr (land_x m c r hr h2 h3 fx))

theorem send_w {α : Type} {Q : α → sProp 𝕄} {k : PUnit → Prog (TpuEff nD τ sig (Elt F) Λ₀ .tc) α} {t k' s r : ℕ} (ht : t + k' = 11) (he : t % 2 = 1)
    (hs : s < 3) (hr : r ≤ 512) (hw : who (peer c t) s = c) {q : PosShare TreeShare} (hsp : sendPay m c t = wP c q (wS r (r + 512)) (Wt m c))
    (hlp : ∀ fx fw, landP (F := F) (peer c t) t fx fw = vP (peer c t) fullShare (vS s r (r + 512)) fw)
    {off2 : Fin 2 → ℕ} {inb2 hs2} {off3 : Fin 3 → ℕ} {inb3 hs3} (h2 : off2 = ![r, 0]) (h3 : off3 = ![s, r, 0])
    {n : Dev nD} (hn : n = peer c t) {offS : Fin 1 → ℕ} {inbS} (hS : offS = ![2 * t]) {offR : Fin 1 → ℕ} {inbR} (hR : offR = ![2 * t + 1])
    {hsc hsrc hdst hsem} {fx : S4x4096x1024.Idx → Elt F .fp8e4m3} {fw : S3x1024x8192.Idx → Elt F .fp8e4m3} :
    iprop(Recs m K ∗ Ready c t ∗ sendPay m c t ∗ landP (peer c t) t fx fw ∗ Ow c (OR c (k' + 1)))
      ⊢ iprop((iprop(Sent c t ∗ Ow c (OR c k')) -∗ WP c (k ⟨⟩) Q)
        -∗ WP c (.op (.enqueueDmaAs (wHalf off2 inb2 hs2) (.remote (Dev.tc n : Thread nD τ) (vHalf off3 inb3 hs3) (.dma (sem24 offS inbS)) hsc) .same
          (.dma (sem24 offR inbR)) hsrc hdst hsem) k) Q) := by
  have e1 : sendPay m c t = (((wHalf off2 inb2 hs2).view.loc (c : Thread nD τ)) ↦[(wHalf off2 inb2 hs2).view.set]{q} Wt m c) := by
    rw [hsp, ← wHalf_set inb2 hs2 r h2]; rfl
  have e2 : ∀ fx fw, landP (F := F) (peer c t) t fx fw
      = (((vHalf off3 inb3 hs3).view.loc ((peer c t : Dev nD) : Thread nD τ)) ↦[(vHalf off3 inb3 hs3).view.set]{fullShare} fw) := fun fx fw => by
    rw [hlp, ← vHalf_set inb3 hs3 s r h3]; rfl
  rw [e1, e2]
  refine copy_out m c K (Q := Q) (k := k) ht (src := wHalf off2 inb2 hs2) (dst := vHalf off3 inb3 hs3) hn (sem24_eq inbS _ (by omega) hS) (sem24_eq inbR _ (by omega) hR)
    (q := q) (fs := Wt m c) (fd := fw) ?_ ?_ ?_
  · exact ((View.amount_dma _ _).trans (credit_v inb3 hs3)).trans (amt_odd he).symm
  · rw [e1]
  · have e3 : recvPay m (peer c t) t = vP (peer c t) fullShare (vS s r (r + 512)) (WV m (peer c t)) := hlp _ _
    rw [e3, vHalf_set inb3 hs3 s r h3]
    exact Entails.of_eq (pointsTo_congr (land_w m c (peer c t) s r hs hr hw h2 h3 fw))

theorem send_g {α : Type} {Q : α → sProp 𝕄} {k : PUnit → Prog (TpuEff nD τ sig (Elt F) Λ₀ .tc) α} {t k' d r : ℕ} (ht : t + k' = 11) (he : t % 2 = 0)
    {q : PosShare TreeShare} (hsp : sendPay m c t = gP c q (gS d r (r + 2048)) (XG m))
    (hlp : ∀ fx fw, landP (F := F) (peer c t) t fx fw = gP (peer c t) fullShare (gS d r (r + 2048)) fx)
    {off3 : Fin 3 → ℕ} {inb3 hs3} (h3 : off3 = ![d, r, 0])
    {n : Dev nD} (hn : n = peer c t) {offS : Fin 1 → ℕ} {inbS} (hS : offS = ![2 * t]) {offR : Fin 1 → ℕ} {inbR} (hR : offR = ![2 * t + 1])
    {hsc hsrc hdst hsem} {fx : S4x4096x1024.Idx → Elt F .fp8e4m3} {fw : S3x1024x8192.Idx → Elt F .fp8e4m3} :
    iprop(Recs m K ∗ Ready c t ∗ sendPay m c t ∗ landP (peer c t) t fx fw ∗ Ow c (OR c (k' + 1)))
      ⊢ iprop((iprop(Sent c t ∗ Ow c (OR c k')) -∗ WP c (k ⟨⟩) Q)
        -∗ WP c (.op (.enqueueDmaAs (gHalf off3 inb3 hs3) (.remote (Dev.tc n : Thread nD τ) (gHalf off3 inb3 hs3) (.dma (sem24 offS inbS)) hsc) .same
          (.dma (sem24 offR inbR)) hsrc hdst hsem) k) Q) := by
  have e1 : sendPay m c t = (((gHalf off3 inb3 hs3).view.loc (c : Thread nD τ)) ↦[(gHalf off3 inb3 hs3).view.set]{q} XG m) := by
    rw [hsp, ← gHalf_set inb3 hs3 d r h3]; rfl
  have e2 : ∀ fx, landP (F := F) (peer c t) t fx fw
      = (((gHalf off3 inb3 hs3).view.loc ((peer c t : Dev nD) : Thread nD τ)) ↦[(gHalf off3 inb3 hs3).view.set]{fullShare} fx) := fun fx => by
    rw [hlp, ← gHalf_set inb3 hs3 d r h3]; rfl
  rw [e1, e2]
  refine copy_out m c K (Q := Q) (k := k) ht (src := gHalf off3 inb3 hs3) (dst := gHalf off3 inb3 hs3) hn (sem24_eq inbS _ (by omega) hS) (sem24_eq inbR _ (by omega) hR)
    (q := q) (fs := XG m) (fd := fx) ?_ ?_ ?_
  · exact ((View.amount_dma _ _).trans (credit_g inb3 hs3)).trans (amt_even he).symm
  · rw [e1]
  · have e3 : recvPay m (peer c t) t = gP (peer c t) fullShare (gS d r (r + 2048)) (XG m) := hlp _ _
    rw [e3, gHalf_set inb3 hs3 d r h3]
    exact Entails.of_eq (pointsTo_congr (land_g m d r h3 fx))

theorem send_v {α : Type} {Q : α → sProp 𝕄} {k : PUnit → Prog (TpuEff nD τ sig (Elt F) Λ₀ .tc) α} {t k' s s' r : ℕ} (ht : t + k' = 11) (he : t % 2 = 1)
    (hs : s < 3) (hs' : s' < 3) (hr : r ≤ 512) (hw : who c s = who (peer c t) s') {q : PosShare TreeShare}
    (hsp : sendPay m c t = vP c q (vS s r (r + 512)) (WV m c))
    (hlp : ∀ fx fw, landP (F := F) (peer c t) t fx fw = vP (peer c t) fullShare (vS s' r (r + 512)) fw)
    {off3 : Fin 3 → ℕ} {inb3 hs3} {off3' : Fin 3 → ℕ} {inb3' hs3'} (h3 : off3 = ![s, r, 0]) (h3' : off3' = ![s', r, 0])
    {n : Dev nD} (hn : n = peer c t) {offS : Fin 1 → ℕ} {inbS} (hS : offS = ![2 * t]) {offR : Fin 1 → ℕ} {inbR} (hR : offR = ![2 * t + 1])
    {hsc hsrc hdst hsem} {fx : S4x4096x1024.Idx → Elt F .fp8e4m3} {fw : S3x1024x8192.Idx → Elt F .fp8e4m3} :
    iprop(Recs m K ∗ Ready c t ∗ sendPay m c t ∗ landP (peer c t) t fx fw ∗ Ow c (OR c (k' + 1)))
      ⊢ iprop((iprop(Sent c t ∗ Ow c (OR c k')) -∗ WP c (k ⟨⟩) Q)
        -∗ WP c (.op (.enqueueDmaAs (vHalf off3 inb3 hs3) (.remote (Dev.tc n : Thread nD τ) (vHalf off3' inb3' hs3') (.dma (sem24 offS inbS)) hsc) .same
          (.dma (sem24 offR inbR)) hsrc hdst hsem) k) Q) := by
  have e1 : sendPay m c t = (((vHalf off3 inb3 hs3).view.loc (c : Thread nD τ)) ↦[(vHalf off3 inb3 hs3).view.set]{q} WV m c) := by
    rw [hsp, ← vHalf_set inb3 hs3 s r h3]; rfl
  have e2 : ∀ fx fw, landP (F := F) (peer c t) t fx fw
      = (((vHalf off3' inb3' hs3').view.loc ((peer c t : Dev nD) : Thread nD τ)) ↦[(vHalf off3' inb3' hs3').view.set]{fullShare} fw) := fun fx fw => by
    rw [hlp, ← vHalf_set inb3' hs3' s' r h3']; rfl
  rw [e1, e2]
  refine copy_out m c K (Q := Q) (k := k) ht (src := vHalf off3 inb3 hs3) (dst := vHalf off3' inb3' hs3') hn (sem24_eq inbS _ (by omega) hS) (sem24_eq inbR _ (by omega) hR)
    (q := q) (fs := WV m c) (fd := fw) ?_ ?_ ?_
  · exact ((View.amount_dma _ _).trans (credit_v inb3' hs3')).trans (amt_odd he).symm
  · rw [e1]
  · have e3 : recvPay m (peer c t) t = vP (peer c t) fullShare (vS s' r (r + 512)) (WV m (peer c t)) := hlp _ _
    rw [e3, vHalf_set inb3' hs3' s' r h3']
    exact Entails.of_eq (pointsTo_congr (land_v m c (peer c t) s s' r hs hs' hr hw h3 h3' fw))

end Cert.RingProof

end
-- ==== Proof.Split.lean ====
/-
Split: the buffers of one device cut into what the copies lend and what they deliver, and put together again.
-/
module

public import proofs.«01_k».proof.Proof.Sends

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (c : Dev nD)

section Cuts
omit [FloatOps F]

/-! ## Cuts by rows and by slabs -/

theorem x_half (q : PosShare TreeShare) (f : S4096x1024.Idx → Elt F .fp8e4m3) :
    xP c q Finset.univ f ⊣⊢ iprop(xP c q (xS 0 2048) f ∗ xP c q (xS 2048 4096) f) := by
  have e : (Finset.univ : Finset S4096x1024.Idx) = xS 0 2048 ∪ xS 2048 4096 := by
    ext i
    have hi : (i 0).val < 4096 := (i 0).isLt
    simp only [xS, Finset.mem_univ, Finset.mem_union, Finset.mem_filter, true_and, true_iff]
    omega
  have hd : Disjoint (xS 0 2048) (xS 2048 4096) := by
    rw [Finset.disjoint_left]
    intro i h1 h2
    simp only [xS, Finset.mem_filter] at h1 h2
    omega
  rw [e]; exact pointsTo_union hd

theorem w_half (q : PosShare TreeShare) (f : S1024x8192.Idx → Elt F .fp8e4m3) :
    wP c q Finset.univ f ⊣⊢ iprop(wP c q (wS 0 512) f ∗ wP c q (wS 512 1024) f) := by
  have e : (Finset.univ : Finset S1024x8192.Idx) = wS 0 512 ∪ wS 512 1024 := by
    ext i
    have hi : (i 0).val < 1024 := (i 0).isLt
    simp only [wS, Finset.mem_univ, Finset.mem_union, Finset.mem_filter, true_and, true_iff]
    omega
  have hd : Disjoint (wS 0 512) (wS 512 1024) := by
    rw [Finset.disjoint_left]
    intro i h1 h2
    simp only [wS, Finset.mem_filter] at h1 h2
    omega
  rw [e]; exact pointsTo_union hd

theorem g_half (q : PosShare TreeShare) (d : ℕ) (f : S4x4096x1024.Idx → Elt F .fp8e4m3) :
    gP c q (gS d 0 4096) f ⊣⊢ iprop(gP c q (gS d 0 2048) f ∗ gP c q (gS d 2048 4096) f) := by
  have e : gS d 0 4096 = gS d 0 2048 ∪ gS d 2048 4096 := by
    ext i
    simp only [gS, Finset.mem_univ, Finset.mem_union, Finset.mem_filter, true_and]
    omega
  have hd : Disjoint (gS d 0 2048) (gS d 2048 4096) := by
    rw [Finset.disjoint_left]
    intro i h1 h2
    simp only [gS, Finset.mem_filter] at h1 h2
    omega
  rw [e]; exact pointsTo_union hd

theorem v_half (q : PosShare TreeShare) (s : ℕ) (f : S3x1024x8192.Idx → Elt F .fp8e4m3) :
    vP c q (vS s 0 1024) f ⊣⊢ iprop(vP c q (vS s 0 512) f ∗ vP c q (vS s 512 1024) f) := by
  have e : vS s 0 1024 = vS s 0 512 ∪ vS s 512 1024 := by
    ext i
    simp only [vS, Finset.mem_univ, Finset.mem_union, Finset.mem_filter, true_and]
    omega
  have hd : Disjoint (vS s 0 512) (vS s 512 1024) := by
    rw [Finset.disjoint_left]
    intro i h1 h2
    simp only [vS, Finset.mem_filter] at h1 h2
    omega
  rw [e]; exact pointsTo_union hd

theorem four_slabs (c : Dev nD) : ∀ z : ℕ, z < 4 → z = c.val ∨ z = (lt c).val ∨ z = (rt c).val ∨ z = (dg c).val := by
  intro z hz
  show z = c.val ∨ z = (c.val + 3) % 4 ∨ z = (c.val + 1) % 4 ∨ z = (c.val + 2) % 4
  have hc : c.val < 4 := c.isLt
  omega

theorem gS_disj {d d' : ℕ} (h : d ≠ d') : Disjoint (gS d 0 4096) (gS d' 0 4096) := by
  rw [Finset.disjoint_left]
  intro i h1 h2
  simp only [gS, Finset.mem_filter] at h1 h2
  omega
theorem vS_disj {d d' : ℕ} (h : d ≠ d') : Disjoint (vS d 0 1024) (vS d' 0 1024) := by
  rw [Finset.disjoint_left]
  intro i h1 h2
  simp only [vS, Finset.mem_filter] at h1 h2
  omega

theorem g_all (q : PosShare TreeShare) (f : S4x4096x1024.Idx → Elt F .fp8e4m3) :
    gP c q Finset.univ f ⊣⊢ iprop(gP c q (gS c.val 0 4096) f ∗ gP c q (gS (lt c).val 0 4096) f ∗ gP c q (gS (rt c).val 0 4096) f
      ∗ gP c q (gS (dg c).val 0 4096) f) := by
  have hc : c.val < 4 := c.isLt
  have hl : (lt c).val = (c.val + 3) % 4 := rfl
  have hr : (rt c).val = (c.val + 1) % 4 := rfl
  have hd : (dg c).val = (c.val + 2) % 4 := rfl
  have e : (Finset.univ : Finset S4x4096x1024.Idx)
      = gS c.val 0 4096 ∪ (gS (lt c).val 0 4096 ∪ (gS (rt c).val 0 4096 ∪ gS (dg c).val 0 4096)) := by
    ext i
    have h0 := four_slabs c (i 0).val (i 0).isLt
    have h1 : (i 1).val < 4096 := (i 1).isLt
    simp only [gS, Finset.mem_univ, Finset.mem_union, Finset.mem_filter, true_and, true_iff]
    omega
  have d1 := gS_disj (d := (rt c).val) (d' := (dg c).val) (by omega)
  have d2 : Disjoint (gS (lt c).val 0 4096) (gS (rt c).val 0 4096 ∪ gS (dg c).val 0 4096) :=
    Finset.disjoint_union_right.mpr ⟨gS_disj (by omega), gS_disj (by omega)⟩
  have d3 : Disjoint (gS c.val 0 4096) (gS (lt c).val 0 4096 ∪ (gS (rt c).val 0 4096 ∪ gS (dg c).val 0 4096)) :=
    Finset.disjoint_union_right.mpr ⟨gS_disj (by omega), Finset.disjoint_union_right.mpr ⟨gS_disj (by omega), gS_disj (by omega)⟩⟩
  rw [e]
  unfold gP
  constructor
  · iintro H
    ihave H := (pointsTo_union d3).mp $$ H
    icases H with ⟨H1, H⟩
    ihave H := (pointsTo_union d2).mp $$ H
    icases H with ⟨H2, H⟩
    ihave H := (pointsTo_union d1).mp $$ H
    icases H with ⟨H3, H4⟩
    isplitl [H1]; · iexact H1
    isplitl [H2]; · iexact H2
    isplitl [H3] <;> iassumption
  · iintro ⟨H1, H2, H3, H4⟩
    iapply (pointsTo_union d3).mpr
    isplitl [H1]; · iexact H1
    iapply (pointsTo_union d2).mpr
    isplitl [H2]; · iexact H2
    iapply (pointsTo_union d1).mpr
    isplitl [H3] <;> iassumption

theorem v_all (q : PosShare TreeShare) (f : S3x1024x8192.Idx → Elt F .fp8e4m3) :
    vP c q Finset.univ f ⊣⊢ iprop(vP c q (vS 0 0 1024) f ∗ vP c q (vS 1 0 1024) f ∗ vP c q (vS 2 0 1024) f) := by
  have e : (Finset.univ : Finset S3x1024x8192.Idx) = vS 0 0 1024 ∪ (vS 1 0 1024 ∪ vS 2 0 1024) := by
    ext i
    have h0 : (i 0).val < 3 := (i 0).isLt
    have h1 : (i 1).val < 1024 := (i 1).isLt
    simp only [vS, Finset.mem_univ, Finset.mem_union, Finset.mem_filter, true_and, true_iff]
    omega
  have d1 := vS_disj (d := 1) (d' := 2) (by omega)
  have d2 : Disjoint (vS 0 0 1024) (vS 1 0 1024 ∪ vS 2 0 1024) :=
    Finset.disjoint_union_right.mpr ⟨vS_disj (by omega), vS_disj (by omega)⟩
  rw [e]
  unfold vP
  constructor
  · iintro H
    ihave H := (pointsTo_union d2).mp $$ H
    icases H with ⟨H2, H⟩
    ihave H := (pointsTo_union d1).mp $$ H
    icases H with ⟨H3, H4⟩
    isplitl [H2]; · iexact H2
    isplitl [H3] <;> iassumption
  · iintro ⟨H2, H3, H4⟩
    iapply (pointsTo_union d2).mpr
    isplitl [H2]; · iexact H2
    iapply (pointsTo_union d1).mpr
    isplitl [H3] <;> iassumption

/-! ## Cuts by shares -/

theorem x_share (q : PosShare TreeShare) (S f) : xP (F := F) c q S f ⊣⊢ iprop(xP c q.left S f ∗ xP c q.right S f) := pointsTo_share (PosShare.mem_left_op_right q)
theorem w_share (q : PosShare TreeShare) (S f) : wP (F := F) c q S f ⊣⊢ iprop(wP c q.left S f ∗ wP c q.right S f) := pointsTo_share (PosShare.mem_left_op_right q)
theorem g_share (q : PosShare TreeShare) (S f) : gP (F := F) c q S f ⊣⊢ iprop(gP c q.left S f ∗ gP c q.right S f) := pointsTo_share (PosShare.mem_left_op_right q)
theorem v_share (q : PosShare TreeShare) (S f) : vP (F := F) c q S f ⊣⊢ iprop(vP c q.left S f ∗ vP c q.right S f) := pointsTo_share (PosShare.mem_left_op_right q)

/-- `x` lent to the four copies of it, and kept for the local one. -/
theorem x_cut : xP c fullShare Finset.univ (X m c) ⊣⊢ iprop(sendPay m c 0 ∗ sendPay m c 2 ∗ sendPay m c 4 ∗ sendPay m c 6 ∗ xP c qk Finset.univ (X m c)) := by
  show _ ⊣⊢ iprop(xP c qa (xS 0 2048) (X m c) ∗ xP c qa (xS 2048 4096) (X m c) ∗ xP c qb (xS 0 2048) (X m c) ∗ xP c qb (xS 2048 4096) (X m c) ∗ xP c qk Finset.univ (X m c))
  constructor
  · iintro H
    ihave H := (x_share c fullShare _ _).mp $$ H
    icases H with ⟨Ha, H⟩
    ihave H := (x_share c fullShare.right _ _).mp $$ H
    icases H with ⟨Hb, Hk⟩
    ihave Ha := (x_half c qa _).mp $$ Ha
    ihave Hb := (x_half c qb _).mp $$ Hb
    icases Ha with ⟨H0, H2⟩
    icases Hb with ⟨H4, H6⟩
    isplitl [H0]; · iexact H0
    isplitl [H2]; · iexact H2
    isplitl [H4]; · iexact H4
    isplitl [H6] <;> iassumption
  · iintro ⟨H0, H2, H4, H6, Hk⟩
    iapply (x_share c fullShare _ _).mpr
    isplitl [H0 H2]
    · iapply (x_half c qa _).mpr; isplitl [H0] <;> iassumption
    iapply (x_share c fullShare.right _ _).mpr
    isplitr [Hk]
    · iapply (x_half c qb _).mpr; isplitl [H4] <;> iassumption
    iexact Hk

/-- `w` lent to the four copies of it, and kept for the tiles fetched ahead. -/
theorem w_cut : wP c fullShare Finset.univ (Wt m c) ⊣⊢ iprop(sendPay m c 1 ∗ sendPay m c 3 ∗ sendPay m c 5 ∗ sendPay m c 7
    ∗ wP c qk.left Finset.univ (Wt m c) ∗ wP c qk.right Finset.univ (Wt m c)) := by
  show _ ⊣⊢ iprop(wP c qa (wS 0 512) (Wt m c) ∗ wP c qa (wS 512 1024) (Wt m c) ∗ wP c qb (wS 0 512) (Wt m c) ∗ wP c qb (wS 512 1024) (Wt m c)
    ∗ wP c qk.left Finset.univ (Wt m c) ∗ wP c qk.right Finset.univ (Wt m c))
  constructor
  · iintro H
    ihave H := (w_share c fullShare _ _).mp $$ H
    icases H with ⟨Ha, H⟩
    ihave H := (w_share c fullShare.right _ _).mp $$ H
    icases H with ⟨Hb, Hk⟩
    ihave Ha := (w_half c qa _).mp $$ Ha
    ihave Hb := (w_half c qb _).mp $$ Hb
    ihave Hk := (w_share c qk _ _).mp $$ Hk
    icases Ha with ⟨H0, H2⟩
    icases Hb with ⟨H4, H6⟩
    icases Hk with ⟨H8, H9⟩
    isplitl [H0]; · iexact H0
    isplitl [H2]; · iexact H2
    isplitl [H4]; · iexact H4
    isplitl [H6]; · iexact H6
    isplitl [H8] <;> iassumption
  · iintro ⟨H0, H2, H4, H6, H8, H9⟩
    iapply (w_share c fullShare _ _).mpr
    isplitl [H0 H2]
    · iapply (w_half c qa _).mpr; isplitl [H0] <;> iassumption
    iapply (w_share c fullShare.right _ _).mpr
    isplitl [H4 H6]
    · iapply (w_half c qb _).mpr; isplitl [H4] <;> iassumption
    iapply (w_share c qk _ _).mpr
    isplitl [H8] <;> iassumption

/-- The gathered `x` is the device's own slab and what six copies land in. -/
theorem g_lands (fx : S4x4096x1024.Idx → Elt F .fp8e4m3) (fw : S3x1024x8192.Idx → Elt F .fp8e4m3) :
    gP c fullShare Finset.univ fx ⊣⊢ iprop(gP c fullShare (gS c.val 0 4096) fx ∗ landP c 0 fx fw ∗ landP c 2 fx fw ∗ landP c 4 fx fw ∗ landP c 6 fx fw
      ∗ landP c 8 fx fw ∗ landP c 10 fx fw) := by
  show _ ⊣⊢ iprop(gP c fullShare (gS c.val 0 4096) fx ∗ gP c fullShare (gS (lt c).val 0 2048) fx ∗ gP c fullShare (gS (lt c).val 2048 4096) fx
    ∗ gP c fullShare (gS (rt c).val 0 2048) fx ∗ gP c fullShare (gS (rt c).val 2048 4096) fx
    ∗ gP c fullShare (gS (dg c).val 0 2048) fx ∗ gP c fullShare (gS (dg c).val 2048 4096) fx)
  constructor
  · iintro H
    ihave H := (g_all c fullShare _).mp $$ H
    icases H with ⟨Hc, Hl, Hr, Hd⟩
    ihave Hl := (g_half c fullShare _ _).mp $$ Hl
    ihave Hr := (g_half c fullShare _ _).mp $$ Hr
    ihave Hd := (g_half c fullShare _ _).mp $$ Hd
    icases Hl with ⟨Hl, Hl'⟩
    icases Hr with ⟨Hr, Hr'⟩
    icases Hd with ⟨Hd, Hd'⟩
    isplitl [Hc]; · iexact Hc
    isplitl [Hl]; · iexact Hl
    isplitl [Hl']; · iexact Hl'
    isplitl [Hr]; · iexact Hr
    isplitl [Hr']; · iexact Hr'
    isplitl [Hd] <;> iassumption
  · iintro ⟨Hc, Hl, Hl', Hr, Hr', Hd, Hd'⟩
    iapply (g_all c fullShare _).mpr
    isplitl [Hc]; · iexact Hc
    isplitl [Hl Hl']
    · iapply (g_half c fullShare _ _).mpr; isplitl [Hl] <;> iassumption
    isplitl [Hr Hr']
    · iapply (g_half c fullShare _ _).mpr; isplitl [Hr] <;> iassumption
    iapply (g_half c fullShare _ _).mpr; isplitl [Hd] <;> iassumption

/-- The gathered `w` is what six copies land in. -/
theorem v_lands (fx : S4x4096x1024.Idx → Elt F .fp8e4m3) (fw : S3x1024x8192.Idx → Elt F .fp8e4m3) :
    vP c fullShare Finset.univ fw ⊣⊢ iprop(landP c 1 fx fw ∗ landP c 3 fx fw ∗ landP c 5 fx fw ∗ landP c 7 fx fw
      ∗ landP c 9 fx fw ∗ landP c 11 fx fw) := by
  show _ ⊣⊢ iprop(vP c fullShare (vS 0 0 512) fw ∗ vP c fullShare (vS 0 512 1024) fw ∗ vP c fullShare (vS 1 0 512) fw ∗ vP c fullShare (vS 1 512 1024) fw
    ∗ vP c fullShare (vS 2 0 512) fw ∗ vP c fullShare (vS 2 512 1024) fw)
  constructor
  · iintro H
    ihave H := (v_all c fullShare _).mp $$ H
    icases H with ⟨Hl, Hr, Hd⟩
    ihave Hl := (v_half c fullShare _ _).mp $$ Hl
    ihave Hr := (v_half c fullShare _ _).mp $$ Hr
    ihave Hd := (v_half c fullShare _ _).mp $$ Hd
    icases Hl with ⟨Hl, Hl'⟩
    icases Hr with ⟨Hr, Hr'⟩
    icases Hd with ⟨Hd, Hd'⟩
    isplitl [Hl]; · iexact Hl
    isplitl [Hl']; · iexact Hl'
    isplitl [Hr]; · iexact Hr
    isplitl [Hr']; · iexact Hr'
    isplitl [Hd] <;> iassumption
  · iintro ⟨Hl, Hl', Hr, Hr', Hd, Hd'⟩
    iapply (v_all c fullShare _).mpr
    isplitl [Hl Hl']
    · iapply (v_half c fullShare _ _).mpr; isplitl [Hl] <;> iassumption
    isplitl [Hr Hr']
    · iapply (v_half c fullShare _ _).mpr; isplitl [Hr] <;> iassumption
    iapply (v_half c fullShare _ _).mpr; isplitl [Hd] <;> iassumption

/-- What the first phase delivered of the left neighbour's `x`: a half lent to copy 10, the rest kept. -/
theorem g_left : iprop(recvPay m c 0 ∗ recvPay m c 2) ⊣⊢ iprop(sendPay m c 10 ∗ gP c qa (gS (lt c).val 0 2048) (XG m) ∗ gP c qr (gS (lt c).val 0 4096) (XG m)) := by
  show iprop(gP c fullShare (gS (lt c).val 0 2048) (XG m) ∗ gP c fullShare (gS (lt c).val 2048 4096) (XG m))
    ⊣⊢ iprop(gP c qa (gS (lt c).val 2048 4096) (XG m) ∗ gP c qa (gS (lt c).val 0 2048) (XG m) ∗ gP c qr (gS (lt c).val 0 4096) (XG m))
  constructor
  · iintro H
    ihave H := (g_half c fullShare _ _).mpr $$ H
    ihave H := (g_share c fullShare _ _).mp $$ H
    icases H with ⟨Ha, Hr⟩
    ihave Ha := (g_half c qa _ _).mp $$ Ha
    icases Ha with ⟨H0, H1⟩
    isplitl [H1]; · iexact H1
    isplitl [H0] <;> iassumption
  · iintro ⟨H1, H0, Hr⟩
    iapply (g_half c fullShare _ _).mp
    iapply (g_share c fullShare _ _).mpr
    isplitl [H0 H1]
    · iapply (g_half c qa _ _).mpr; isplitl [H0] <;> iassumption
    iexact Hr

theorem g_right : iprop(recvPay m c 4 ∗ recvPay m c 6) ⊣⊢ iprop(sendPay m c 8 ∗ gP c qa (gS (rt c).val 2048 4096) (XG m) ∗ gP c qr (gS (rt c).val 0 4096) (XG m)) := by
  show iprop(gP c fullShare (gS (rt c).val 0 2048) (XG m) ∗ gP c fullShare (gS (rt c).val 2048 4096) (XG m))
    ⊣⊢ iprop(gP c qa (gS (rt c).val 0 2048) (XG m) ∗ gP c qa (gS (rt c).val 2048 4096) (XG m) ∗ gP c qr (gS (rt c).val 0 4096) (XG m))
  constructor
  · iintro H
    ihave H := (g_half c fullShare _ _).mpr $$ H
    ihave H := (g_share c fullShare _ _).mp $$ H
    icases H with ⟨Ha, Hr⟩
    ihave Ha := (g_half c qa _ _).mp $$ Ha
    icases Ha with ⟨H0, H1⟩
    isplitl [H0]; · iexact H0
    isplitl [H1] <;> iassumption
  · iintro ⟨H0, H1, Hr⟩
    iapply (g_half c fullShare _ _).mp
    iapply (g_share c fullShare _ _).mpr
    isplitl [H0 H1]
    · iapply (g_half c qa _ _).mpr; isplitl [H0] <;> iassumption
    iexact Hr

theorem v_left : iprop(recvPay m c 1 ∗ recvPay m c 3) ⊣⊢ iprop(sendPay m c 11 ∗ vP c qa (vS 0 0 512) (WV m c) ∗ vP c qr (vS 0 0 1024) (WV m c)) := by
  show iprop(vP c fullShare (vS 0 0 512) (WV m c) ∗ vP c fullShare (vS 0 512 1024) (WV m c))
    ⊣⊢ iprop(vP c qa (vS 0 512 1024) (WV m c) ∗ vP c qa (vS 0 0 512) (WV m c) ∗ vP c qr (vS 0 0 1024) (WV m c))
  constructor
  · iintro H
    ihave H := (v_half c fullShare _ _).mpr $$ H
    ihave H := (v_share c fullShare _ _).mp $$ H
    icases H with ⟨Ha, Hr⟩
    ihave Ha := (v_half c qa _ _).mp $$ Ha
    icases Ha with ⟨H0, H1⟩
    isplitl [H1]; · iexact H1
    isplitl [H0] <;> iassumption
  · iintro ⟨H1, H0, Hr⟩
    iapply (v_half c fullShare _ _).mp
    iapply (v_share c fullShare _ _).mpr
    isplitl [H0 H1]
    · iapply (v_half c qa _ _).mpr; isplitl [H0] <;> iassumption
    iexact Hr

theorem v_right : iprop(recvPay m c 5 ∗ recvPay m c 7) ⊣⊢ iprop(sendPay m c 9 ∗ vP c qa (vS 1 512 1024) (WV m c) ∗ vP c qr (vS 1 0 1024) (WV m c)) := by
  show iprop(vP c fullShare (vS 1 0 512) (WV m c) ∗ vP c fullShare (vS 1 512 1024) (WV m c))
    ⊣⊢ iprop(vP c qa (vS 1 0 512) (WV m c) ∗ vP c qa (vS 1 512 1024) (WV m c) ∗ vP c qr (vS 1 0 1024) (WV m c))
  constructor
  · iintro H
    ihave H := (v_half c fullShare _ _).mpr $$ H
    ihave H := (v_share c fullShare _ _).mp $$ H
    icases H with ⟨Ha, Hr⟩
    ihave Ha := (v_half c qa _ _).mp $$ Ha
    icases Ha with ⟨H0, H1⟩
    isplitl [H0]; · iexact H0
    isplitl [H1] <;> iassumption
  · iintro ⟨H0, H1, Hr⟩
    iapply (v_half c fullShare _ _).mp
    iapply (v_share c fullShare _ _).mpr
    isplitl [H0 H1]
    · iapply (v_half c qa _ _).mpr; isplitl [H0] <;> iassumption
    iexact Hr

theorem g_diag : iprop(recvPay m c 8 ∗ recvPay m c 10) ⊣⊢ gP c fullShare (gS (dg c).val 0 4096) (XG m) := by
  show iprop(gP c fullShare (gS (dg c).val 0 2048) (XG m) ∗ gP c fullShare (gS (dg c).val 2048 4096) (XG m)) ⊣⊢ _
  exact ⟨(g_half c fullShare _ _).mpr, (g_half c fullShare _ _).mp⟩
theorem v_diag : iprop(recvPay m c 9 ∗ recvPay m c 11) ⊣⊢ vP c fullShare (vS 2 0 1024) (WV m c) := by
  show iprop(vP c fullShare (vS 2 0 512) (WV m c) ∗ vP c fullShare (vS 2 512 1024) (WV m c)) ⊣⊢ _
  exact ⟨(v_half c fullShare _ _).mpr, (v_half c fullShare _ _).mp⟩

/-! ## The staging slots -/

theorem tS_univ : (Finset.univ : Finset S2x1024x128.Idx) = tS 0 ∪ tS 1 := by
  ext i
  have h0 : (i 0).val < 2 := (i 0).isLt
  simp only [tS, Finset.mem_univ, Finset.mem_union, Finset.mem_filter, true_and, true_iff]
  omega
theorem tS_disj : Disjoint (tS 0) (tS 1) := by
  rw [Finset.disjoint_left]
  intro i h1 h2
  simp only [tS, Finset.mem_filter] at h1 h2
  omega
theorem bS_univ : (Finset.univ : Finset S2x4096x128.Idx) = bS 0 ∪ bS 1 := by
  ext i
  have h0 : (i 0).val < 2 := (i 0).isLt
  simp only [bS, Finset.mem_univ, Finset.mem_union, Finset.mem_filter, true_and, true_iff]
  omega
theorem bS_disj : Disjoint (bS 0) (bS 1) := by
  rw [Finset.disjoint_left]
  intro i h1 h2
  simp only [bS, Finset.mem_filter] at h1 h2
  omega

theorem t_slots : iprop(∃ f, tP (F := F) c Finset.univ f) ⊣⊢ iprop((∃ f, tP (F := F) c (tS 0) f) ∗ (∃ f, tP (F := F) c (tS 1) f)) := by
  rw [tS_univ]
  unfold tP
  constructor
  · iintro ⟨%f, H⟩
    ihave H := (pointsTo_union tS_disj).mp $$ H
    icases H with ⟨H0, H1⟩
    isplitl [H0]
    · iexists f; iexact H0
    · iexists f; iexact H1
  · iintro ⟨⟨%f, H0⟩, ⟨%g, H1⟩⟩
    iexists (tS 1).piecewise g f
    iapply (pointsTo_join tS_disj)
    isplitl [H0] <;> iassumption

theorem b_slots : iprop(∃ f, bP (F := F) c Finset.univ f) ⊣⊢ iprop((∃ f, bP (F := F) c (bS 0) f) ∗ (∃ f, bP (F := F) c (bS 1) f)) := by
  rw [bS_univ]
  unfold bP
  constructor
  · iintro ⟨%f, H⟩
    ihave H := (pointsTo_union bS_disj).mp $$ H
    icases H with ⟨H0, H1⟩
    isplitl [H0]
    · iexists f; iexact H0
    · iexists f; iexact H1
  · iintro ⟨⟨%f, H0⟩, ⟨%g, H1⟩⟩
    iexists (bS 1).piecewise g f
    iapply (pointsTo_join bS_disj)
    isplitl [H0] <;> iassumption

theorem a_slots : iprop(∃ f, aP (F := F) c Finset.univ f) ⊣⊢ iprop((∃ f, aP (F := F) c (bS 0) f) ∗ (∃ f, aP (F := F) c (bS 1) f)) := by
  rw [bS_univ]
  unfold aP
  constructor
  · iintro ⟨%f, H⟩
    ihave H := (pointsTo_union bS_disj).mp $$ H
    icases H with ⟨H0, H1⟩
    isplitl [H0]
    · iexists f; iexact H0
    · iexists f; iexact H1
  · iintro ⟨⟨%f, H0⟩, ⟨%g, H1⟩⟩
    iexists (bS 1).piecewise g f
    iapply (pointsTo_join bS_disj)
    isplitl [H0] <;> iassumption

end Cuts

end Cert.RingProof

end
-- ==== Proof.Loops.lean ====
/-
Loops: each of the three passes as a whole, from the first tile's fetch to the last tile's way out.
-/
module

public import proofs.«01_k».proof.Proof.Passes

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (m : (ℓ : Loc nD τ sig) → Buf (Elt F) ℓ) (c : Dev nD)

theorem AN_zero {G : S4096x8192.Idx → Elt F .f32} : AN (F := F) c G 0 = AFree c 0 := if_neg (by omega)
theorem AN_one {G : S4096x8192.Idx → Elt F .f32} : AN (F := F) c G 1 = AFree c 1 := if_neg (by omega)
theorem TN_end : TN m c 64 = TFree m c 0 := (if_neg (by omega)).trans (show TFree m c 64 = TFree m c 0 by unfold TFree; rfl)
theorem BN_end {G : S4096x8192.Idx → Elt F .f32} : BN (F := F) c G 64 = BFree c 0 := (if_neg (by omega)).trans (show BFree (F := F) c 64 = BFree c 0 by unfold BFree; rfl)
theorem TFree_end : TFree m c (64 + 1) = TFree m c 1 := by unfold TFree; rfl
theorem BFree_end : BFree (F := F) c (64 + 1) = BFree c 1 := by unfold BFree; rfl
theorem AFree_64 : AFree (F := F) c 64 = AFree c 0 := by unfold AFree; rfl
theorem AFree_65 : AFree (F := F) c 65 = AFree c 1 := by unfold AFree; rfl
theorem oP_nil (f : S4096x8192.Idx → Elt F .f32) : (emp : sProp 𝕄) ⊢ oP (F := F) c (oLo 0) f := by
  rw [oLo_zero]; unfold oP; exact Entails.of_eq pointsTo_empty.symm

/-- The last two tiles' way out is waited for. -/
theorem a_drain {G : S4096x8192.Idx → Elt F .f32} {O : CellTallies nD τ sig Unit}
    (hO : ∀ n, 28 ≤ n → n < 34 → (levAts L lv : sProp 𝕄) ⊢ MayWait (c : Thread nD τ) (.dma (qsem n)) () O)
    {α : Type} {rest : Prog (TpuEff nD τ sig (Elt F) Λ₀ .tc) α} {Q : α → sProp 𝕄}
    {inb1} {off2 : Fin 2 → ℕ} {inb2 hs2} {off3 : Fin 3 → ℕ} {inb3 hs3}
    {inb1'} {off2' : Fin 2 → ℕ} {inb2' hs2'} {off3' : Fin 3 → ℕ} {inb3' hs3'}
    {hsrc : (aSlot off3 inb3 hs3).view.WordExact} {hdst : (oTile off2 inb2 hs2).view.WordExact}
    {hsrc' : (aSlot off3' inb3' hs3').view.WordExact} {hdst' : (oTile off2' inb2' hs2').view.WordExact} :
    iprop(levAts L lv ∗ AN (F := F) c G 64 ∗ AN (F := F) c G (64 + 1) ∗ Ow c O ∗ oP c (oLo (64 - 2)) G)
      ⊢ iprop((iprop(AFree (F := F) c 0 ∗ AFree c 1 ∗ Ow c O ∗ oP c Finset.univ G) -∗ WP c rest Q)
        -∗ WP c (.op (.waitDma2 (sem2 cc0_scratch9 ![0] inb1) (aSlot off3 inb3 hs3) (oTile off2 inb2 hs2) hsrc hdst) fun _ =>
            .op (.waitDma2 (sem2 cc0_scratch9 ![1] inb1') (aSlot off3' inb3' hs3') (oTile off2' inb2' hs2') hsrc' hdst') fun _ => rest) Q) := by
  iintro ⟨#Hlev, HA, HA', HO, Ho⟩ Hk
  iapply (a_wait c hO (j := 64) rfl (by omega)) $$ [HA HO Ho]
  · isplitr; · iexact Hlev
    isplitl [HA]; · iexact HA
    isplitl [HO] <;> iassumption
  iintro ⟨HA, HO, Ho⟩
  iapply (a_wait c hO (j := 65) rfl (by omega)) $$ [HA' HO Ho]
  · isplitr; · iexact Hlev
    isplitl [HA']; · iexact HA'
    isplitl [HO] <;> iassumption
  iintro ⟨HA', HO, Ho⟩
  have e : oP (F := F) c (oLo (65 - 1)) G = oP c Finset.univ G := by rw [show 65 - 1 = 64 from rfl, oLo_end]
  ihave HA := (Entails.of_eq (AFree_64 c)) $$ HA
  ihave HA' := (Entails.of_eq (AFree_65 c)) $$ HA'
  ihave Ho := (Entails.of_eq e) $$ Ho
  iapply Hk
  isplitl [HA]; · iexact HA
  isplitl [HA']; · iexact HA'
  isplitl [HO] <;> iassumption

theorem pass1_all (O : CellTallies nD τ sig Unit)
    (hO : ∀ n, 28 ≤ n → n < 34 → (levAts L lv : sProp 𝕄) ⊢ MayWait (c : Thread nD τ) (.dma (qsem n)) () O) (f : S4096x8192.Idx → Elt F .f32) (v2 : BitVec 32)
    (arg2 : Memref sig .tc .smem S1 .f32) (harg2 : arg2.IsWhole) (arg3 : Memref sig .tc .smem S1 .f32) (harg3 : arg3.IsWhole)
    {α : Type} {rest : Prog (TpuEff nD τ sig (Elt F) Λ₀ .tc) α} {Q : α → sProp 𝕄}
    {inb1} {off2 : Fin 2 → ℕ} {inb2 hs2} {off3 : Fin 3 → ℕ} {inb3 hs3}
    {inb1'} {off2' : Fin 2 → ℕ} {inb2' hs2'} {off3' : Fin 3 → ℕ} {inb3' hs3'}
    {hsrc : (aSlot off3 inb3 hs3).view.WordExact} {hdst : (oTile off2 inb2 hs2).view.WordExact}
    {hsrc' : (aSlot off3' inb3' hs3').view.WordExact} {hdst' : (oTile off2' inb2' hs2').view.WordExact}
    {pinb1 pinb2 phs2 pinb3 phs3} {phsrc : (wTile ![0, 0] pinb2 phs2).view.WordExact} {phdst : (tSlot k0_off5 pinb3 phs3).view.WordExact}
    {pht : DmaTarget.Typed (nD := nD) (τ := τ) (p := .tc) .hbm (.dma (sem2 cc0_scratch7 k0_off4 pinb1)) (.here (tSlot k0_off5 pinb3 phs3))} :
    iprop(levAts L lv ∗ Ow c O ∗ TFree m c 0 ∗ TFree m c 1 ∗ AFree c 0 ∗ AFree c 1 ∗ gP c fullShare (gS c.val 0 4096) (XG m) ∗ oP c Finset.univ f)
      ⊢ iprop((iprop(Ow c O ∗ TFree m c 0 ∗ TFree m c 1 ∗ AFree c 0 ∗ AFree c 1 ∗ gP c fullShare (gS c.val 0 4096) (XG m) ∗ oP c Finset.univ (G1 m c)) -∗ WP c rest Q)
        -∗ WP c (.op (.enqueueDmaAs (wTile ![0, 0] pinb2 phs2) (.here (tSlot k0_off5 pinb3 phs3)) .same (.dma (sem2 cc0_scratch7 k0_off4 pinb1)) phsrc phdst pht) fun _ =>
          Scf.Loop.for k0_t1_loop k0_t1_ok ⟨⟩ (B1 (F := F) arg2 harg2 arg3 harg3 c v2) >>= fun _ =>
            .op (.waitDma2 (sem2 cc0_scratch9 ![0] inb1) (aSlot off3 inb3 hs3) (oTile off2 inb2 hs2) hsrc hdst) fun _ =>
            .op (.waitDma2 (sem2 cc0_scratch9 ![1] inb1') (aSlot off3' inb3' hs3') (oTile off2' inb2' hs2') hsrc' hdst') fun _ => rest) Q) := by
  iintro ⟨#Hlev, HO, HT, HT', HA, HA', Hg, Ho⟩ Hk
  iapply (t_next m c (j := 0) (by omega) k0_off4_eq rfl k0_off5_eq) $$ [HT]
  · iexact HT
  iintro HT
  iapply (Scf.wp_for_bind _ _ _ k0_t1_loop.lb k0_t1_loop.ub k0_t1_loop.st k0_t1_ok ⟨⟩ (B1 (F := F) arg2 harg2 arg3 harg3 c v2) (I1 m c O f)
    (fun k u => pass1_step m c O hO f arg2 harg2 arg3 harg3 v2 k u)) $$ [HO HT HT' HA HA' Hg Ho]
  · unfold I1
    rw [AN_zero, AN_one, oHi_zero]
    isplitr; · iexact Hlev
    isplitl [HO]; · iexact HO
    isplitl [HT]; · iexact HT
    isplitl [HT']; · iexact HT'
    isplitl [HA]; · iexact HA
    isplitl [HA']; · iexact HA'
    isplitl [Hg]; · iexact Hg
    isplitl [Ho]; · iexact Ho
    iapply (oP_nil c (G1 m c)); iempintro
  iintro %u H
  have e : I1 m c O f k0_t1_loop.trips u = I1 m c O f 64 u := by rw [trips1]
  ihave H := (Entails.of_eq e) $$ H
  unfold I1
  icases H with ⟨-, HO, HT, HT', HA, HA', Hg, -, Hd⟩
  iapply (a_drain c hO) $$ [HA HA' HO Hd]
  · isplitr; · iexact Hlev
    isplitl [HA]; · iexact HA
    isplitl [HA']; · iexact HA'
    isplitl [HO] <;> iassumption
  iintro ⟨HA, HA', HO, Ho⟩
  iapply Hk
  ihave HT := (Entails.of_eq (TN_end m c)) $$ HT
  ihave HT' := (Entails.of_eq (TFree_end m c)) $$ HT'
  isplitl [HO]; · iexact HO
  isplitl [HT]; · iexact HT
  isplitl [HT']; · iexact HT'
  isplitl [HA]; · iexact HA
  isplitl [HA']; · iexact HA'
  isplitl [Hg] <;> iassumption

theorem pass2_all (O : CellTallies nD τ sig Unit)
    (hO : ∀ n, 28 ≤ n → n < 34 → (levAts L lv : sProp 𝕄) ⊢ MayWait (c : Thread nD τ) (.dma (qsem n)) () O) (v13 v24 : BitVec 32)
    (arg2 : Memref sig .tc .smem S1 .f32) (harg2 : arg2.IsWhole) (arg3 : Memref sig .tc .smem S1 .f32) (harg3 : arg3.IsWhole)
    {α : Type} {rest : Prog (TpuEff nD τ sig (Elt F) Λ₀ .tc) α} {Q : α → sProp 𝕄}
    {inb1} {off2 : Fin 2 → ℕ} {inb2 hs2} {off3 : Fin 3 → ℕ} {inb3 hs3}
    {inb1'} {off2' : Fin 2 → ℕ} {inb2' hs2'} {off3' : Fin 3 → ℕ} {inb3' hs3'}
    {hsrc : (aSlot off3 inb3 hs3).view.WordExact} {hdst : (oTile off2 inb2 hs2).view.WordExact}
    {hsrc' : (aSlot off3' inb3' hs3').view.WordExact} {hdst' : (oTile off2' inb2' hs2').view.WordExact}
    {poff3 : Fin 3 → ℕ} {pinb1 pinb2 phs2 pinb3 phs3} (h3 : poff3 = ![0, 0, 0]) {phsrc : (oTile ![0, 0] pinb2 phs2).view.WordExact} {phdst : (bSlot poff3 pinb3 phs3).view.WordExact}
    {pht : DmaTarget.Typed (nD := nD) (τ := τ) (p := .tc) .hbm (.dma (sem2 cc0_scratch8 k0_off4 pinb1)) (.here (bSlot poff3 pinb3 phs3))} :
    iprop(levAts L lv ∗ Ow c O ∗ BFree c 0 ∗ BFree c 1 ∗ AFree c 0 ∗ AFree c 1 ∗ gP c qr (gS (lt c).val 0 4096) (XG m) ∗ vP c qr (vS 0 0 1024) (WV m c) ∗ gP c qr (gS (rt c).val 0 4096) (XG m) ∗ vP c qr (vS 1 0 1024) (WV m c) ∗ oP c Finset.univ (G1 m c))
      ⊢ iprop((iprop(Ow c O ∗ BFree c 0 ∗ BFree c 1 ∗ AFree c 0 ∗ AFree c 1 ∗ gP c qr (gS (lt c).val 0 4096) (XG m) ∗ vP c qr (vS 0 0 1024) (WV m c) ∗ gP c qr (gS (rt c).val 0 4096) (XG m) ∗ vP c qr (vS 1 0 1024) (WV m c) ∗ oP c Finset.univ (G2 m c)) -∗ WP c rest Q)
        -∗ WP c (.op (.enqueueDmaAs (oTile ![0, 0] pinb2 phs2) (.here (bSlot poff3 pinb3 phs3)) .same (.dma (sem2 cc0_scratch8 k0_off4 pinb1)) phsrc phdst pht) fun _ =>
          Scf.Loop.for k0_t2_loop k0_t2_ok ⟨⟩ (B2 (F := F) arg2 harg2 arg3 harg3 c v13 v24) >>= fun _ =>
            .op (.waitDma2 (sem2 cc0_scratch9 ![0] inb1) (aSlot off3 inb3 hs3) (oTile off2 inb2 hs2) hsrc hdst) fun _ =>
            .op (.waitDma2 (sem2 cc0_scratch9 ![1] inb1') (aSlot off3' inb3' hs3') (oTile off2' inb2' hs2') hsrc' hdst') fun _ => rest) Q) := by
  iintro ⟨#Hlev, HO, HB, HB', HA, HA', Hgl, Hvl, Hgr, Hvr, Ho⟩ Hk
  iapply (b_next c (j := 0) (by omega) (G1 m c) k0_off4_eq rfl h3) $$ [HB Ho]
  · isplitl [HB]; · iexact HB
    rw [oHi_zero]; iexact Ho
  iintro ⟨HB, Ho⟩
  iapply (Scf.wp_for_bind _ _ _ k0_t2_loop.lb k0_t2_loop.ub k0_t2_loop.st k0_t2_ok ⟨⟩ (B2 (F := F) arg2 harg2 arg3 harg3 c v13 v24) (I2 m c O)
    (fun k u => pass2_step m c O hO arg2 harg2 arg3 harg3 v13 v24 k u)) $$ [HO HB HB' HA HA' Hgl Hvl Hgr Hvr Ho]
  · unfold I2
    rw [AN_zero, AN_one]
    isplitr; · iexact Hlev
    isplitl [HO]; · iexact HO
    isplitl [HB]; · iexact HB
    isplitl [HB']; · iexact HB'
    isplitl [HA]; · iexact HA
    isplitl [HA']; · iexact HA'
    isplitl [Hgl]; · iexact Hgl
    isplitl [Hvl]; · iexact Hvl
    isplitl [Hgr]; · iexact Hgr
    isplitl [Hvr]; · iexact Hvr
    isplitl [Ho]; · iexact Ho
    iapply (oP_nil c (G2 m c)); iempintro
  iintro %u H
  have e : I2 m c O k0_t2_loop.trips u = I2 m c O 64 u := by rw [trips2]
  ihave H := (Entails.of_eq e) $$ H
  unfold I2
  icases H with ⟨-, HO, HB, HB', HA, HA', Hgl, Hvl, Hgr, Hvr, -, Hd⟩
  iapply (a_drain c hO) $$ [HA HA' HO Hd]
  · isplitr; · iexact Hlev
    isplitl [HA]; · iexact HA
    isplitl [HA']; · iexact HA'
    isplitl [HO] <;> iassumption
  iintro ⟨HA, HA', HO, Ho⟩
  iapply Hk
  ihave HB := (Entails.of_eq (BN_end c)) $$ HB
  ihave HB' := (Entails.of_eq (BFree_end c)) $$ HB'
  isplitl [HO]; · iexact HO
  isplitl [HB]; · iexact HB
  isplitl [HB']; · iexact HB'
  isplitl [HA]; · iexact HA
  isplitl [HA']; · iexact HA'
  isplitl [Hgl]; · iexact Hgl
  isplitl [Hvl]; · iexact Hvl
  isplitl [Hgr]; · iexact Hgr
  isplitl [Hvr]; · iexact Hvr
  iexact Ho

theorem pass3_all (O : CellTallies nD τ sig Unit)
    (hO : ∀ n, 28 ≤ n → n < 34 → (levAts L lv : sProp 𝕄) ⊢ MayWait (c : Thread nD τ) (.dma (qsem n)) () O) (s : F .f32) (q₁ q₂ : PosShare TreeShare) (v35 : BitVec 32)
    (arg2 : Memref sig .tc .smem S1 .f32) (harg2 : arg2.IsWhole) (arg3 : Memref sig .tc .smem S1 .f32) (harg3 : arg3.IsWhole)
    {α : Type} {rest : Prog (TpuEff nD τ sig (Elt F) Λ₀ .tc) α} {Q : α → sProp 𝕄}
    {inb1} {off2 : Fin 2 → ℕ} {inb2 hs2} {off3 : Fin 3 → ℕ} {inb3 hs3}
    {inb1'} {off2' : Fin 2 → ℕ} {inb2' hs2'} {off3' : Fin 3 → ℕ} {inb3' hs3'}
    {hsrc : (aSlot off3 inb3 hs3).view.WordExact} {hdst : (oTile off2 inb2 hs2).view.WordExact}
    {hsrc' : (aSlot off3' inb3' hs3').view.WordExact} {hdst' : (oTile off2' inb2' hs2').view.WordExact}
    {poff3 : Fin 3 → ℕ} {pinb1 pinb2 phs2 pinb3 phs3} (h3 : poff3 = ![0, 0, 0]) {phsrc : (oTile ![0, 0] pinb2 phs2).view.WordExact} {phdst : (bSlot poff3 pinb3 phs3).view.WordExact}
    {pht : DmaTarget.Typed (nD := nD) (τ := τ) (p := .tc) .hbm (.dma (sem2 cc0_scratch8 k0_off4 pinb1)) (.here (bSlot poff3 pinb3 phs3))} :
    iprop(levAts L lv ∗ Ow c O ∗ BFree c 0 ∗ BFree c 1 ∗ AFree c 0 ∗ AFree c 1 ∗ gP c q₁ (gS (dg c).val 0 4096) (XG m) ∗ vP c q₂ (vS 2 0 1024) (WV m c) ∗ oP c Finset.univ (G2 m c))
      ⊢ iprop((iprop(Ow c O ∗ BFree c 0 ∗ BFree c 1 ∗ AFree c 0 ∗ AFree c 1 ∗ gP c q₁ (gS (dg c).val 0 4096) (XG m) ∗ vP c q₂ (vS 2 0 1024) (WV m c) ∗ oP c Finset.univ (G3 m c s)) -∗ WP c rest Q)
        -∗ WP c (.op (.enqueueDmaAs (oTile ![0, 0] pinb2 phs2) (.here (bSlot poff3 pinb3 phs3)) .same (.dma (sem2 cc0_scratch8 k0_off4 pinb1)) phsrc phdst pht) fun _ =>
          Scf.Loop.for k0_t3_loop k0_t3_ok ⟨⟩ (B3 (F := F) arg2 harg2 arg3 harg3 c v35 s) >>= fun _ =>
            .op (.waitDma2 (sem2 cc0_scratch9 ![0] inb1) (aSlot off3 inb3 hs3) (oTile off2 inb2 hs2) hsrc hdst) fun _ =>
            .op (.waitDma2 (sem2 cc0_scratch9 ![1] inb1') (aSlot off3' inb3' hs3') (oTile off2' inb2' hs2') hsrc' hdst') fun _ => rest) Q) := by
  iintro ⟨#Hlev, HO, HB, HB', HA, HA', Hg, Hv, Ho⟩ Hk
  iapply (b_next c (j := 0) (by omega) (G2 m c) k0_off4_eq rfl h3) $$ [HB Ho]
  · isplitl [HB]; · iexact HB
    rw [oHi_zero]; iexact Ho
  iintro ⟨HB, Ho⟩
  iapply (Scf.wp_for_bind _ _ _ k0_t3_loop.lb k0_t3_loop.ub k0_t3_loop.st k0_t3_ok ⟨⟩ (B3 (F := F) arg2 harg2 arg3 harg3 c v35 s) (I3 m c O s q₁ q₂)
    (fun k u => pass3_step m c O hO s q₁ q₂ arg2 harg2 arg3 harg3 v35 k u)) $$ [HO HB HB' HA HA' Hg Hv Ho]
  · unfold I3
    rw [AN_zero, AN_one]
    isplitr; · iexact Hlev
    isplitl [HO]; · iexact HO
    isplitl [HB]; · iexact HB
    isplitl [HB']; · iexact HB'
    isplitl [HA]; · iexact HA
    isplitl [HA']; · iexact HA'
    isplitl [Hg]; · iexact Hg
    isplitl [Hv]; · iexact Hv
    isplitl [Ho]; · iexact Ho
    iapply (oP_nil c (G3 m c s)); iempintro
  iintro %u H
  have e : I3 m c O s q₁ q₂ k0_t3_loop.trips u = I3 m c O s q₁ q₂ 64 u := by rw [trips3]
  ihave H := (Entails.of_eq e) $$ H
  unfold I3
  icases H with ⟨-, HO, HB, HB', HA, HA', Hg, Hv, -, Hd⟩
  iapply (a_drain c hO) $$ [HA HA' HO Hd]
  · isplitr; · iexact Hlev
    isplitl [HA]; · iexact HA
    isplitl [HA']; · iexact HA'
    isplitl [HO] <;> iassumption
  iintro ⟨HA, HA', HO, Ho⟩
  iapply Hk
  ihave HB := (Entails.of_eq (BN_end c)) $$ HB
  ihave HB' := (Entails.of_eq (BFree_end c)) $$ HB'
  isplitl [HO]; · iexact HO
  isplitl [HB]; · iexact HB
  isplitl [HB']; · iexact HB'
  isplitl [HA]; · iexact HA
  isplitl [HA']; · iexact HA'
  isplitl [Hg]; · iexact Hg
  isplitl [Hv]; · iexact Hv
  iexact Ho

end Cert.RingProof

end
-- ==== Proof.Start.lean ====
/-
Start: the barrier and the local copy at the kernel's start, and the name of the peer each copy goes to.
-/
module

public import proofs.«01_k».proof.Proof.Split
public import proofs.«01_k».proof.Proof.Loops

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (m : (ℓ : Loc nD τ sig) → Buf (Elt F) ℓ) (c : Dev nD) (K : Dev nD × Fin 25 → ℕ)

/-! ## The peers -/

theorem dev1_eq (d : Dev nD) : (⟨k0_dev1 d, k0_dev1_lt d⟩ : Dev nD) = lt d := by revert d; decide +kernel
theorem dev2_eq (d : Dev nD) : (⟨k0_dev2 d, k0_dev2_lt d⟩ : Dev nD) = rt d := by revert d; decide +kernel
theorem dev3_eq (d : Dev nD) : (⟨k0_dev3 d, k0_dev3_lt d⟩ : Dev nD) = peer d 0 := by revert d; decide +kernel
theorem dev4_eq (d : Dev nD) : (⟨k0_dev4 d, k0_dev4_lt d⟩ : Dev nD) = peer d 1 := by revert d; decide +kernel
theorem dev5_eq (d : Dev nD) : (⟨k0_dev5 d, k0_dev5_lt d⟩ : Dev nD) = peer d 2 := by revert d; decide +kernel
theorem dev6_eq (d : Dev nD) : (⟨k0_dev6 d, k0_dev6_lt d⟩ : Dev nD) = peer d 3 := by revert d; decide +kernel
theorem dev7_eq (d : Dev nD) : (⟨k0_dev7 d, k0_dev7_lt d⟩ : Dev nD) = peer d 4 := by revert d; decide +kernel
theorem dev8_eq (d : Dev nD) : (⟨k0_dev8 d, k0_dev8_lt d⟩ : Dev nD) = peer d 5 := by revert d; decide +kernel
theorem dev9_eq (d : Dev nD) : (⟨k0_dev9 d, k0_dev9_lt d⟩ : Dev nD) = peer d 6 := by revert d; decide +kernel
theorem dev10_eq (d : Dev nD) : (⟨k0_dev10 d, k0_dev10_lt d⟩ : Dev nD) = peer d 7 := by revert d; decide +kernel
theorem dev11_eq (d : Dev nD) : (⟨k0_dev11 d, k0_dev11_lt d⟩ : Dev nD) = peer d 8 := by revert d; decide +kernel
theorem dev12_eq (d : Dev nD) : (⟨k0_dev12 d, k0_dev12_lt d⟩ : Dev nD) = peer d 9 := by revert d; decide +kernel
theorem dev13_eq (d : Dev nD) : (⟨k0_dev13 d, k0_dev13_lt d⟩ : Dev nD) = peer d 10 := by revert d; decide +kernel
theorem dev14_eq (d : Dev nD) : (⟨k0_dev14 d, k0_dev14_lt d⟩ : Dev nD) = peer d 11 := by revert d; decide +kernel

/-! ## Waiting is allowed -/

omit [FloatOps F] in
theorem mayWait0 (sm : SemLoc sig) : (levAts L lv : sProp 𝕄) ⊢ MayWait (c : Thread nD τ) sm () (OR c 0) := by
  show _ ⊢ MayWait (c : Thread nD τ) sm () 0
  rw [MayWait_zero]; iintro -; iempintro
omit [FloatOps F] in
theorem mayWait_local (k : ℕ) (hk : k ≤ 12) : ∀ n, 28 ≤ n → n < 34 → (levAts L lv : sProp 𝕄) ⊢ MayWait (c : Thread nD τ) (.dma (qsem n)) () (OR c k) := by
  intro n h1 h2
  refine mayWait_OR c k hk _ (Or.inl ?_)
  show (if 4 ≤ n % 34 ∧ n % 34 < 28 ∧ n % 34 % 2 = 1 then (if n % 34 < 20 then 2 else 3) else 0) < 2
  rw [if_neg (by omega)]; decide

/-! ## The landing places of the peers -/

def Land (t : ℕ) : sProp 𝕄 := iprop(∃ fx fw, landP (F := F) (peer c t) t fx fw)
/-- Copy `t` may be sent. -/
def Go (t : ℕ) : sProp 𝕄 := iprop(Ready (F := F) c t ∗ Land c t)

omit [FloatOps F] in
theorem lands_true : barPay (F := F) c true ⊢ iprop(Land c 0 ∗ Land c 1 ∗ Land c 2 ∗ Land c 3 ∗ Land c 10 ∗ Land c 11) := by
  show iprop(∃ fx fw, landP (F := F) (rt c) 0 fx fw ∗ landP (rt c) 1 fx fw ∗ landP (rt c) 2 fx fw ∗ landP (rt c) 3 fx fw
      ∗ landP (rt c) 10 fx fw ∗ landP (rt c) 11 fx fw)
    ⊢ iprop((∃ fx fw, landP (F := F) (rt c) 0 fx fw) ∗ (∃ fx fw, landP (F := F) (rt c) 1 fx fw) ∗ (∃ fx fw, landP (F := F) (rt c) 2 fx fw)
      ∗ (∃ fx fw, landP (F := F) (rt c) 3 fx fw) ∗ (∃ fx fw, landP (F := F) (rt c) 10 fx fw) ∗ (∃ fx fw, landP (F := F) (rt c) 11 fx fw))
  iintro ⟨%fx, %fw, H0, H1, H2, H3, H4, H5⟩
  isplitl [H0]; · iexists fx, fw; iexact H0
  isplitl [H1]; · iexists fx, fw; iexact H1
  isplitl [H2]; · iexists fx, fw; iexact H2
  isplitl [H3]; · iexists fx, fw; iexact H3
  isplitl [H4]; · iexists fx, fw; iexact H4
  iexists fx, fw; iexact H5

omit [FloatOps F] in
theorem lands_false : barPay (F := F) c false ⊢ iprop(Land c 4 ∗ Land c 5 ∗ Land c 6 ∗ Land c 7 ∗ Land c 8 ∗ Land c 9) := by
  show iprop(∃ fx fw, landP (F := F) (lt c) 4 fx fw ∗ landP (lt c) 5 fx fw ∗ landP (lt c) 6 fx fw ∗ landP (lt c) 7 fx fw
      ∗ landP (lt c) 8 fx fw ∗ landP (lt c) 9 fx fw)
    ⊢ iprop((∃ fx fw, landP (F := F) (lt c) 4 fx fw) ∗ (∃ fx fw, landP (F := F) (lt c) 5 fx fw) ∗ (∃ fx fw, landP (F := F) (lt c) 6 fx fw)
      ∗ (∃ fx fw, landP (F := F) (lt c) 7 fx fw) ∗ (∃ fx fw, landP (F := F) (lt c) 8 fx fw) ∗ (∃ fx fw, landP (F := F) (lt c) 9 fx fw))
  iintro ⟨%fx, %fw, H0, H1, H2, H3, H4, H5⟩
  isplitl [H0]; · iexists fx, fw; iexact H0
  isplitl [H1]; · iexists fx, fw; iexact H1
  isplitl [H2]; · iexists fx, fw; iexact H2
  isplitl [H3]; · iexists fx, fw; iexact H3
  isplitl [H4]; · iexists fx, fw; iexact H4
  iexists fx, fw; iexact H5

/-- Where the device's neighbours' copies land on it, for the left and for the right neighbour's copies. -/
def MineL (fx : S4x4096x1024.Idx → Elt F .fp8e4m3) (fw : S3x1024x8192.Idx → Elt F .fp8e4m3) : sProp 𝕄 :=
  iprop(landP (F := F) c 0 fx fw ∗ landP c 1 fx fw ∗ landP c 2 fx fw ∗ landP c 3 fx fw ∗ landP c 10 fx fw ∗ landP c 11 fx fw)
def MineR (fx : S4x4096x1024.Idx → Elt F .fp8e4m3) (fw : S3x1024x8192.Idx → Elt F .fp8e4m3) : sProp 𝕄 :=
  iprop(landP (F := F) c 4 fx fw ∗ landP c 5 fx fw ∗ landP c 6 fx fw ∗ landP c 7 fx fw ∗ landP c 8 fx fw ∗ landP c 9 fx fw)

theorem mine_left (fx fw) : MineL (F := F) c fx fw ⊢ (Rd m).payload ((lt c : Thread nD τ), SemLoc.reg barS) 0 true := by
  show _ ⊢ iprop(∃ fx fw, landP (F := F) (rt (lt c)) 0 fx fw ∗ landP (rt (lt c)) 1 fx fw ∗ landP (rt (lt c)) 2 fx fw ∗ landP (rt (lt c)) 3 fx fw
      ∗ landP (rt (lt c)) 10 fx fw ∗ landP (rt (lt c)) 11 fx fw)
  rw [rt_lt]; unfold MineL
  iintro H; iexists fx, fw; iexact H
theorem mine_right (fx fw) : MineR (F := F) c fx fw ⊢ (Rd m).payload ((rt c : Thread nD τ), SemLoc.reg barS) 0 false := by
  show _ ⊢ iprop(∃ fx fw, landP (F := F) (lt (rt c)) 4 fx fw ∗ landP (lt (rt c)) 5 fx fw ∗ landP (lt (rt c)) 6 fx fw ∗ landP (lt (rt c)) 7 fx fw
      ∗ landP (lt (rt c)) 8 fx fw ∗ landP (lt (rt c)) 9 fx fw)
  rw [lt_rt]; unfold MineR
  iintro H; iexists fx, fw; iexact H

/-! ## The barrier -/

/-- Before the barrier: the right to signal both neighbours, the device's own position and credit. -/
def BarStart : sProp 𝕄 :=
  iprop(dutyTok ER (barCell (lt c)) 0 true ∗ dutyTok ER (barCell (rt c)) 0 false ∗ atPos ER (barCell c) 0 ∅ 0 ∗ cred (tallyAt (barCell c) () 2))

theorem barrier {α : Type} {Q : α → sProp 𝕄} {rest : Prog (TpuEff nD τ sig (Elt F) Λ₀ .tc) α} (fx fw)
    {n₁ n₂ : Dev nD} (h₁ : n₁ = lt c) (h₂ : n₂ = rt c) :
    iprop(Recs m K ∗ levAts L lv ∗ BarStart (F := F) c ∗ Ow c (O₀ c) ∗ MineL c fx fw ∗ MineR c fx fw)
      ⊢ iprop((iprop(Ow c (OR c 12) ∗ semVal (barCell c) 0 ∗ barPay (F := F) c false ∗ barPay c true) -∗ WP c rest Q)
        -∗ WP c (.op (.semSignal (Dev.tc n₁ : Thread nD τ) barS (1#32).toNat) fun _ => .op (.semSignal (Dev.tc n₂ : Thread nD τ) barS (1#32).toNat) fun _ =>
            .op (.semWait barS (2#32).toNat) fun _ => rest) Q) := by
  subst h₁ h₂
  unfold BarStart Ow
  iintro ⟨#Hrec, #Hlev, ⟨HtL, HtR, Hat, Hcr⟩, ⟨%W, HO⟩, HmL, HmR⟩ Hk
  ihave #HL := recs_bar m K (lt c) $$ Hrec
  ihave #HR := recs_bar m K (rt c) $$ Hrec
  ihave #HC := recs_bar m K c $$ Hrec
  icases HL with ⟨#HiL, #HrL⟩
  icases HR with ⟨#HiR, #HrR⟩
  icases HC with ⟨#HiC, -⟩
  iapply (Rounds.wp_signal 𝒱₀ ER (Rd m) (c : Thread nD τ) none (dst := (lt c : Thread nD τ)) (κ := K (lt c, ⟨24, by omega⟩))
      (d := true) (by rw [duties_bar]; exact Finset.mem_univ _) ((amount_bar m (lt c) true).trans (by decide)) () (O₁ c) rfl)
    $$ [HO HtL HmL]
  · isplitr; · iexact HiL
    isplitl [HO]; · iexact HO
    isplitl [HtL]; · iexact HtL
    isplitl [HmL]; · iapply (mine_left m c fx fw); iexact HmL
    iexact HrL
  iintro HO
  unfold O₁
  iapply (Rounds.wp_signal 𝒱₀ ER (Rd m) (c : Thread nD τ) none (dst := (rt c : Thread nD τ)) (κ := K (rt c, ⟨24, by omega⟩))
      (d := false) (by rw [duties_bar]; exact Finset.mem_univ _) ((amount_bar m (rt c) false).trans (by decide)) () (OR c 12) rfl)
    $$ [HO HtR HmR]
  · isplitr; · iexact HiR
    isplitl [HO]; · iexact HO
    isplitl [HtR]; · iexact HtR
    isplitl [HmR]; · iapply (mine_right m c fx fw); iexact HmR
    iexact HrR
  iintro HO
  iapply (Rounds.wp_wait_rest_token 𝒱₀ ER (Rd m) (c : Thread nD τ) none (κ := K (c, ⟨24, by omega⟩))
      (wpE_semWait_eq 𝒱₀ (c : Thread nD τ) none Set.univ) (Set.mem_univ _) () (O := OR c 12) (W := W) (R := 0) (m := 0) (T := ∅)
      (by rw [expect_bar]; decide)) $$ [Hcr HO Hat]
  · isplitr; · iexact HiC
    isplitl [Hcr]; · iexact Hcr
    isplitl [HO]; · iexact HO
    isplitr; · iapply (mayWait_OR c 12 (le_refl _) (.reg barS) (Or.inl Nat.one_lt_two)); iexact Hlev
    iexact Hat
  iintro ⟨HO, Hat, -, Hpay⟩
  ihave Hp := (Entails.of_eq (rest_bar m c)) $$ Hpay
  icases Hp with ⟨HpF, HpT⟩
  imod (Rounds.cell_close ER (Rd m) (Set.mem_univ (K (c, ⟨24, by omega⟩))) (fun h => h) (R := 0 + 1) (duties_later m (barCell c))) $$ [Hat] with Hz
  · isplitr; · iexact HiC
    iexact Hat
  iapply Hk
  isplitl [HO]; · iexists _; iexact HO
  isplitl [Hz]; · iexact Hz
  isplitl [HpF] <;> iassumption

/-! ## The device's own block of `x`, copied beside -/

theorem cx_land {off3 : Fin 3 → ℕ} {inb3 hs3} (h3 : off3 = ![c.val, 0, 0]) (fd : S4x4096x1024.Idx → Elt F .fp8e4m3) :
    ∀ i ∈ gS c.val 0 4096, (gSlab off3 inb3 hs3).view.write (Elt F) fd (xM.view.read (Elt F) (X m c)) Finset.univ i = XG m i := by
  rw [← gSlab_set inb3 hs3 _ h3]
  subst h3
  refine land_eq (gSlab _ inb3 hs3).view fd (XG m) _ fun x => ?_
  have hx0 : (x 0).val < 4096 := (x 0).isLt
  have hx1 : (x 1).val < 1024 := (x 1).isLt
  rw [gSlab_read inb3 hs3 (XG m) x (ix3 ⟨c.val, c.isLt⟩ ⟨(x 0).val, hx0⟩ ⟨(x 1).val, hx1⟩) rfl (Nat.zero_add _).symm (Nat.zero_add _).symm]
  show X m c x = X m c _
  exact congrArg (X m c) (eq2 rfl rfl)

theorem credit_cx {off : Fin 3 → ℕ} (inb hs) : (gSlab off inb hs).view.dmaCredit = NC := rfl

theorem cx_start {α : Type} {Q : α → sProp 𝕄} {k : PUnit → Prog (TpuEff nD τ sig (Elt F) Λ₀ .tc) α}
    {off1 : Fin 1 → ℕ} {inb1} {off3 : Fin 3 → ℕ} {inb3 hs3} (h1 : off1 = ![0]) (h3 : off3 = ![c.val, 0, 0])
    {hsrc : xM.view.WordExact} {hdst : (gSlab off3 inb3 hs3).view.WordExact}
    {ht : DmaTarget.Typed (nD := nD) (τ := τ) (p := .tc) .hbm (.dma (sem2 cc0_scratch5 off1 inb1)) (.here (gSlab off3 inb3 hs3))} (f) :
    iprop(xP c qk Finset.univ (X m c) ∗ gP (F := F) c fullShare (gS c.val 0 4096) f ∗ Rest c 2)
      ⊢ iprop((Fly c 2 NC iprop(gP c fullShare (gS c.val 0 4096) (XG m) ∗ xP c qk Finset.univ (X m c)) -∗ WP c (k ⟨⟩) Q)
        -∗ WP c (.op (.enqueueDmaAs xM (.here (gSlab off3 inb3 hs3)) .same (.dma (sem2 cc0_scratch5 off1 inb1)) hsrc hdst ht) k) Q) := by
  revert ht
  rw [sem2_eq cc0_scratch5 2 (by decide) (by decide) inb1 0 (by decide) h1]
  intro ht
  have hset : xM.view.set = Finset.univ := View.set_whole main_arg0
  iintro ⟨Hx, Hg, Hv⟩ Hk
  unfold gP xP
  iapply (wp_dmaLocal EC 𝒱₀ (c : Thread nD τ) none (src := xM) (dst := gSlab off3 inb3 hs3) (via := .same) (sm := .dma (qsem (2 + 0)))
    (fs := X m c) (fd := f) (q := qk) (Sd := gS c.val 0 4096) () NC ((View.amount_dma _ _).trans (credit_cx inb3 hs3)) NC_pos (gSlab_set inb3 hs3 _ h3).subset) $$ [Hx Hg Hv]
  · isplitl [Hx]; · rw [hset]; iexact Hx
    isplitl [Hg]; · iexact Hg
    iexact Hv
  iintro Hf
  iapply Hk
  iapply (Flight_mono EC (c : Thread nD τ) ?_) $$ Hf
  iintro ⟨Hg, Hx⟩
  isplitl [Hg]
  · have e : (((c : Thread nD τ).loc cc0_scratch0) ↦[gS c.val 0 4096]{fullShare} ((gSlab off3 inb3 hs3).view.write (Elt F) f (xM.view.read (Elt F) (X m c)) Finset.univ) : sProp 𝕄)
      = (((c : Thread nD τ).loc cc0_scratch0) ↦[gS c.val 0 4096]{fullShare} XG m) := pointsTo_congr (cx_land m c h3 f)
    rw [← e]
    iexact Hg
  · rw [hset]; iexact Hx

end Cert.RingProof

end
-- ==== Proof.Steps.lean ====
/-
Steps: one rule for each of the twelve copies between devices, and one for the two waits on each.
-/
module

public import proofs.«01_k».proof.Proof.Start

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (m : (ℓ : Loc nD τ sig) → Buf (Elt F) ℓ) (c : Dev nD) (K : Dev nD × Fin 25 → ℕ)

theorem out0 {α : Type} {Q : α → sProp 𝕄} {k : PUnit → Prog (TpuEff nD τ sig (Elt F) Λ₀ .tc) α} {inb2 hs2 inb3 hs3 inbS inbR hsc hsrc hdst hsem} :
    iprop(Recs m K ∗ Go c 0 ∗ sendPay m c 0 ∗ Ow c (OR c 12))
      ⊢ iprop((iprop(Sent c 0 ∗ Ow c (OR c 11)) -∗ WP c (k ⟨⟩) Q)
        -∗ WP c (.op (.enqueueDmaAs (xHalf ![0, 0] inb2 hs2) (.remote (Dev.tc (⟨k0_dev3 c, k0_dev3_lt c⟩ : Dev nD) : Thread nD τ) (gHalf (k0_off2 c) inb3 hs3) (.dma (sem24 ![0] inbS)) hsc) .same
          (.dma (sem24 ![1] inbR)) hsrc hdst hsem) k) Q) := by
  unfold Go Land
  iintro ⟨#Hrec, ⟨Hr, %fx, %fw, Hl⟩, Hs, HO⟩ Hk
  iapply (send_x m c K (t := 0) (k' := 11) (r := 0) (by omega) rfl (by omega) rfl (fun fx fw => by show gP (rt c) _ (gS (lt (rt c)).val _ _) _ = _; rw [lt_rt]; rfl) rfl (k0_off2_eq c) (dev3_eq c) rfl rfl) $$ [Hr Hs Hl HO]
  · isplitr; · iexact Hrec
    isplitl [Hr]; · iexact Hr
    isplitl [Hs]; · iexact Hs
    isplitl [Hl] <;> iassumption
  iexact Hk

theorem out1 {α : Type} {Q : α → sProp 𝕄} {k : PUnit → Prog (TpuEff nD τ sig (Elt F) Λ₀ .tc) α} {inb2 hs2 inb3 hs3 inbS inbR hsc hsrc hdst hsem} :
    iprop(Recs m K ∗ Go c 1 ∗ sendPay m c 1 ∗ Ow c (OR c 11))
      ⊢ iprop((iprop(Sent c 1 ∗ Ow c (OR c 10)) -∗ WP c (k ⟨⟩) Q)
        -∗ WP c (.op (.enqueueDmaAs (wHalf ![0, 0] inb2 hs2) (.remote (Dev.tc (⟨k0_dev4 c, k0_dev4_lt c⟩ : Dev nD) : Thread nD τ) (vHalf ![0, 0, 0] inb3 hs3) (.dma (sem24 ![2] inbS)) hsc) .same
          (.dma (sem24 ![3] inbR)) hsrc hdst hsem) k) Q) := by
  unfold Go Land
  iintro ⟨#Hrec, ⟨Hr, %fx, %fw, Hl⟩, Hs, HO⟩ Hk
  iapply (send_w m c K (t := 1) (k' := 10) (s := 0) (r := 0) (by omega) rfl (by omega) (by omega) (by show who (rt c) 0 = c; exact lt_rt c) rfl (fun fx fw => rfl) rfl rfl (dev4_eq c) rfl rfl) $$ [Hr Hs Hl HO]
  · isplitr; · iexact Hrec
    isplitl [Hr]; · iexact Hr
    isplitl [Hs]; · iexact Hs
    isplitl [Hl] <;> iassumption
  iexact Hk

theorem out2 {α : Type} {Q : α → sProp 𝕄} {k : PUnit → Prog (TpuEff nD τ sig (Elt F) Λ₀ .tc) α} {inb2 hs2 inb3 hs3 inbS inbR hsc hsrc hdst hsem} :
    iprop(Recs m K ∗ Go c 2 ∗ sendPay m c 2 ∗ Ow c (OR c 10))
      ⊢ iprop((iprop(Sent c 2 ∗ Ow c (OR c 9)) -∗ WP c (k ⟨⟩) Q)
        -∗ WP c (.op (.enqueueDmaAs (xHalf ![2048, 0] inb2 hs2) (.remote (Dev.tc (⟨k0_dev5 c, k0_dev5_lt c⟩ : Dev nD) : Thread nD τ) (gHalf (k0_off3 c) inb3 hs3) (.dma (sem24 ![4] inbS)) hsc) .same
          (.dma (sem24 ![5] inbR)) hsrc hdst hsem) k) Q) := by
  unfold Go Land
  iintro ⟨#Hrec, ⟨Hr, %fx, %fw, Hl⟩, Hs, HO⟩ Hk
  iapply (send_x m c K (t := 2) (k' := 9) (r := 2048) (by omega) rfl (by omega) rfl (fun fx fw => by show gP (rt c) _ (gS (lt (rt c)).val _ _) _ = _; rw [lt_rt]; rfl) rfl (k0_off3_eq c) (dev5_eq c) rfl rfl) $$ [Hr Hs Hl HO]
  · isplitr; · iexact Hrec
    isplitl [Hr]; · iexact Hr
    isplitl [Hs]; · iexact Hs
    isplitl [Hl] <;> iassumption
  iexact Hk

theorem out3 {α : Type} {Q : α → sProp 𝕄} {k : PUnit → Prog (TpuEff nD τ sig (Elt F) Λ₀ .tc) α} {inb2 hs2 inb3 hs3 inbS inbR hsc hsrc hdst hsem} :
    iprop(Recs m K ∗ Go c 3 ∗ sendPay m c 3 ∗ Ow c (OR c 9))
      ⊢ iprop((iprop(Sent c 3 ∗ Ow c (OR c 8)) -∗ WP c (k ⟨⟩) Q)
        -∗ WP c (.op (.enqueueDmaAs (wHalf ![512, 0] inb2 hs2) (.remote (Dev.tc (⟨k0_dev6 c, k0_dev6_lt c⟩ : Dev nD) : Thread nD τ) (vHalf ![0, 512, 0] inb3 hs3) (.dma (sem24 ![6] inbS)) hsc) .same
          (.dma (sem24 ![7] inbR)) hsrc hdst hsem) k) Q) := by
  unfold Go Land
  iintro ⟨#Hrec, ⟨Hr, %fx, %fw, Hl⟩, Hs, HO⟩ Hk
  iapply (send_w m c K (t := 3) (k' := 8) (s := 0) (r := 512) (by omega) rfl (by omega) (by omega) (by show who (rt c) 0 = c; exact lt_rt c) rfl (fun fx fw => rfl) rfl rfl (dev6_eq c) rfl rfl) $$ [Hr Hs Hl HO]
  · isplitr; · iexact Hrec
    isplitl [Hr]; · iexact Hr
    isplitl [Hs]; · iexact Hs
    isplitl [Hl] <;> iassumption
  iexact Hk

theorem out4 {α : Type} {Q : α → sProp 𝕄} {k : PUnit → Prog (TpuEff nD τ sig (Elt F) Λ₀ .tc) α} {inb2 hs2 inb3 hs3 inbS inbR hsc hsrc hdst hsem} :
    iprop(Recs m K ∗ Go c 4 ∗ sendPay m c 4 ∗ Ow c (OR c 8))
      ⊢ iprop((iprop(Sent c 4 ∗ Ow c (OR c 7)) -∗ WP c (k ⟨⟩) Q)
        -∗ WP c (.op (.enqueueDmaAs (xHalf ![0, 0] inb2 hs2) (.remote (Dev.tc (⟨k0_dev7 c, k0_dev7_lt c⟩ : Dev nD) : Thread nD τ) (gHalf (k0_off2 c) inb3 hs3) (.dma (sem24 ![8] inbS)) hsc) .same
          (.dma (sem24 ![9] inbR)) hsrc hdst hsem) k) Q) := by
  unfold Go Land
  iintro ⟨#Hrec, ⟨Hr, %fx, %fw, Hl⟩, Hs, HO⟩ Hk
  iapply (send_x m c K (t := 4) (k' := 7) (r := 0) (by omega) rfl (by omega) rfl (fun fx fw => by show gP (lt c) _ (gS (rt (lt c)).val _ _) _ = _; rw [rt_lt]; rfl) rfl (k0_off2_eq c) (dev7_eq c) rfl rfl) $$ [Hr Hs Hl HO]
  · isplitr; · iexact Hrec
    isplitl [Hr]; · iexact Hr
    isplitl [Hs]; · iexact Hs
    isplitl [Hl] <;> iassumption
  iexact Hk

theorem out5 {α : Type} {Q : α → sProp 𝕄} {k : PUnit → Prog (TpuEff nD τ sig (Elt F) Λ₀ .tc) α} {inb2 hs2 inb3 hs3 inbS inbR hsc hsrc hdst hsem} :
    iprop(Recs m K ∗ Go c 5 ∗ sendPay m c 5 ∗ Ow c (OR c 7))
      ⊢ iprop((iprop(Sent c 5 ∗ Ow c (OR c 6)) -∗ WP c (k ⟨⟩) Q)
        -∗ WP c (.op (.enqueueDmaAs (wHalf ![0, 0] inb2 hs2) (.remote (Dev.tc (⟨k0_dev8 c, k0_dev8_lt c⟩ : Dev nD) : Thread nD τ) (vHalf ![1, 0, 0] inb3 hs3) (.dma (sem24 ![10] inbS)) hsc) .same
          (.dma (sem24 ![11] inbR)) hsrc hdst hsem) k) Q) := by
  unfold Go Land
  iintro ⟨#Hrec, ⟨Hr, %fx, %fw, Hl⟩, Hs, HO⟩ Hk
  iapply (send_w m c K (t := 5) (k' := 6) (s := 1) (r := 0) (by omega) rfl (by omega) (by omega) (by show who (lt c) 1 = c; exact rt_lt c) rfl (fun fx fw => rfl) rfl rfl (dev8_eq c) rfl rfl) $$ [Hr Hs Hl HO]
  · isplitr; · iexact Hrec
    isplitl [Hr]; · iexact Hr
    isplitl [Hs]; · iexact Hs
    isplitl [Hl] <;> iassumption
  iexact Hk

theorem out6 {α : Type} {Q : α → sProp 𝕄} {k : PUnit → Prog (TpuEff nD τ sig (Elt F) Λ₀ .tc) α} {inb2 hs2 inb3 hs3 inbS inbR hsc hsrc hdst hsem} :
    iprop(Recs m K ∗ Go c 6 ∗ sendPay m c 6 ∗ Ow c (OR c 6))
      ⊢ iprop((iprop(Sent c 6 ∗ Ow c (OR c 5)) -∗ WP c (k ⟨⟩) Q)
        -∗ WP c (.op (.enqueueDmaAs (xHalf ![2048, 0] inb2 hs2) (.remote (Dev.tc (⟨k0_dev9 c, k0_dev9_lt c⟩ : Dev nD) : Thread nD τ) (gHalf (k0_off3 c) inb3 hs3) (.dma (sem24 ![12] inbS)) hsc) .same
          (.dma (sem24 ![13] inbR)) hsrc hdst hsem) k) Q) := by
  unfold Go Land
  iintro ⟨#Hrec, ⟨Hr, %fx, %fw, Hl⟩, Hs, HO⟩ Hk
  iapply (send_x m c K (t := 6) (k' := 5) (r := 2048) (by omega) rfl (by omega) rfl (fun fx fw => by show gP (lt c) _ (gS (rt (lt c)).val _ _) _ = _; rw [rt_lt]; rfl) rfl (k0_off3_eq c) (dev9_eq c) rfl rfl) $$ [Hr Hs Hl HO]
  · isplitr; · iexact Hrec
    isplitl [Hr]; · iexact Hr
    isplitl [Hs]; · iexact Hs
    isplitl [Hl] <;> iassumption
  iexact Hk

theorem out7 {α : Type} {Q : α → sProp 𝕄} {k : PUnit → Prog (TpuEff nD τ sig (Elt F) Λ₀ .tc) α} {inb2 hs2 inb3 hs3 inbS inbR hsc hsrc hdst hsem} :
    iprop(Recs m K ∗ Go c 7 ∗ sendPay m c 7 ∗ Ow c (OR c 5))
      ⊢ iprop((iprop(Sent c 7 ∗ Ow c (OR c 4)) -∗ WP c (k ⟨⟩) Q)
        -∗ WP c (.op (.enqueueDmaAs (wHalf ![512, 0] inb2 hs2) (.remote (Dev.tc (⟨k0_dev10 c, k0_dev10_lt c⟩ : Dev nD) : Thread nD τ) (vHalf ![1, 512, 0] inb3 hs3) (.dma (sem24 ![14] inbS)) hsc) .same
          (.dma (sem24 ![15] inbR)) hsrc hdst hsem) k) Q) := by
  unfold Go Land
  iintro ⟨#Hrec, ⟨Hr, %fx, %fw, Hl⟩, Hs, HO⟩ Hk
  iapply (send_w m c K (t := 7) (k' := 4) (s := 1) (r := 512) (by omega) rfl (by omega) (by omega) (by show who (lt c) 1 = c; exact rt_lt c) rfl (fun fx fw => rfl) rfl rfl (dev10_eq c) rfl rfl) $$ [Hr Hs Hl HO]
  · isplitr; · iexact Hrec
    isplitl [Hr]; · iexact Hr
    isplitl [Hs]; · iexact Hs
    isplitl [Hl] <;> iassumption
  iexact Hk

theorem out8 {α : Type} {Q : α → sProp 𝕄} {k : PUnit → Prog (TpuEff nD τ sig (Elt F) Λ₀ .tc) α} {inb2 hs2 inb3 hs3 inbS inbR hsc hsrc hdst hsem} :
    iprop(Recs m K ∗ Go c 8 ∗ sendPay m c 8 ∗ Ow c (OR c 4))
      ⊢ iprop((iprop(Sent c 8 ∗ Ow c (OR c 3)) -∗ WP c (k ⟨⟩) Q)
        -∗ WP c (.op (.enqueueDmaAs (gHalf (k0_off20 c) inb2 hs2) (.remote (Dev.tc (⟨k0_dev11 c, k0_dev11_lt c⟩ : Dev nD) : Thread nD τ) (gHalf (k0_off20 c) inb3 hs3) (.dma (sem24 ![16] inbS)) hsc) .same
          (.dma (sem24 ![17] inbR)) hsrc hdst hsem) k) Q) := by
  unfold Go Land
  iintro ⟨#Hrec, ⟨Hr, %fx, %fw, Hl⟩, Hs, HO⟩ Hk
  iapply (send_g m c K (t := 8) (k' := 3) (d := (rt c).val) (r := 0) (by omega) rfl rfl (fun fx fw => by show gP (lt c) _ (gS (dg (lt c)).val _ _) _ = _; rw [dg_lt]; rfl) (off20_eq c) (dev11_eq c) rfl rfl) $$ [Hr Hs Hl HO]
  · isplitr; · iexact Hrec
    isplitl [Hr]; · iexact Hr
    isplitl [Hs]; · iexact Hs
    isplitl [Hl] <;> iassumption
  iexact Hk

theorem out9 {α : Type} {Q : α → sProp 𝕄} {k : PUnit → Prog (TpuEff nD τ sig (Elt F) Λ₀ .tc) α} {inb2 hs2 inb3 hs3 inbS inbR hsc hsrc hdst hsem} :
    iprop(Recs m K ∗ Go c 9 ∗ sendPay m c 9 ∗ Ow c (OR c 3))
      ⊢ iprop((iprop(Sent c 9 ∗ Ow c (OR c 2)) -∗ WP c (k ⟨⟩) Q)
        -∗ WP c (.op (.enqueueDmaAs (vHalf ![1, 0, 0] inb2 hs2) (.remote (Dev.tc (⟨k0_dev12 c, k0_dev12_lt c⟩ : Dev nD) : Thread nD τ) (vHalf ![2, 0, 0] inb3 hs3) (.dma (sem24 ![18] inbS)) hsc) .same
          (.dma (sem24 ![19] inbR)) hsrc hdst hsem) k) Q) := by
  unfold Go Land
  iintro ⟨#Hrec, ⟨Hr, %fx, %fw, Hl⟩, Hs, HO⟩ Hk
  iapply (send_v m c K (t := 9) (k' := 2) (s := 1) (s' := 2) (r := 0) (by omega) rfl (by omega) (by omega) (by omega) (dg_lt c).symm rfl (fun fx fw => rfl) rfl rfl (dev12_eq c) rfl rfl) $$ [Hr Hs Hl HO]
  · isplitr; · iexact Hrec
    isplitl [Hr]; · iexact Hr
    isplitl [Hs]; · iexact Hs
    isplitl [Hl] <;> iassumption
  iexact Hk

theorem out10 {α : Type} {Q : α → sProp 𝕄} {k : PUnit → Prog (TpuEff nD τ sig (Elt F) Λ₀ .tc) α} {inb2 hs2 inb3 hs3 inbS inbR hsc hsrc hdst hsem} :
    iprop(Recs m K ∗ Go c 10 ∗ sendPay m c 10 ∗ Ow c (OR c 2))
      ⊢ iprop((iprop(Sent c 10 ∗ Ow c (OR c 1)) -∗ WP c (k ⟨⟩) Q)
        -∗ WP c (.op (.enqueueDmaAs (gHalf (k0_off21 c) inb2 hs2) (.remote (Dev.tc (⟨k0_dev13 c, k0_dev13_lt c⟩ : Dev nD) : Thread nD τ) (gHalf (k0_off21 c) inb3 hs3) (.dma (sem24 ![20] inbS)) hsc) .same
          (.dma (sem24 ![21] inbR)) hsrc hdst hsem) k) Q) := by
  unfold Go Land
  iintro ⟨#Hrec, ⟨Hr, %fx, %fw, Hl⟩, Hs, HO⟩ Hk
  iapply (send_g m c K (t := 10) (k' := 1) (d := (lt c).val) (r := 2048) (by omega) rfl rfl (fun fx fw => by show gP (rt c) _ (gS (dg (rt c)).val _ _) _ = _; rw [dg_rt]; rfl) (off21_eq c) (dev13_eq c) rfl rfl) $$ [Hr Hs Hl HO]
  · isplitr; · iexact Hrec
    isplitl [Hr]; · iexact Hr
    isplitl [Hs]; · iexact Hs
    isplitl [Hl] <;> iassumption
  iexact Hk

theorem out11 {α : Type} {Q : α → sProp 𝕄} {k : PUnit → Prog (TpuEff nD τ sig (Elt F) Λ₀ .tc) α} {inb2 hs2 inb3 hs3 inbS inbR hsc hsrc hdst hsem} :
    iprop(Recs m K ∗ Go c 11 ∗ sendPay m c 11 ∗ Ow c (OR c 1))
      ⊢ iprop((iprop(Sent c 11 ∗ Ow c (OR c 0)) -∗ WP c (k ⟨⟩) Q)
        -∗ WP c (.op (.enqueueDmaAs (vHalf ![0, 512, 0] inb2 hs2) (.remote (Dev.tc (⟨k0_dev14 c, k0_dev14_lt c⟩ : Dev nD) : Thread nD τ) (vHalf ![2, 512, 0] inb3 hs3) (.dma (sem24 ![22] inbS)) hsc) .same
          (.dma (sem24 ![23] inbR)) hsrc hdst hsem) k) Q) := by
  unfold Go Land
  iintro ⟨#Hrec, ⟨Hr, %fx, %fw, Hl⟩, Hs, HO⟩ Hk
  iapply (send_v m c K (t := 11) (k' := 0) (s := 0) (s' := 2) (r := 512) (by omega) rfl (by omega) (by omega) (by omega) (dg_rt c).symm rfl (fun fx fw => rfl) rfl rfl (dev14_eq c) rfl rfl) $$ [Hr Hs Hl HO]
  · isplitr; · iexact Hrec
    isplitl [Hr]; · iexact Hr
    isplitl [Hs]; · iexact Hs
    isplitl [Hl] <;> iassumption
  iexact Hk

theorem done0 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 0 ∗ Ow c (OR c 4))
      ⊢ iprop((iprop(Done c 0 ∗ sendPay m c 0 ∗ recvPay m c 0 ∗ Ow c (OR c 4)) -∗ WP c (k ⟨⟩) Q)
        -∗ WP c (.op (.waitDma2 (sem24 ![0] inb1) (gHalf (k0_off2 c) inb3 hs3) (xHalf ![0, 0] inb2 hs2) hsrc hdst) fun _ =>
            .op (.waitDma2 (sem24 ![1] inb1') (xHalf ![0, 0] inb2' hs2') (gHalf (k0_off2 c) inb3' hs3') hsrc' hdst') k) Q) :=
  copy_done m c K (t := 0) (by omega) (N := NX) (amt_even rfl) (sem24_eq inb1 _ (by omega) rfl) (sem24_eq inb1' _ (by omega) rfl)
    (credit_xh inb2 hs2) (credit_g inb3' hs3') (mayWait_OR c 4 (by omega) _ (Or.inr ⟨by decide, le_refl _⟩)) (mayWait_OR c 4 (by omega) _ (Or.inr ⟨by decide, le_refl _⟩))

theorem done1 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 1 ∗ Ow c (OR c 4))
      ⊢ iprop((iprop(Done c 1 ∗ sendPay m c 1 ∗ recvPay m c 1 ∗ Ow c (OR c 4)) -∗ WP c (k ⟨⟩) Q)
        -∗ WP c (.op (.waitDma2 (sem24 ![2] inb1) (vHalf ![0, 0, 0] inb3 hs3) (wHalf ![0, 0] inb2 hs2) hsrc hdst) fun _ =>
            .op (.waitDma2 (sem24 ![3] inb1') (wHalf ![0, 0] inb2' hs2') (vHalf ![0, 0, 0] inb3' hs3') hsrc' hdst') k) Q) :=
  copy_done m c K (t := 1) (by omega) (N := NW) (amt_odd rfl) (sem24_eq inb1 _ (by omega) rfl) (sem24_eq inb1' _ (by omega) rfl)
    (credit_wh inb2 hs2) (credit_v inb3' hs3') (mayWait_OR c 4 (by omega) _ (Or.inr ⟨by decide, le_refl _⟩)) (mayWait_OR c 4 (by omega) _ (Or.inr ⟨by decide, le_refl _⟩))

theorem done2 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 2 ∗ Ow c (OR c 4))
      ⊢ iprop((iprop(Done c 2 ∗ sendPay m c 2 ∗ recvPay m c 2 ∗ Ow c (OR c 4)) -∗ WP c (k ⟨⟩) Q)
        -∗ WP c (.op (.waitDma2 (sem24 ![4] inb1) (gHalf (k0_off3 c) inb3 hs3) (xHalf ![2048, 0] inb2 hs2) hsrc hdst) fun _ =>
            .op (.waitDma2 (sem24 ![5] inb1') (xHalf ![2048, 0] inb2' hs2') (gHalf (k0_off3 c) inb3' hs3') hsrc' hdst') k) Q) :=
  copy_done m c K (t := 2) (by omega) (N := NX) (amt_even rfl) (sem24_eq inb1 _ (by omega) rfl) (sem24_eq inb1' _ (by omega) rfl)
    (credit_xh inb2 hs2) (credit_g inb3' hs3') (mayWait_OR c 4 (by omega) _ (Or.inr ⟨by decide, le_refl _⟩)) (mayWait_OR c 4 (by omega) _ (Or.inr ⟨by decide, le_refl _⟩))

theorem done3 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 3 ∗ Ow c (OR c 4))
      ⊢ iprop((iprop(Done c 3 ∗ sendPay m c 3 ∗ recvPay m c 3 ∗ Ow c (OR c 4)) -∗ WP c (k ⟨⟩) Q)
        -∗ WP c (.op (.waitDma2 (sem24 ![6] inb1) (vHalf ![0, 512, 0] inb3 hs3) (wHalf ![512, 0] inb2 hs2) hsrc hdst) fun _ =>
            .op (.waitDma2 (sem24 ![7] inb1') (wHalf ![512, 0] inb2' hs2') (vHalf ![0, 512, 0] inb3' hs3') hsrc' hdst') k) Q) :=
  copy_done m c K (t := 3) (by omega) (N := NW) (amt_odd rfl) (sem24_eq inb1 _ (by omega) rfl) (sem24_eq inb1' _ (by omega) rfl)
    (credit_wh inb2 hs2) (credit_v inb3' hs3') (mayWait_OR c 4 (by omega) _ (Or.inr ⟨by decide, le_refl _⟩)) (mayWait_OR c 4 (by omega) _ (Or.inr ⟨by decide, le_refl _⟩))

theorem done4 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 4 ∗ Ow c (OR c 4))
      ⊢ iprop((iprop(Done c 4 ∗ sendPay m c 4 ∗ recvPay m c 4 ∗ Ow c (OR c 4)) -∗ WP c (k ⟨⟩) Q)
        -∗ WP c (.op (.waitDma2 (sem24 ![8] inb1) (gHalf (k0_off2 c) inb3 hs3) (xHalf ![0, 0] inb2 hs2) hsrc hdst) fun _ =>
            .op (.waitDma2 (sem24 ![9] inb1') (xHalf ![0, 0] inb2' hs2') (gHalf (k0_off2 c) inb3' hs3') hsrc' hdst') k) Q) :=
  copy_done m c K (t := 4) (by omega) (N := NX) (amt_even rfl) (sem24_eq inb1 _ (by omega) rfl) (sem24_eq inb1' _ (by omega) rfl)
    (credit_xh inb2 hs2) (credit_g inb3' hs3') (mayWait_OR c 4 (by omega) _ (Or.inr ⟨by decide, le_refl _⟩)) (mayWait_OR c 4 (by omega) _ (Or.inr ⟨by decide, le_refl _⟩))

theorem done5 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 5 ∗ Ow c (OR c 4))
      ⊢ iprop((iprop(Done c 5 ∗ sendPay m c 5 ∗ recvPay m c 5 ∗ Ow c (OR c 4)) -∗ WP c (k ⟨⟩) Q)
        -∗ WP c (.op (.waitDma2 (sem24 ![10] inb1) (vHalf ![1, 0, 0] inb3 hs3) (wHalf ![0, 0] inb2 hs2) hsrc hdst) fun _ =>
            .op (.waitDma2 (sem24 ![11] inb1') (wHalf ![0, 0] inb2' hs2') (vHalf ![1, 0, 0] inb3' hs3') hsrc' hdst') k) Q) :=
  copy_done m c K (t := 5) (by omega) (N := NW) (amt_odd rfl) (sem24_eq inb1 _ (by omega) rfl) (sem24_eq inb1' _ (by omega) rfl)
    (credit_wh inb2 hs2) (credit_v inb3' hs3') (mayWait_OR c 4 (by omega) _ (Or.inr ⟨by decide, le_refl _⟩)) (mayWait_OR c 4 (by omega) _ (Or.inr ⟨by decide, le_refl _⟩))

theorem done6 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 6 ∗ Ow c (OR c 4))
      ⊢ iprop((iprop(Done c 6 ∗ sendPay m c 6 ∗ recvPay m c 6 ∗ Ow c (OR c 4)) -∗ WP c (k ⟨⟩) Q)
        -∗ WP c (.op (.waitDma2 (sem24 ![12] inb1) (gHalf (k0_off3 c) inb3 hs3) (xHalf ![2048, 0] inb2 hs2) hsrc hdst) fun _ =>
            .op (.waitDma2 (sem24 ![13] inb1') (xHalf ![2048, 0] inb2' hs2') (gHalf (k0_off3 c) inb3' hs3') hsrc' hdst') k) Q) :=
  copy_done m c K (t := 6) (by omega) (N := NX) (amt_even rfl) (sem24_eq inb1 _ (by omega) rfl) (sem24_eq inb1' _ (by omega) rfl)
    (credit_xh inb2 hs2) (credit_g inb3' hs3') (mayWait_OR c 4 (by omega) _ (Or.inr ⟨by decide, le_refl _⟩)) (mayWait_OR c 4 (by omega) _ (Or.inr ⟨by decide, le_refl _⟩))

theorem done7 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 7 ∗ Ow c (OR c 4))
      ⊢ iprop((iprop(Done c 7 ∗ sendPay m c 7 ∗ recvPay m c 7 ∗ Ow c (OR c 4)) -∗ WP c (k ⟨⟩) Q)
        -∗ WP c (.op (.waitDma2 (sem24 ![14] inb1) (vHalf ![1, 512, 0] inb3 hs3) (wHalf ![512, 0] inb2 hs2) hsrc hdst) fun _ =>
            .op (.waitDma2 (sem24 ![15] inb1') (wHalf ![512, 0] inb2' hs2') (vHalf ![1, 512, 0] inb3' hs3') hsrc' hdst') k) Q) :=
  copy_done m c K (t := 7) (by omega) (N := NW) (amt_odd rfl) (sem24_eq inb1 _ (by omega) rfl) (sem24_eq inb1' _ (by omega) rfl)
    (credit_wh inb2 hs2) (credit_v inb3' hs3') (mayWait_OR c 4 (by omega) _ (Or.inr ⟨by decide, le_refl _⟩)) (mayWait_OR c 4 (by omega) _ (Or.inr ⟨by decide, le_refl _⟩))

theorem done8 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 8 ∗ Ow c (OR c 0))
      ⊢ iprop((iprop(Done c 8 ∗ sendPay m c 8 ∗ recvPay m c 8 ∗ Ow c (OR c 0)) -∗ WP c (k ⟨⟩) Q)
        -∗ WP c (.op (.waitDma2 (sem24 ![16] inb1) (gHalf (k0_off20 c) inb3 hs3) (gHalf (k0_off20 c) inb2 hs2) hsrc hdst) fun _ =>
            .op (.waitDma2 (sem24 ![17] inb1') (gHalf (k0_off20 c) inb2' hs2') (gHalf (k0_off20 c) inb3' hs3') hsrc' hdst') k) Q) :=
  copy_done m c K (t := 8) (by omega) (N := NX) (amt_even rfl) (sem24_eq inb1 _ (by omega) rfl) (sem24_eq inb1' _ (by omega) rfl)
    (credit_g inb2 hs2) (credit_g inb3' hs3') (mayWait0 c _) (mayWait0 c _)

theorem done9 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 9 ∗ Ow c (OR c 0))
      ⊢ iprop((iprop(Done c 9 ∗ sendPay m c 9 ∗ recvPay m c 9 ∗ Ow c (OR c 0)) -∗ WP c (k ⟨⟩) Q)
        -∗ WP c (.op (.waitDma2 (sem24 ![18] inb1) (vHalf ![2, 0, 0] inb3 hs3) (vHalf ![1, 0, 0] inb2 hs2) hsrc hdst) fun _ =>
            .op (.waitDma2 (sem24 ![19] inb1') (vHalf ![1, 0, 0] inb2' hs2') (vHalf ![2, 0, 0] inb3' hs3') hsrc' hdst') k) Q) :=
  copy_done m c K (t := 9) (by omega) (N := NW) (amt_odd rfl) (sem24_eq inb1 _ (by omega) rfl) (sem24_eq inb1' _ (by omega) rfl)
    (credit_v inb2 hs2) (credit_v inb3' hs3') (mayWait0 c _) (mayWait0 c _)

theorem done10 {α : Type} {Q : α → sProp 𝕄} {k : PUnit → Prog (TpuEff nD τ sig (Elt F) Λ₀ .tc) α} {inb1 inb1' inb2 hs2 inb2' hs2' inb3 hs3 inb3' hs3' hsrc hdst hsrc' hdst'} :
    iprop(Recs m K ∗ levAts L lv ∗ Sent c 10 ∗ Ow c (OR c 0))
      ⊢ iprop((iprop(Done c 10 ∗ sendPay m c 10 ∗ recvPay m c 10 ∗ Ow c (OR c 0)) -∗ WP c (k ⟨⟩) Q)
        -∗ WP c (.op (.waitDma2 (sem24 ![20] inb1) (gHalf (k0_off21 c) inb3 hs3) (gHalf (k0_off21 c) inb2 hs2) hsrc hdst) fun _ =>
            .op (.waitDma2 (sem24 ![21] inb1') (gHalf (k0_off21 c) inb2' hs2') (gHalf (k0_off21 c) inb3' hs3') hsrc' hdst') k) Q) :=
  copy_done m c K (t := 10) (by omega) (N := NX) (amt_even rfl) (sem24_eq inb1 _ (by omega) rfl) (sem24_eq inb1' _ (by omega) rfl)
    (credit_g inb2 hs2) (credit_g inb3' hs3') (mayWait0 c _) (mayWait0 c _)

/-- The two waits on the last copy stand apart in the program. -/
def Half : sProp 𝕄 := iprop(cred (tallyAt (dCell c 23) () NW) ∗ atPos ER (dCell c 23) 0 ∅ 0)

theorem done11a {α : Type} {Q : α → sProp 𝕄} {k : PUnit → Prog (TpuEff nD τ sig (Elt F) Λ₀ .tc) α} {inb1 inb2 hs2 inb3 hs3 hsrc hdst} :
    iprop(Recs m K ∗ levAts L lv ∗ Sent c 11 ∗ Ow c (OR c 0))
      ⊢ iprop((iprop(Rest c (4 + 22) ∗ sendPay m c 11 ∗ Half c ∗ Ow c (OR c 0)) -∗ WP c (k ⟨⟩) Q)
        -∗ WP c (.op (.waitDma2 (sem24 ![22] inb1) (vHalf ![2, 512, 0] inb3 hs3) (vHalf ![0, 512, 0] inb2 hs2) hsrc hdst) k) Q) := by
  unfold Sent Half
  rw [show amt 11 = NW from amt_odd rfl]
  iintro ⟨#Hrec, #Hlev, ⟨HcS, HcR, HaS, HaR⟩, HO⟩ Hk
  iapply (copy_wait m c K (i := 22) (by omega) (N := NW) (amt_odd rfl) (sem24_eq inb1 _ (by omega) rfl) (credit_v inb2 hs2) (mayWait0 c _)) $$ [HcS HaS HO]
  · isplitr; · iexact Hrec
    isplitr; · iexact Hlev
    isplitl [HcS]; · iexact HcS
    isplitl [HaS] <;> iassumption
  iintro ⟨HP, Hr, HO⟩
  have eS : semPay m c 22 = sendPay m c 11 := by unfold semPay; rw [if_pos (by omega)]
  ihave HP := (Entails.of_eq eS) $$ HP
  iapply Hk
  isplitl [Hr]; · iexact Hr
  isplitl [HP]; · iexact HP
  isplitr [HO]
  · isplitl [HcR] <;> iassumption
  iexact HO

theorem done11b {α : Type} {Q : α → sProp 𝕄} {k : PUnit → Prog (TpuEff nD τ sig (Elt F) Λ₀ .tc) α} {inb1 inb2 hs2 inb3 hs3 hsrc hdst} :
    iprop(Recs m K ∗ levAts L lv ∗ Half c ∗ Ow c (OR c 0))
      ⊢ iprop((iprop(Rest c (4 + 23) ∗ recvPay m c 11 ∗ Ow c (OR c 0)) -∗ WP c (k ⟨⟩) Q)
        -∗ WP c (.op (.waitDma2 (sem24 ![23] inb1) (vHalf ![0, 512, 0] inb2 hs2) (vHalf ![2, 512, 0] inb3 hs3) hsrc hdst) k) Q) := by
  unfold Half
  iintro ⟨#Hrec, #Hlev, ⟨HcR, HaR⟩, HO⟩ Hk
  iapply (copy_wait m c K (i := 23) (by omega) (N := NW) (amt_odd rfl) (sem24_eq inb1 _ (by omega) rfl) (credit_v inb3 hs3) (mayWait0 c _)) $$ [HcR HaR HO]
  · isplitr; · iexact Hrec
    isplitr; · iexact Hlev
    isplitl [HcR]; · iexact HcR
    isplitl [HaR] <;> iassumption
  iintro ⟨HP, Hr, HO⟩
  have eR : semPay m c 23 = recvPay m c 11 := by unfold semPay; rw [if_neg (by omega)]
  ihave HP := (Entails.of_eq eR) $$ HP
  iapply Hk
  isplitl [Hr]; · iexact Hr
  isplitl [HP] <;> iassumption

end Cert.RingProof

end
-- ==== Proof.Parts.lean ====
/-
Parts: what each part of the kernel's text does.
-/
module

public import proofs.«01_k».proof.Proof.Steps

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (m : (ℓ : Loc nD τ sig) → Buf (Elt F) ℓ) (c : Dev nD) (K : Dev nD × Fin 25 → ℕ)
section Parts
variable (arg2 : Memref sig .tc .smem S1 .f32) (harg2 : arg2.IsWhole) (arg3 : Memref sig .tc .smem S1 .f32) (harg3 : arg3.IsWhole)

theorem part4 (fx fw) (v13 v24 : BitVec 32) {Q : PUnit → sProp 𝕄} :
    iprop(Recs m K ∗ levAts L lv ∗ BarStart c ∗ Ow c (O₀ c) ∗ MineL c fx fw ∗ MineR c fx fw ∗ xP c qk Finset.univ (X m c) ∗ gP c fullShare (gS c.val 0 4096) fx ∗ Rest c 2 ∗ Ready c 0 ∗ sendPay m c 0)
      ⊢ iprop((iprop(Sent c 0 ∗ Ow c (OR c 11) ∗ semVal (barCell c) 0 ∗ Fly c 2 NC iprop(gP c fullShare (gS c.val 0 4096) (XG m) ∗ xP c qk Finset.univ (X m c)) ∗ Land c 1 ∗ Land c 2 ∗ Land c 3 ∗ Land c 4 ∗ Land c 5 ∗ Land c 6 ∗ Land c 7 ∗ Land c 8 ∗ Land c 9 ∗ Land c 10 ∗ Land c 11) -∗ Q ⟨⟩)
        -∗ WP c (k0_part4 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v13 v24) Q) := by
  rw [k0_part4_eq_skeleton]
  unfold k0_part4_skel
  simp only [semSignalWord, semWaitWord, Prog.lift, Prog.bind_op, Prog.bind_ret, Prog.pure_eq_ret, wp_deviceId]
  iintro ⟨#Hrec, #Hlev, Hb, HO, HmL, HmR, Hx, Hg, Hz2, Hr, Hs⟩ Hk
  iapply (barrier m c K fx fw (dev1_eq c) (dev2_eq c)) $$ [Hb HO HmL HmR]
  · isplitr; · iexact Hrec
    isplitr; · iexact Hlev
    isplitl [Hb]; · iexact Hb
    isplitl [HO]; · iexact HO
    isplitl [HmL]; · iexact HmL
    iexact HmR
  iintro ⟨HO, Hz, HpF, HpT⟩
  ihave HlT := lands_true c $$ HpT
  ihave HlF := lands_false c $$ HpF
  icases HlT with ⟨H0, H1, H2, H3, H10, H11⟩
  icases HlF with ⟨H4, H5, H6, H7, H8, H9⟩
  iapply (cx_start m c rfl (k0_off1_eq c) fx) $$ [Hx Hg Hz2]
  · isplitl [Hx]; · iexact Hx
    isplitl [Hg]; · iexact Hg
    iexact Hz2
  iintro Hfly
  iapply (out0 m c K) $$ [Hr H0 Hs HO]
  · isplitr; · iexact Hrec
    isplitl [Hr H0]
    · unfold Go; isplitl [Hr] <;> iassumption
    isplitl [Hs] <;> iassumption
  iintro ⟨HS, HO⟩
  iapply ret_at
  iapply Hk
  isplitl [HS]; · iexact HS
  isplitl [HO]; · iexact HO
  isplitl [Hz]; · iexact Hz
  isplitl [Hfly]; · iexact Hfly
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem part5 (v13 v24 : BitVec 32) {Q : BitVec 32 → sProp 𝕄} :
    iprop(Recs m K ∗ Go c 1 ∗ Go c 2 ∗ Go c 3 ∗ Go c 4 ∗ sendPay m c 1 ∗ sendPay m c 2 ∗ sendPay m c 3 ∗ sendPay m c 4 ∗ Ow c (OR c 11))
      ⊢ iprop((iprop(Sent c 1 ∗ Sent c 2 ∗ Sent c 3 ∗ Sent c 4 ∗ Ow c (OR c 7)) -∗ Q 1#32)
        -∗ WP c (k0_part5 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v13 v24) Q) := by
  rw [k0_part5_eq_skeleton]
  unfold k0_part5_skel
  simp only [semSignalWord, semWaitWord, Prog.lift, Prog.bind_op, Prog.bind_ret, Prog.pure_eq_ret, wp_deviceId]
  iintro ⟨#Hrec, Hr1, Hr2, Hr3, Hr4, Hs1, Hs2, Hs3, Hs4, HO⟩ Hk
  iapply (out1 m c K) $$ [Hr1 Hs1 HO]
  · isplitr; · iexact Hrec
    isplitl [Hr1]; · iexact Hr1
    isplitl [Hs1]; · iexact Hs1
    iexact HO
  iintro ⟨HS1, HO⟩
  iapply (out2 m c K) $$ [Hr2 Hs2 HO]
  · isplitr; · iexact Hrec
    isplitl [Hr2]; · iexact Hr2
    isplitl [Hs2]; · iexact Hs2
    iexact HO
  iintro ⟨HS2, HO⟩
  iapply (out3 m c K) $$ [Hr3 Hs3 HO]
  · isplitr; · iexact Hrec
    isplitl [Hr3]; · iexact Hr3
    isplitl [Hs3]; · iexact Hs3
    iexact HO
  iintro ⟨HS3, HO⟩
  iapply (out4 m c K) $$ [Hr4 Hs4 HO]
  · isplitr; · iexact Hrec
    isplitl [Hr4]; · iexact Hr4
    isplitl [Hs4]; · iexact Hs4
    iexact HO
  iintro ⟨HS4, HO⟩
  iapply ret_at
  iapply Hk
  isplitl [HS1]; · iexact HS1
  isplitl [HS2]; · iexact HS2
  isplitl [HS3]; · iexact HS3
  isplitl [HS4]; · iexact HS4
  iexact HO

theorem part7 (f) (v2 : BitVec 32) {Q : PUnit → sProp 𝕄} :
    iprop(levAts L lv ∗ Fly c 2 NC iprop(gP c fullShare (gS c.val 0 4096) (XG m) ∗ xP c qk Finset.univ (X m c)) ∗ Ow c (OR c 4) ∗ TFree m c 0 ∗ TFree m c 1 ∗ AFree c 0 ∗ AFree c 1 ∗ oP c Finset.univ f)
      ⊢ iprop((iprop(Ow c (OR c 4) ∗ TFree m c 0 ∗ TFree m c 1 ∗ AFree c 0 ∗ AFree c 1 ∗ gP c fullShare (gS c.val 0 4096) (XG m) ∗ oP c Finset.univ (G1 m c) ∗ xP c qk Finset.univ (X m c) ∗ Rest c 2) -∗ Q ⟨⟩)
        -∗ WP c (k0_part7 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v2) Q) := by
  rw [k0_part7_eq_skeleton]
  unfold k0_part7_skel
  simp only [semSignalWord, semWaitWord, Prog.lift, Prog.bind_op, Prog.bind_ret, Prog.pure_eq_ret, wp_deviceId]
  iintro ⟨#Hlev, Hfly, HO, HT, HT', HA, HA', Ho⟩ Hk
  iapply (fly_wait c (sem2_eq cc0_scratch5 2 (by decide) (by decide) _ 0 (by decide) rfl) (credit_cx _ _) (mayWait_OR c 4 (by omega) _ (Or.inl (by decide)))) $$ [Hfly HO]
  · isplitr; · iexact Hlev
    isplitl [Hfly]; · iexact Hfly
    iexact HO
  iintro ⟨⟨Hg, Hx⟩, Hz2, HO⟩
  iapply (pass1_all m c (OR c 4) (mayWait_local c 4 (by omega)) f v2 arg2 harg2 arg3 harg3) $$ [HO HT HT' HA HA' Hg Ho]
  · isplitr; · iexact Hlev
    isplitl [HO]; · iexact HO
    isplitl [HT]; · iexact HT
    isplitl [HT']; · iexact HT'
    isplitl [HA]; · iexact HA
    isplitl [HA']; · iexact HA'
    isplitl [Hg]; · iexact Hg
    iexact Ho
  iintro ⟨HO, HT, HT', HA, HA', Hg, Ho⟩
  iapply ret_at
  iapply Hk
  isplitl [HO]; · iexact HO
  isplitl [HT]; · iexact HT
  isplitl [HT']; · iexact HT'
  isplitl [HA]; · iexact HA
  isplitl [HA']; · iexact HA'
  isplitl [Hg]; · iexact Hg
  isplitl [Ho]; · iexact Ho
  isplitl [Hx]; · iexact Hx
  iexact Hz2

theorem part8 (v : BitVec 32) {Q : PUnit → sProp 𝕄} :
    iprop(Recs m K ∗ levAts L lv ∗ Sent c 0 ∗ Sent c 1 ∗ Ow c (OR c 4))
      ⊢ iprop((iprop(Done c 0 ∗ sendPay m c 0 ∗ recvPay m c 0 ∗ Done c 1 ∗ sendPay m c 1 ∗ recvPay m c 1 ∗ Ow c (OR c 4)) -∗ Q ⟨⟩)
        -∗ WP c (k0_part8 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v) Q) := by
  rw [k0_part8_eq_skeleton]
  unfold k0_part8_skel
  simp only [semSignalWord, semWaitWord, Prog.lift, Prog.bind_op, Prog.bind_ret, Prog.pure_eq_ret, wp_deviceId]
  iintro ⟨#Hrec, #Hlev, HS0, HS1, HO⟩ Hk
  iapply (done0 m c K) $$ [HS0 HO]
  · isplitr; · iexact Hrec
    isplitr; · iexact Hlev
    isplitl [HS0]; · iexact HS0
    iexact HO
  iintro ⟨HD0, Hs0, Hr0, HO⟩
  iapply (done1 m c K) $$ [HS1 HO]
  · isplitr; · iexact Hrec
    isplitr; · iexact Hlev
    isplitl [HS1]; · iexact HS1
    iexact HO
  iintro ⟨HD1, Hs1, Hr1, HO⟩
  iapply ret_at
  iapply Hk
  isplitl [HD0]; · iexact HD0
  isplitl [Hs0]; · iexact Hs0
  isplitl [Hr0]; · iexact Hr0
  isplitl [HD1]; · iexact HD1
  isplitl [Hs1]; · iexact Hs1
  isplitl [Hr1]; · iexact Hr1
  iexact HO

theorem part9 (v : BitVec 32) {Q : PUnit → sProp 𝕄} :
    iprop(Recs m K ∗ levAts L lv ∗ Sent c 2 ∗ Sent c 3 ∗ Ow c (OR c 4))
      ⊢ iprop((iprop(Done c 2 ∗ sendPay m c 2 ∗ recvPay m c 2 ∗ Done c 3 ∗ sendPay m c 3 ∗ recvPay m c 3 ∗ Ow c (OR c 4)) -∗ Q ⟨⟩)
        -∗ WP c (k0_part9 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v) Q) := by
  rw [k0_part9_eq_skeleton]
  unfold k0_part9_skel
  simp only [semSignalWord, semWaitWord, Prog.lift, Prog.bind_op, Prog.bind_ret, Prog.pure_eq_ret, wp_deviceId]
  iintro ⟨#Hrec, #Hlev, HS2, HS3, HO⟩ Hk
  iapply (done2 m c K) $$ [HS2 HO]
  · isplitr; · iexact Hrec
    isplitr; · iexact Hlev
    isplitl [HS2]; · iexact HS2
    iexact HO
  iintro ⟨HD2, Hs2, Hr2, HO⟩
  iapply (done3 m c K) $$ [HS3 HO]
  · isplitr; · iexact Hrec
    isplitr; · iexact Hlev
    isplitl [HS3]; · iexact HS3
    iexact HO
  iintro ⟨HD3, Hs3, Hr3, HO⟩
  iapply ret_at
  iapply Hk
  isplitl [HD2]; · iexact HD2
  isplitl [Hs2]; · iexact Hs2
  isplitl [Hr2]; · iexact Hr2
  isplitl [HD3]; · iexact HD3
  isplitl [Hs3]; · iexact Hs3
  isplitl [Hr3]; · iexact Hr3
  iexact HO

theorem part10 (v : BitVec 32) {Q : PUnit → sProp 𝕄} :
    iprop(Recs m K ∗ levAts L lv ∗ Sent c 4 ∗ Sent c 5 ∗ Ow c (OR c 4))
      ⊢ iprop((iprop(Done c 4 ∗ sendPay m c 4 ∗ recvPay m c 4 ∗ Done c 5 ∗ sendPay m c 5 ∗ recvPay m c 5 ∗ Ow c (OR c 4)) -∗ Q ⟨⟩)
        -∗ WP c (k0_part10 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v) Q) := by
  rw [k0_part10_eq_skeleton]
  unfold k0_part10_skel
  simp only [semSignalWord, semWaitWord, Prog.lift, Prog.bind_op, Prog.bind_ret, Prog.pure_eq_ret, wp_deviceId]
  iintro ⟨#Hrec, #Hlev, HS4, HS5, HO⟩ Hk
  iapply (done4 m c K) $$ [HS4 HO]
  · isplitr; · iexact Hrec
    isplitr; · iexact Hlev
    isplitl [HS4]; · iexact HS4
    iexact HO
  iintro ⟨HD4, Hs4, Hr4, HO⟩
  iapply (done5 m c K) $$ [HS5 HO]
  · isplitr; · iexact Hrec
    isplitr; · iexact Hlev
    isplitl [HS5]; · iexact HS5
    iexact HO
  iintro ⟨HD5, Hs5, Hr5, HO⟩
  iapply ret_at
  iapply Hk
  isplitl [HD4]; · iexact HD4
  isplitl [Hs4]; · iexact Hs4
  isplitl [Hr4]; · iexact Hr4
  isplitl [HD5]; · iexact HD5
  isplitl [Hs5]; · iexact Hs5
  isplitl [Hr5]; · iexact Hr5
  iexact HO

theorem part11 (v : BitVec 32) {Q : PUnit → sProp 𝕄} :
    iprop(Recs m K ∗ levAts L lv ∗ Sent c 6 ∗ Sent c 7 ∗ Ow c (OR c 4))
      ⊢ iprop((iprop(Done c 6 ∗ sendPay m c 6 ∗ recvPay m c 6 ∗ Done c 7 ∗ sendPay m c 7 ∗ recvPay m c 7 ∗ Ow c (OR c 4)) -∗ Q ⟨⟩)
        -∗ WP c (k0_part11 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v) Q) := by
  rw [k0_part11_eq_skeleton]
  unfold k0_part11_skel
  simp only [semSignalWord, semWaitWord, Prog.lift, Prog.bind_op, Prog.bind_ret, Prog.pure_eq_ret, wp_deviceId]
  iintro ⟨#Hrec, #Hlev, HS6, HS7, HO⟩ Hk
  iapply (done6 m c K) $$ [HS6 HO]
  · isplitr; · iexact Hrec
    isplitr; · iexact Hlev
    isplitl [HS6]; · iexact HS6
    iexact HO
  iintro ⟨HD6, Hs6, Hr6, HO⟩
  iapply (done7 m c K) $$ [HS7 HO]
  · isplitr; · iexact Hrec
    isplitr; · iexact Hlev
    isplitl [HS7]; · iexact HS7
    iexact HO
  iintro ⟨HD7, Hs7, Hr7, HO⟩
  iapply ret_at
  iapply Hk
  isplitl [HD6]; · iexact HD6
  isplitl [Hs6]; · iexact Hs6
  isplitl [Hr6]; · iexact Hr6
  isplitl [HD7]; · iexact HD7
  isplitl [Hs7]; · iexact Hs7
  isplitl [Hr7]; · iexact Hr7
  iexact HO

theorem part12 (v13 v24 : BitVec 32) {Q : PUnit → sProp 𝕄} :
    iprop(Recs m K ∗ Go c 8 ∗ Go c 9 ∗ Go c 10 ∗ sendPay m c 8 ∗ sendPay m c 9 ∗ sendPay m c 10 ∗ Ow c (OR c 4))
      ⊢ iprop((iprop(Sent c 8 ∗ Sent c 9 ∗ Sent c 10 ∗ Ow c (OR c 1)) -∗ Q ⟨⟩)
        -∗ WP c (k0_part12 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v13 v24) Q) := by
  rw [k0_part12_eq_skeleton]
  unfold k0_part12_skel
  simp only [semSignalWord, semWaitWord, Prog.lift, Prog.bind_op, Prog.bind_ret, Prog.pure_eq_ret, wp_deviceId]
  iintro ⟨#Hrec, Hr8, Hr9, Hr10, Hs8, Hs9, Hs10, HO⟩ Hk
  iapply (out8 m c K) $$ [Hr8 Hs8 HO]
  · isplitr; · iexact Hrec
    isplitl [Hr8]; · iexact Hr8
    isplitl [Hs8]; · iexact Hs8
    iexact HO
  iintro ⟨HS8, HO⟩
  iapply (out9 m c K) $$ [Hr9 Hs9 HO]
  · isplitr; · iexact Hrec
    isplitl [Hr9]; · iexact Hr9
    isplitl [Hs9]; · iexact Hs9
    iexact HO
  iintro ⟨HS9, HO⟩
  iapply (out10 m c K) $$ [Hr10 Hs10 HO]
  · isplitr; · iexact Hrec
    isplitl [Hr10]; · iexact Hr10
    isplitl [Hs10]; · iexact Hs10
    iexact HO
  iintro ⟨HS10, HO⟩
  iapply ret_at
  iapply Hk
  isplitl [HS8]; · iexact HS8
  isplitl [HS9]; · iexact HS9
  isplitl [HS10]; · iexact HS10
  iexact HO

theorem part13 (v13 v24 : BitVec 32) {Q : PUnit → sProp 𝕄} :
    iprop(Recs m K ∗ levAts L lv ∗ Go c 11 ∗ sendPay m c 11 ∗ Ow c (OR c 1) ∗ BFree c 0 ∗ BFree c 1 ∗ AFree c 0 ∗ AFree c 1 ∗ gP c qr (gS (lt c).val 0 4096) (XG m) ∗ vP c qr (vS 0 0 1024) (WV m c) ∗ gP c qr (gS (rt c).val 0 4096) (XG m) ∗ vP c qr (vS 1 0 1024) (WV m c) ∗ oP c Finset.univ (G1 m c))
      ⊢ iprop((iprop(Sent c 11 ∗ Ow c (OR c 0) ∗ BFree c 0 ∗ BFree c 1 ∗ AFree c 0 ∗ AFree c 1 ∗ gP c qr (gS (lt c).val 0 4096) (XG m) ∗ vP c qr (vS 0 0 1024) (WV m c) ∗ gP c qr (gS (rt c).val 0 4096) (XG m) ∗ vP c qr (vS 1 0 1024) (WV m c) ∗ oP c Finset.univ (G2 m c)) -∗ Q ⟨⟩)
        -∗ WP c (k0_part13 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v13 v24) Q) := by
  rw [k0_part13_eq_skeleton]
  unfold k0_part13_skel
  simp only [semSignalWord, semWaitWord, Prog.lift, Prog.bind_op, Prog.bind_ret, Prog.pure_eq_ret, wp_deviceId]
  iintro ⟨#Hrec, #Hlev, Hr11, Hs11, HO, HB, HB', HA, HA', Hg, Hv, Hg', Hv', Ho⟩ Hk
  iapply (out11 m c K) $$ [Hr11 Hs11 HO]
  · isplitr; · iexact Hrec
    isplitl [Hr11]; · iexact Hr11
    isplitl [Hs11]; · iexact Hs11
    iexact HO
  iintro ⟨HS11, HO⟩
  iapply (pass2_all m c (OR c 0) (mayWait_local c 0 (by omega)) v13 v24 arg2 harg2 arg3 harg3 k0_off22_eq) $$ [HO HB HB' HA HA' Hg Hv Hg' Hv' Ho]
  · isplitr; · iexact Hlev
    isplitl [HO]; · iexact HO
    isplitl [HB]; · iexact HB
    isplitl [HB']; · iexact HB'
    isplitl [HA]; · iexact HA
    isplitl [HA']; · iexact HA'
    isplitl [Hg]; · iexact Hg
    isplitl [Hv]; · iexact Hv
    isplitl [Hg']; · iexact Hg'
    isplitl [Hv']; · iexact Hv'
    iexact Ho
  iintro ⟨HO, HB, HB', HA, HA', Hg, Hv, Hg', Hv', Ho⟩
  iapply ret_at
  iapply Hk
  isplitl [HS11]; · iexact HS11
  isplitl [HO]; · iexact HO
  isplitl [HB]; · iexact HB
  isplitl [HB']; · iexact HB'
  isplitl [HA]; · iexact HA
  isplitl [HA']; · iexact HA'
  isplitl [Hg]; · iexact Hg
  isplitl [Hv]; · iexact Hv
  isplitl [Hg']; · iexact Hg'
  isplitl [Hv']; · iexact Hv'
  iexact Ho

theorem part14 (v : BitVec 32) {Q : PUnit → sProp 𝕄} :
    iprop(Recs m K ∗ levAts L lv ∗ Sent c 8 ∗ Sent c 9 ∗ Ow c (OR c 0))
      ⊢ iprop((iprop(Done c 8 ∗ sendPay m c 8 ∗ recvPay m c 8 ∗ Done c 9 ∗ sendPay m c 9 ∗ recvPay m c 9 ∗ Ow c (OR c 0)) -∗ Q ⟨⟩)
        -∗ WP c (k0_part14 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v) Q) := by
  rw [k0_part14_eq_skeleton]
  unfold k0_part14_skel
  simp only [semSignalWord, semWaitWord, Prog.lift, Prog.bind_op, Prog.bind_ret, Prog.pure_eq_ret, wp_deviceId]
  iintro ⟨#Hrec, #Hlev, HS8, HS9, HO⟩ Hk
  iapply (done8 m c K) $$ [HS8 HO]
  · isplitr; · iexact Hrec
    isplitr; · iexact Hlev
    isplitl [HS8]; · iexact HS8
    iexact HO
  iintro ⟨HD8, Hs8, Hr8, HO⟩
  iapply (done9 m c K) $$ [HS9 HO]
  · isplitr; · iexact Hrec
    isplitr; · iexact Hlev
    isplitl [HS9]; · iexact HS9
    iexact HO
  iintro ⟨HD9, Hs9, Hr9, HO⟩
  iapply ret_at
  iapply Hk
  isplitl [HD8]; · iexact HD8
  isplitl [Hs8]; · iexact Hs8
  isplitl [Hr8]; · iexact Hr8
  isplitl [HD9]; · iexact HD9
  isplitl [Hs9]; · iexact Hs9
  isplitl [Hr9]; · iexact Hr9
  iexact HO

theorem part15 (v : BitVec 32) {Q : PUnit → sProp 𝕄} :
    iprop(Recs m K ∗ levAts L lv ∗ Sent c 10 ∗ Sent c 11 ∗ Ow c (OR c 0))
      ⊢ iprop((iprop(Done c 10 ∗ sendPay m c 10 ∗ recvPay m c 10 ∗ Rest c (4 + 22) ∗ sendPay m c 11 ∗ Half c ∗ Ow c (OR c 0)) -∗ Q ⟨⟩)
        -∗ WP c (k0_part15 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v) Q) := by
  rw [k0_part15_eq_skeleton]
  unfold k0_part15_skel
  simp only [semSignalWord, semWaitWord, Prog.lift, Prog.bind_op, Prog.bind_ret, Prog.pure_eq_ret, wp_deviceId]
  iintro ⟨#Hrec, #Hlev, HS10, HS11, HO⟩ Hk
  iapply (done10 m c K) $$ [HS10 HO]
  · isplitr; · iexact Hrec
    isplitr; · iexact Hlev
    isplitl [HS10]; · iexact HS10
    iexact HO
  iintro ⟨HD10, Hs10, Hr10, HO⟩
  iapply (done11a m c K) $$ [HS11 HO]
  · isplitr; · iexact Hrec
    isplitr; · iexact Hlev
    isplitl [HS11]; · iexact HS11
    iexact HO
  iintro ⟨HD11, Hs11, HH, HO⟩
  iapply ret_at
  iapply Hk
  isplitl [HD10]; · iexact HD10
  isplitl [Hs10]; · iexact Hs10
  isplitl [Hr10]; · iexact Hr10
  isplitl [HD11]; · iexact HD11
  isplitl [Hs11]; · iexact Hs11
  isplitl [HH]; · iexact HH
  iexact HO

end Parts

section Scalars
/-- One of the two staged scales, held whole. -/
def s2P (s : S1.Idx → Elt F .f32) : sProp 𝕄 := ((c : Thread nD τ).loc cc0_stg0_0) ↦[Finset.univ]{fullShare} s
def s3P (s : S1.Idx → Elt F .f32) : sProp 𝕄 := ((c : Thread nD τ).loc cc0_stg1_0) ↦[Finset.univ]{fullShare} s

theorem one_idx (i : S1.Idx) : i = ix1 (n := 1) 0 := by
  funext a
  match a with
  | ⟨0, _⟩ => exact Subsingleton.elim (α := Fin 1) _ _

/-- A load of a staged scale. -/
theorem s2_get (s : S1.Idx → Elt F .f32) {α : Type} {Q : α → sProp 𝕄}
    {hl : (Memref.whole cc0_stg0_0 : Memref sig .tc .smem S1 .f32).view.LoadsAt (Rect.unit (s := S1) ![0] S1.size inb_S1_S1_0).toLoadRect} {k : (S1.Idx → Elt F .f32) → Prog (TpuEff nD τ sig (Elt F) Λ₀ .tc) α} :
    s2P c s ⊢ iprop((s2P c s -∗ WP c (k fun _ => s (ix1 (n := 1) 0)) Q)
        -∗ WP c (.op (.load (Memref.whole cc0_stg0_0 : Memref sig .tc .smem S1 .f32) (Rect.unit (s := S1) ![0] S1.size inb_S1_S1_0).toLoadRect hl) k) Q) := by
  have h := wp_load_rect (defs := defs₀ (F := F)) (Γ := []) (Val := Elt F) (Q := Q) (k := k) (f := s) (q := fullShare) 𝒱₀ (c : Thread nD τ) none Set.univ
    (m := (Memref.whole cc0_stg0_0 : Memref sig .tc .smem S1 .f32)) (r := (Rect.unit (s := S1) ![0] S1.size inb_S1_S1_0)) (hl := hl) (S := Finset.univ) (Finset.subset_univ _)
  rw [show (((Memref.whole cc0_stg0_0 : Memref sig .tc .smem S1 .f32).access (Rect.unit (s := S1) ![0] S1.size inb_S1_S1_0)).read (Elt F) s) = (fun _ => s (ix1 (n := 1) 0)) from funext fun _ => congrArg s (one_idx _)] at h
  exact h
theorem s3_get (s : S1.Idx → Elt F .f32) {α : Type} {Q : α → sProp 𝕄}
    {hl : (Memref.whole cc0_stg1_0 : Memref sig .tc .smem S1 .f32).view.LoadsAt (Rect.unit (s := S1) ![0] S1.size inb_S1_S1_0).toLoadRect} {k : (S1.Idx → Elt F .f32) → Prog (TpuEff nD τ sig (Elt F) Λ₀ .tc) α} :
    s3P c s ⊢ iprop((s3P c s -∗ WP c (k fun _ => s (ix1 (n := 1) 0)) Q)
        -∗ WP c (.op (.load (Memref.whole cc0_stg1_0 : Memref sig .tc .smem S1 .f32) (Rect.unit (s := S1) ![0] S1.size inb_S1_S1_0).toLoadRect hl) k) Q) := by
  have h := wp_load_rect (defs := defs₀ (F := F)) (Γ := []) (Val := Elt F) (Q := Q) (k := k) (f := s) (q := fullShare) 𝒱₀ (c : Thread nD τ) none Set.univ
    (m := (Memref.whole cc0_stg1_0 : Memref sig .tc .smem S1 .f32)) (r := (Rect.unit (s := S1) ![0] S1.size inb_S1_S1_0)) (hl := hl) (S := Finset.univ) (Finset.subset_univ _)
  rw [show (((Memref.whole cc0_stg1_0 : Memref sig .tc .smem S1 .f32).access (Rect.unit (s := S1) ![0] S1.size inb_S1_S1_0)).read (Elt F) s) = (fun _ => s (ix1 (n := 1) 0)) from funext fun _ => congrArg s (one_idx _)] at h
  exact h

theorem part6 (v13 w : BitVec 32) (s₂ s₃ : S1.Idx → Elt F .f32) (hw2 hw3) {Q : F .f32 → sProp 𝕄} :
    iprop(Recs m K ∗ Go c 5 ∗ Go c 6 ∗ Go c 7 ∗ sendPay m c 5 ∗ sendPay m c 6 ∗ sendPay m c 7 ∗ Ow c (OR c 7) ∗ s2P c s₂ ∗ s3P c s₃)
      ⊢ iprop((iprop(Sent c 5 ∗ Sent c 6 ∗ Sent c 7 ∗ Ow c (OR c 4) ∗ s2P c s₂ ∗ s3P c s₃) -∗ Q (k0_pay3 (s₂ (ix1 (n := 1) 0)) (s₃ (ix1 (n := 1) 0))))
        -∗ WP c (k0_part6 (F := F) xM (Memref.isWhole_whole _) wM (Memref.isWhole_whole _) (Memref.whole cc0_stg0_0) hw2 (Memref.whole cc0_stg1_0) hw3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9 c v13 w) Q) := by
  rw [k0_part6_eq_skeleton]
  unfold k0_part6_skel
  simp only [semSignalWord, semWaitWord, smemLoad, smemLoadElt, Prog.lift, Prog.bind_op, Prog.bind_ret, Prog.pure_eq_ret, wp_deviceId]
  iintro ⟨#Hrec, Hr5, Hr6, Hr7, Hs5, Hs6, Hs7, HO, Hm2, Hm3⟩ Hk
  iapply (out5 m c K) $$ [Hr5 Hs5 HO]
  · isplitr; · iexact Hrec
    isplitl [Hr5]; · iexact Hr5
    isplitl [Hs5]; · iexact Hs5
    iexact HO
  iintro ⟨HS5, HO⟩
  iapply (out6 m c K) $$ [Hr6 Hs6 HO]
  · isplitr; · iexact Hrec
    isplitl [Hr6]; · iexact Hr6
    isplitl [Hs6]; · iexact Hs6
    iexact HO
  iintro ⟨HS6, HO⟩
  iapply (out7 m c K) $$ [Hr7 Hs7 HO]
  · isplitr; · iexact Hrec
    isplitl [Hr7]; · iexact Hr7
    isplitl [Hs7]; · iexact Hs7
    iexact HO
  iintro ⟨HS7, HO⟩
  iapply (s2_get c s₂) $$ Hm2
  iintro Hm2
  iapply (s3_get c s₃) $$ Hm3
  iintro Hm3
  iapply ret_at
  iapply Hk
  isplitl [HS5]; · iexact HS5
  isplitl [HS6]; · iexact HS6
  isplitl [HS7]; · iexact HS7
  isplitl [HO]; · iexact HO
  isplitl [Hm2]; · iexact Hm2
  iexact Hm3

end Scalars

end Cert.RingProof

end
-- ==== Proof.Body.lean ====
/-
Body: the whole kernel, run once at a device.
-/
module

public import proofs.«01_k».proof.Proof.Parts

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (m : (ℓ : Loc nD τ sig) → Buf (Elt F) ℓ) (c : Dev nD) (K : Dev nD × Fin 25 → ℕ)

theorem bind_at {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  rw [wp_bind]

theorem part3 (arg2 : Memref sig .tc .smem S1 .f32) (harg2 : arg2.IsWhole) (arg3 : Memref sig .tc .smem S1 .f32) (harg3 : arg3.IsWhole)
    {Q : (Σ' (d0 : Dev nD) (v2 : BitVec 32) (v13 : BitVec 32) (v24 : BitVec 32), BitVec 32) → sProp 𝕄} :
    iprop(∀ v2 v13 v24 v35, Q ⟨c, v2, v13, v24, v35⟩)
      ⊢ WP c (k0_part3 (F := F) xM (Memref.isWhole_whole _) wM (Memref.isWhole_whole _) arg2 harg2 arg3 harg3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9) Q := by
  rw [k0_part3_eq_skeleton]
  unfold k0_part3_skel WP
  simp only [Prog.lift, Prog.bind_op, Prog.bind_ret, Prog.pure_eq_ret, wp_deviceId]
  iintro H
  iapply (ret_at c)
  iapply H

/-- What a device holds when the kernel starts on it. -/
def Begin (fx : S4x4096x1024.Idx → Elt F .fp8e4m3) (fw : S3x1024x8192.Idx → Elt F .fp8e4m3) (fo : S4096x8192.Idx → Elt F .f32) (s₂ s₃ : S1.Idx → Elt F .f32) : sProp 𝕄 :=
  iprop(Recs m K ∗ levAts L lv ∗ Ow c (O₀ c) ∗ BarStart c ∗ Ready c 0 ∗ Ready c 1 ∗ Ready c 2 ∗ Ready c 3 ∗ Ready c 4 ∗ Ready c 5 ∗ Ready c 6 ∗ Ready c 7 ∗ Ready c 8 ∗ Ready c 9 ∗ Ready c 10 ∗ Ready c 11 ∗ Rest c 2 ∗ Rest c 28 ∗ Rest c 29 ∗ Rest c 30 ∗ Rest c 31 ∗ Rest c 32 ∗ Rest c 33 ∗ xP c fullShare Finset.univ (X m c) ∗ wP c fullShare Finset.univ (Wt m c) ∗ gP c fullShare Finset.univ fx ∗ vP c fullShare Finset.univ fw ∗ (∃ f, tP (F := F) c Finset.univ f) ∗ (∃ f, bP (F := F) c Finset.univ f) ∗ (∃ f, aP (F := F) c Finset.univ f) ∗ oP c Finset.univ fo ∗ s2P c s₂ ∗ s3P c s₃)
/-- What it holds when the kernel is done. -/
def Finish (s₂ s₃ : S1.Idx → Elt F .f32) : sProp 𝕄 :=
  iprop(Ow c (OR c 0) ∗ semVal (barCell c) 0 ∗ Done (F := F) c 0 ∗ Done (F := F) c 1 ∗ Done (F := F) c 2 ∗ Done (F := F) c 3 ∗ Done (F := F) c 4 ∗ Done (F := F) c 5 ∗ Done (F := F) c 6 ∗ Done (F := F) c 7 ∗ Done (F := F) c 8 ∗ Done (F := F) c 9 ∗ Done (F := F) c 10 ∗ Rest c (4 + 22) ∗ Rest c (4 + 23) ∗ Rest c 2 ∗ Rest c 28 ∗ Rest c 29 ∗ Rest c 30 ∗ Rest c 31 ∗ Rest c 32 ∗ Rest c 33 ∗ xP c fullShare Finset.univ (X m c) ∗ wP c fullShare Finset.univ (Wt m c) ∗ gP c fullShare Finset.univ (XG m) ∗ vP c fullShare Finset.univ (WV m c) ∗ (∃ f, tP (F := F) c Finset.univ f) ∗ (∃ f, bP (F := F) c Finset.univ f) ∗ (∃ f, aP (F := F) c Finset.univ f) ∗ oP c Finset.univ (G3 m c (k0_pay3 (s₂ (ix1 (n := 1) 0)) (s₃ (ix1 (n := 1) 0)))) ∗ s2P c s₂ ∗ s3P c s₃)

theorem g_back : iprop(gP c fullShare (gS c.val 0 4096) (XG m) ∗ recvPay m c 0 ∗ recvPay m c 2 ∗ recvPay m c 4 ∗ recvPay m c 6 ∗ recvPay m c 8 ∗ recvPay m c 10)
    ⊢ gP c fullShare Finset.univ (XG m) := (g_lands c (XG m) (WV m c)).mpr
theorem v_back : iprop(recvPay m c 1 ∗ recvPay m c 3 ∗ recvPay m c 5 ∗ recvPay m c 7 ∗ recvPay m c 9 ∗ recvPay m c 11)
    ⊢ vP c fullShare Finset.univ (WV m c) := (v_lands c (XG m) (WV m c)).mpr

set_option maxHeartbeats 4000000 in
theorem body_run {hw2 hw3} (fx : S4x4096x1024.Idx → Elt F .fp8e4m3) (fw : S3x1024x8192.Idx → Elt F .fp8e4m3) (fo : S4096x8192.Idx → Elt F .f32) (s₂ s₃ : S1.Idx → Elt F .f32) {Q : PUnit → sProp 𝕄} :
    Begin m c K fx fw fo s₂ s₃ ⊢ iprop((Finish m c s₂ s₃ -∗ Q ⟨⟩) -∗ WP c (cc0__fused_body (F := F) xM (Memref.isWhole_whole _) wM (Memref.isWhole_whole _) (Memref.whole cc0_stg0_0) hw2 (Memref.whole cc0_stg1_0) hw3 oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9) Q) := by
  rw [cc0__fused_body_eq_skeleton]
  unfold cc0__fused_body_skel Begin
  simp only [Prog.lift, Prog.bind_op, Prog.bind_ret, Prog.pure_eq_ret]
  iintro ⟨#Hrec, #Hlev, HO, Hbar, Hr0, Hr1, Hr2, Hr3, Hr4, Hr5, Hr6, Hr7, Hr8, Hr9, Hr10, Hr11, Hz2, Hz28, Hz29, Hz30, Hz31, Hz32, Hz33, Hx, Hw, Hg, Hv, Ht, Hb, Ha, Ho, Hm2, Hm3⟩ Hk
  iapply (bind_at c)
  iapply (part3 c)
  iintro %v2 %v13 %v24 %v35
  ihave Hx := ((x_cut m c).mp) $$ Hx
  icases Hx with ⟨Hs0, Hs2, Hs4, Hs6, Hx⟩
  ihave Hw := ((w_cut m c).mp) $$ Hw
  icases Hw with ⟨Hs1, Hs3, Hs5, Hs7, HwL, HwR⟩
  ihave Hg := ((g_lands c fx fw).mp) $$ Hg
  icases Hg with ⟨Hg, Hl0, Hl2, Hl4, Hl6, Hl8, Hl10⟩
  ihave Hv := ((v_lands c fx fw).mp) $$ Hv
  icases Hv with ⟨Hl1, Hl3, Hl5, Hl7, Hl9, Hl11⟩
  ihave Ht := ((t_slots c).mp) $$ Ht
  icases Ht with ⟨Ht, Ht'⟩
  ihave Hb := ((b_slots c).mp) $$ Hb
  icases Hb with ⟨Hb, Hb'⟩
  ihave Ha := ((a_slots c).mp) $$ Ha
  icases Ha with ⟨Ha, Ha'⟩
  iapply (bind_at c)
  iapply (part4 m c K _ _ _ _ fx fw v13 v24) $$ [Hbar HO Hl0 Hl1 Hl2 Hl3 Hl10 Hl11 Hl4 Hl5 Hl6 Hl7 Hl8 Hl9 Hx Hg Hz2 Hr0 Hs0]
  · isplitr; · iexact Hrec
    isplitr; · iexact Hlev
    isplitl [Hbar]; · iexact Hbar
    isplitl [HO]; · iexact HO
    isplitl [Hl0 Hl1 Hl2 Hl3 Hl10 Hl11]
    · unfold MineL
      isplitl [Hl0]; · iexact Hl0
      isplitl [Hl1]; · iexact Hl1
      isplitl [Hl2]; · iexact Hl2
      isplitl [Hl3]; · iexact Hl3
      isplitl [Hl10]; · iexact Hl10
      iexact Hl11
    isplitl [Hl4 Hl5 Hl6 Hl7 Hl8 Hl9]
    · unfold MineR
      isplitl [Hl4]; · iexact Hl4
      isplitl [Hl5]; · iexact Hl5
      isplitl [Hl6]; · iexact Hl6
      isplitl [Hl7]; · iexact Hl7
      isplitl [Hl8]; · iexact Hl8
      iexact Hl9
    isplitl [Hx]; · iexact Hx
    isplitl [Hg]; · iexact Hg
    isplitl [Hz2]; · iexact Hz2
    isplitl [Hr0]; · iexact Hr0
    iexact Hs0
  iintro ⟨HS0, HO, Hbz, Hfly, Hd1, Hd2, Hd3, Hd4, Hd5, Hd6, Hd7, Hd8, Hd9, Hd10, Hd11⟩
  iapply (bind_at c)
  iapply (part5 m c K _ _ _ _ v13 v24) $$ [ Hr1 Hd1 Hr2 Hd2 Hr3 Hd3 Hr4 Hd4 Hs1 Hs2 Hs3 Hs4 HO]
  · isplitr; · iexact Hrec
    isplitl [Hr1 Hd1]
    · unfold Go
      isplitl [Hr1]; · iexact Hr1
      iexact Hd1
    isplitl [Hr2 Hd2]
    · unfold Go
      isplitl [Hr2]; · iexact Hr2
      iexact Hd2
    isplitl [Hr3 Hd3]
    · unfold Go
      isplitl [Hr3]; · iexact Hr3
      iexact Hd3
    isplitl [Hr4 Hd4]
    · unfold Go
      isplitl [Hr4]; · iexact Hr4
      iexact Hd4
    isplitl [Hs1]; · iexact Hs1
    isplitl [Hs2]; · iexact Hs2
    isplitl [Hs3]; · iexact Hs3
    isplitl [Hs4]; · iexact Hs4
    iexact HO
  iintro ⟨HS1, HS2, HS3, HS4, HO⟩
  iapply (bind_at c)
  iapply (part6 m c K v13 _ s₂ s₃ hw2 hw3) $$ [ Hr5 Hd5 Hr6 Hd6 Hr7 Hd7 Hs5 Hs6 Hs7 HO Hm2 Hm3]
  · isplitr; · iexact Hrec
    isplitl [Hr5 Hd5]
    · unfold Go
      isplitl [Hr5]; · iexact Hr5
      iexact Hd5
    isplitl [Hr6 Hd6]
    · unfold Go
      isplitl [Hr6]; · iexact Hr6
      iexact Hd6
    isplitl [Hr7 Hd7]
    · unfold Go
      isplitl [Hr7]; · iexact Hr7
      iexact Hd7
    isplitl [Hs5]; · iexact Hs5
    isplitl [Hs6]; · iexact Hs6
    isplitl [Hs7]; · iexact Hs7
    isplitl [HO]; · iexact HO
    isplitl [Hm2]; · iexact Hm2
    iexact Hm3
  iintro ⟨HS5, HS6, HS7, HO, Hm2, Hm3⟩
  iapply (bind_at c)
  iapply (part7 m c _ _ _ _ fo v2) $$ [Hfly HO Ht Hz28 HwL Ht' Hz29 HwR Ha Hz32 Ha' Hz33 Ho]
  · isplitr; · iexact Hlev
    isplitl [Hfly]; · iexact Hfly
    isplitl [HO]; · iexact HO
    isplitl [Ht Hz28 HwL]
    · unfold TFree
      isplitl [Ht]; · iexact Ht
      isplitl [Hz28]; · iexact Hz28
      iexact HwL
    isplitl [Ht' Hz29 HwR]
    · unfold TFree
      isplitl [Ht']; · iexact Ht'
      isplitl [Hz29]; · iexact Hz29
      iexact HwR
    isplitl [Ha Hz32]
    · unfold AFree
      isplitl [Ha]; · iexact Ha
      iexact Hz32
    isplitl [Ha' Hz33]
    · unfold AFree
      isplitl [Ha']; · iexact Ha'
      iexact Hz33
    iexact Ho
  iintro ⟨HO, HT, HT', HA, HA', Hg, Ho, Hx, Hz2⟩
  iapply (bind_at c)
  iapply (part8 m c K _ _ _ _ _) $$ [HS0 HS1 HO]
  · isplitr; · iexact Hrec
    isplitr; · iexact Hlev
    isplitl [HS0]; · iexact HS0
    isplitl [HS1]; · iexact HS1
    iexact HO
  iintro ⟨HD0, Hx0, Hr0, HD1, Hx1, Hr1, HO⟩
  iapply (bind_at c)
  iapply (part9 m c K _ _ _ _ _) $$ [HS2 HS3 HO]
  · isplitr; · iexact Hrec
    isplitr; · iexact Hlev
    isplitl [HS2]; · iexact HS2
    isplitl [HS3]; · iexact HS3
    iexact HO
  iintro ⟨HD2, Hx2, Hr2, HD3, Hx3, Hr3, HO⟩
  iapply (bind_at c)
  iapply (part10 m c K _ _ _ _ _) $$ [HS4 HS5 HO]
  · isplitr; · iexact Hrec
    isplitr; · iexact Hlev
    isplitl [HS4]; · iexact HS4
    isplitl [HS5]; · iexact HS5
    iexact HO
  iintro ⟨HD4, Hx4, Hr4, HD5, Hx5, Hr5, HO⟩
  iapply (bind_at c)
  iapply (part11 m c K _ _ _ _ _) $$ [HS6 HS7 HO]
  · isplitr; · iexact Hrec
    isplitr; · iexact Hlev
    isplitl [HS6]; · iexact HS6
    isplitl [HS7]; · iexact HS7
    iexact HO
  iintro ⟨HD6, Hx6, Hr6, HD7, Hx7, Hr7, HO⟩
  ihave HL := ((g_left m c).mp) $$ [Hr0 Hr2]
  · isplitl [Hr0]; · iexact Hr0
    iexact Hr2
  icases HL with ⟨Hs10, HgLa, HgL⟩
  ihave HL := ((g_right m c).mp) $$ [Hr4 Hr6]
  · isplitl [Hr4]; · iexact Hr4
    iexact Hr6
  icases HL with ⟨Hs8, HgRa, HgR⟩
  ihave HL := ((v_left m c).mp) $$ [Hr1 Hr3]
  · isplitl [Hr1]; · iexact Hr1
    iexact Hr3
  icases HL with ⟨Hs11, HvLa, HvL⟩
  ihave HL := ((v_right m c).mp) $$ [Hr5 Hr7]
  · isplitl [Hr5]; · iexact Hr5
    iexact Hr7
  icases HL with ⟨Hs9, HvRa, HvR⟩
  iapply (bind_at c)
  iapply (part12 m c K _ _ _ _ v13 v24) $$ [ Hr8 Hd8 Hr9 Hd9 Hr10 Hd10 Hs8 Hs9 Hs10 HO]
  · isplitr; · iexact Hrec
    isplitl [Hr8 Hd8]
    · unfold Go
      isplitl [Hr8]; · iexact Hr8
      iexact Hd8
    isplitl [Hr9 Hd9]
    · unfold Go
      isplitl [Hr9]; · iexact Hr9
      iexact Hd9
    isplitl [Hr10 Hd10]
    · unfold Go
      isplitl [Hr10]; · iexact Hr10
      iexact Hd10
    isplitl [Hs8]; · iexact Hs8
    isplitl [Hs9]; · iexact Hs9
    isplitl [Hs10]; · iexact Hs10
    iexact HO
  iintro ⟨HS8, HS9, HS10, HO⟩
  iapply (bind_at c)
  iapply (part13 m c K _ _ _ _ v13 v24) $$ [ Hr11 Hd11 Hs11 HO Hb Hz30 Hb' Hz31 HA HA' HgL HvL HgR HvR Ho]
  · isplitr; · iexact Hrec
    isplitr; · iexact Hlev
    isplitl [Hr11 Hd11]
    · unfold Go
      isplitl [Hr11]; · iexact Hr11
      iexact Hd11
    isplitl [Hs11]; · iexact Hs11
    isplitl [HO]; · iexact HO
    isplitl [Hb Hz30]
    · unfold BFree
      isplitl [Hb]; · iexact Hb
      iexact Hz30
    isplitl [Hb' Hz31]
    · unfold BFree
      isplitl [Hb']; · iexact Hb'
      iexact Hz31
    isplitl [HA]; · iexact HA
    isplitl [HA']; · iexact HA'
    isplitl [HgL]; · iexact HgL
    isplitl [HvL]; · iexact HvL
    isplitl [HgR]; · iexact HgR
    isplitl [HvR]; · iexact HvR
    iexact Ho
  iintro ⟨HS11, HO, HB, HB', HA, HA', HgL, HvL, HgR, HvR, Ho⟩
  iapply (bind_at c)
  iapply (part14 m c K _ _ _ _ _) $$ [HS8 HS9 HO]
  · isplitr; · iexact Hrec
    isplitr; · iexact Hlev
    isplitl [HS8]; · iexact HS8
    isplitl [HS9]; · iexact HS9
    iexact HO
  iintro ⟨HD8, Hs8, Hr8, HD9, Hs9, Hr9, HO⟩
  iapply (bind_at c)
  iapply (part15 m c K _ _ _ _ _) $$ [HS10 HS11 HO]
  · isplitr; · iexact Hrec
    isplitr; · iexact Hlev
    isplitl [HS10]; · iexact HS10
    isplitl [HS11]; · iexact HS11
    iexact HO
  iintro ⟨HD10, Hs10, Hr10, Hzs, Hs11, HH, HO⟩
  iapply (done11b m c K) $$ [HH HO]
  · isplitr; · iexact Hrec
    isplitr; · iexact Hlev
    isplitl [HH]; · iexact HH
    iexact HO
  iintro ⟨Hzr, Hr11, HO⟩
  ihave HgD := ((g_diag m c).mp) $$ [Hr8 Hr10]
  · isplitl [Hr8]; · iexact Hr8
    iexact Hr10
  ihave HvD := ((v_diag m c).mp) $$ [Hr9 Hr11]
  · isplitl [Hr9]; · iexact Hr9
    iexact Hr11
  iapply (pass3_all m c (OR c 0) (mayWait_local c 0 (by omega)) (k0_pay3 (s₂ (ix1 (n := 1) 0)) (s₃ (ix1 (n := 1) 0))) fullShare fullShare v35 (Memref.whole cc0_stg0_0) hw2 (Memref.whole cc0_stg1_0) hw3 k0_off22_eq) $$ [HO HB HB' HA HA' HgD HvD Ho]
  · isplitr; · iexact Hlev
    isplitl [HO]; · iexact HO
    isplitl [HB]; · iexact HB
    isplitl [HB']; · iexact HB'
    isplitl [HA]; · iexact HA
    isplitl [HA']; · iexact HA'
    isplitl [HgD]; · iexact HgD
    isplitl [HvD]; · iexact HvD
    iexact Ho
  iintro ⟨HO, HB, HB', HA, HA', HgD, HvD, Ho⟩
  ihave HL := ((g_left m c).mpr) $$ [Hs10 HgLa HgL]
  · isplitl [Hs10]; · iexact Hs10
    isplitl [HgLa]; · iexact HgLa
    iexact HgL
  icases HL with ⟨Hr0, Hr2⟩
  ihave HL := ((g_right m c).mpr) $$ [Hs8 HgRa HgR]
  · isplitl [Hs8]; · iexact Hs8
    isplitl [HgRa]; · iexact HgRa
    iexact HgR
  icases HL with ⟨Hr4, Hr6⟩
  ihave HL := ((v_left m c).mpr) $$ [Hs11 HvLa HvL]
  · isplitl [Hs11]; · iexact Hs11
    isplitl [HvLa]; · iexact HvLa
    iexact HvL
  icases HL with ⟨Hr1, Hr3⟩
  ihave HL := ((v_right m c).mpr) $$ [Hs9 HvRa HvR]
  · isplitl [Hs9]; · iexact Hs9
    isplitl [HvRa]; · iexact HvRa
    iexact HvR
  icases HL with ⟨Hr5, Hr7⟩
  ihave HL := ((g_diag m c).mpr) $$ [HgD]
  · iexact HgD
  icases HL with ⟨Hr8, Hr10⟩
  ihave HL := ((v_diag m c).mpr) $$ [HvD]
  · iexact HvD
  icases HL with ⟨Hr9, Hr11⟩
  ihave Hg := (g_back m c) $$ [Hg Hr0 Hr2 Hr4 Hr6 Hr8 Hr10]
  · isplitl [Hg]; · iexact Hg
    isplitl [Hr0]; · iexact Hr0
    isplitl [Hr2]; · iexact Hr2
    isplitl [Hr4]; · iexact Hr4
    isplitl [Hr6]; · iexact Hr6
    isplitl [Hr8]; · iexact Hr8
    iexact Hr10
  ihave Hv := (v_back m c) $$ [Hr1 Hr3 Hr5 Hr7 Hr9 Hr11]
  · isplitl [Hr1]; · iexact Hr1
    isplitl [Hr3]; · iexact Hr3
    isplitl [Hr5]; · iexact Hr5
    isplitl [Hr7]; · iexact Hr7
    isplitl [Hr9]; · iexact Hr9
    iexact Hr11
  unfold TFree BFree AFree
  icases HT with ⟨Ht, Hz28, HwL⟩
  icases HT' with ⟨Ht', Hz29, HwR⟩
  icases HB with ⟨Hb, Hz30⟩
  icases HB' with ⟨Hb', Hz31⟩
  icases HA with ⟨Ha, Hz32⟩
  icases HA' with ⟨Ha', Hz33⟩
  ihave Hx := ((x_cut m c).mpr) $$ [Hx0 Hx2 Hx4 Hx6 Hx]
  · isplitl [Hx0]; · iexact Hx0
    isplitl [Hx2]; · iexact Hx2
    isplitl [Hx4]; · iexact Hx4
    isplitl [Hx6]; · iexact Hx6
    iexact Hx
  ihave Hw := ((w_cut m c).mpr) $$ [Hx1 Hx3 Hx5 Hx7 HwL HwR]
  · isplitl [Hx1]; · iexact Hx1
    isplitl [Hx3]; · iexact Hx3
    isplitl [Hx5]; · iexact Hx5
    isplitl [Hx7]; · iexact Hx7
    isplitl [HwL]; · iexact HwL
    iexact HwR
  ihave Ht := ((t_slots c).mpr) $$ [Ht Ht']
  · isplitl [Ht]; · iexact Ht
    iexact Ht'
  ihave Hb := ((b_slots c).mpr) $$ [Hb Hb']
  · isplitl [Hb]; · iexact Hb
    iexact Hb'
  ihave Ha := ((a_slots c).mpr) $$ [Ha Ha']
  · isplitl [Ha]; · iexact Ha
    iexact Ha'
  iapply (ret_at c)
  iapply Hk
  unfold Finish
  isplitl [HO]; · iexact HO
  isplitl [Hbz]; · iexact Hbz
  isplitl [HD0]; · iexact HD0
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HD10]; · iexact HD10
  isplitl [Hzs]; · iexact Hzs
  isplitl [Hzr]; · iexact Hzr
  isplitl [Hz2]; · iexact Hz2
  isplitl [Hz28]; · iexact Hz28
  isplitl [Hz29]; · iexact Hz29
  isplitl [Hz30]; · iexact Hz30
  isplitl [Hz31]; · iexact Hz31
  isplitl [Hz32]; · iexact Hz32
  isplitl [Hz33]; · iexact Hz33
  isplitl [Hx]; · iexact Hx
  isplitl [Hw]; · iexact Hw
  isplitl [Hg]; · iexact Hg
  isplitl [Hv]; · iexact Hv
  isplitl [Ht]; · iexact Ht
  isplitl [Hb]; · iexact Hb
  isplitl [Ha]; · iexact Ha
  isplitl [Ho]; · iexact Ho
  isplitl [Hm2]; · iexact Hm2
  iexact Hm3

end Cert.RingProof

end
-- ==== Proof.Ghost.lean ====
/-
Ghost: what the launch deals every device, and how the rights to pay travel to the devices that pay.

Every device starts with the cells of its own semaphores. The right to pay a cell is minted where the cell is;
it is handed to the device that pays: a neighbour for the barrier and the landings, the device itself for the
sends.
-/
module

public import proofs.«01_k».proof.Proof.Start

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (m : (ℓ : Loc nD τ sig) → Buf (Elt F) ℓ)

/-! ## The cells and the rights to pay them -/

omit [FloatOps F] in
theorem dCell_inj {a b : Dev nD} {i j : ℕ} (hi : i < 24) (hj : j < 24) (h : dCell a i = dCell b j) : a = b ∧ i = j := by
  have h1 : a = b := congrArg (fun g : GSem nD τ sig => g.1.1) h
  have h2 : SemLoc.dma (dsem i) = SemLoc.dma (dsem j) := congrArg Prod.snd h
  have h3 : dsem i = dsem j := SemLoc.dma.inj h2
  have h4 : (4 + i) % 34 = (4 + j) % 34 := congrArg Fin.val h3
  exact ⟨h1, by omega⟩

theorem dCell_ne_bar {a b : Dev nD} {i : ℕ} : dCell a i ≠ barCell b := fun h => by
  have h2 : SemLoc.dma (dsem i) = SemLoc.reg barS := congrArg Prod.snd h
  cases h2

theorem barCell_inj {a b : Dev nD} (h : barCell a = barCell b) : a = b := congrArg (fun g : GSem nD τ sig => g.1.1) h

theorem kcell_injective : Function.Injective (kcell : Dev nD × Fin 25 → GSem nD τ sig) := by
  rintro ⟨a, i⟩ ⟨b, j⟩ h
  unfold kcell at h
  by_cases hi : i.val < 24 <;> by_cases hj : j.val < 24
  · rw [if_pos hi, if_pos hj] at h
    obtain ⟨h1, h2⟩ := dCell_inj hi hj h
    exact Prod.ext h1 (Fin.ext h2)
  · rw [if_pos hi, if_neg hj] at h; exact absurd h dCell_ne_bar
  · rw [if_neg hi, if_pos hj] at h; exact absurd h.symm dCell_ne_bar
  · rw [if_neg hi, if_neg hj] at h
    refine Prod.ext (barCell_inj h) (Fin.ext ?_)
    show i.val = j.val
    omega

def allCells : Finset (GSem nD τ sig) := Finset.univ.map ⟨kcell, kcell_injective⟩

/-- The twenty-six rights to pay at one device's cells: its twenty-four copy cells, then its barrier twice. -/
def tokOf (cj : Dev nD × Fin 26) : GSem nD τ sig × ℕ × Bool :=
  if cj.2.val < 24 then (dCell cj.1 cj.2.val, 0, false) else (barCell cj.1, 0, decide (cj.2.val = 24))

theorem tokOf_injective : Function.Injective tokOf := by
  rintro ⟨a, i⟩ ⟨b, j⟩ h
  unfold tokOf at h
  by_cases hi : i.val < 24 <;> by_cases hj : j.val < 24
  · rw [if_pos hi, if_pos hj] at h
    obtain ⟨h1, h2⟩ := dCell_inj hi hj (congrArg Prod.fst h)
    exact Prod.ext h1 (Fin.ext h2)
  · rw [if_pos hi, if_neg hj] at h; exact absurd (congrArg Prod.fst h) dCell_ne_bar
  · rw [if_neg hi, if_pos hj] at h; exact absurd (congrArg Prod.fst h).symm dCell_ne_bar
  · rw [if_neg hi, if_neg hj] at h
    have h1 := barCell_inj (congrArg Prod.fst h)
    have h2 : decide (i.val = 24) = decide (j.val = 24) := congrArg (fun x => x.2.2) h
    have h3 : (i.val = 24) = (j.val = 24) := by simpa using h2
    refine Prod.ext h1 (Fin.ext ?_)
    show i.val = j.val
    have hi' := i.isLt
    have hj' := j.isLt
    by_cases h4 : i.val = 24
    · rw [h4, (h3 ▸ h4 : j.val = 24)]
    · have h5 : j.val ≠ 24 := fun h' => h4 (h3 ▸ h')
      omega

def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, 1))

/-- Right `j` of device `c`'s cells. -/
def tok (c : Dev nD) (j : Fin 26) : sProp 𝕄 := dutyTok ER (tokOf (c, j)).1 (tokOf (c, j)).2.1 (tokOf (c, j)).2.2

/-- The device where the cell is that device `c` pays with right `j`. -/
def payee (j : Fin 26) : Dev nD ≃ Dev nD :=
  if j.val < 24 then (if j.val % 2 = 0 then Equiv.refl _ else if j.val / 2 < 4 ∨ 10 ≤ j.val / 2 then ring else ring.symm)
  else if j.val = 24 then ring.symm else ring

def toks (c : Dev nD) : sProp 𝕄 := bigSep Finset.univ fun j => tok (F := F) c j
def payToks (c : Dev nD) : sProp 𝕄 := bigSep Finset.univ fun j => tok (F := F) (payee j c) j

theorem dev_right_swap (Φ : Dev nD → Fin 26 → sProp 𝕄) :
    (bigSep Finset.univ fun c : Dev nD => bigSep Finset.univ fun j : Fin 26 => Φ c j) = bigSep Finset.univ fun j : Fin 26 => bigSep Finset.univ fun c : Dev nD => Φ c j := by
  rw [← bigSep_univ_prod (fun x : Dev nD × Fin 26 => Φ x.1 x.2), bigSep_univ_equiv (Equiv.prodComm (Fin 26) (Dev nD)), bigSep_univ_prod]
  rfl

theorem toks_around : (bigSep Finset.univ fun c : Dev nD => toks (F := F) c) = bigSep Finset.univ fun c : Dev nD => payToks (F := F) c := by
  unfold toks payToks
  rw [dev_right_swap, dev_right_swap]
  exact bigSep_congr fun j _ => bigSep_univ_equiv (payee j) fun c => tok (F := F) c j

/-! ## The launch's element, dealt and turned into invariants -/

/-- What a device is dealt. -/
def G (c : Dev nD) : sProp 𝕄 :=
  iprop((bigSep Finset.univ fun k : Fin 25 => roundState ER (Rd m) (kcell (c, k)) 0)
    ∗ (bigSep Finset.univ fun k : Fin 25 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 25 => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks; rw [BI.bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the DMA semaphores that serve no window. -/
abbrev osem (j : Fin 32) : SemLoc sig := .dma (qsem (2 + j.val))

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(Rest c 2 ∗ Rest c 3 ∗ Rest c 4 ∗ Rest c 5 ∗ Rest c 6 ∗ Rest c 7 ∗ Rest c 8 ∗ Rest c 9 ∗ Rest c 10 ∗ Rest c 11 ∗ Rest c 12 ∗ Rest c 13 ∗ Rest c 14 ∗ Rest c 15 ∗ Rest c 16 ∗ Rest c 17 ∗ Rest c 18 ∗ Rest c 19 ∗ Rest c 20 ∗ Rest c 21 ∗ Rest c 22 ∗ Rest c 23 ∗ Rest c 24 ∗ Rest c 25 ∗ Rest c 26 ∗ Rest c 27 ∗ Rest c 28 ∗ Rest c 29 ∗ Rest c 30 ∗ Rest c 31 ∗ Rest c 32 ∗ Rest c 33) := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ
theorem bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

/-- The semaphores of the local copies, all at zero. -/
def Spare (c : Dev nD) : sProp 𝕄 := iprop(Rest (F := F) c 2 ∗ Rest (F := F) c 3 ∗ Rest (F := F) c 28 ∗ Rest (F := F) c 29 ∗ Rest (F := F) c 30 ∗ Rest (F := F) c 31 ∗ Rest (F := F) c 32 ∗ Rest (F := F) c 33)

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 25 => semVal (kcell (c, k)) 0) ∗ Spare (F := F) c) := by
  rw [ownSems0_eq, unscopedSems0_eq, bigSep_fin25]
  unfold Spare
  iintro ⟨⟨H2, H3, H4, H5, H6, H7, H8, H9, H10, H11, H12, H13, H14, H15, H16, H17, H18, H19, H20, H21, H22, H23, H24, H25, H26, H27, H28, H29, H30, H31, H32, H33⟩, HB⟩
  isplitl [HB H4 H5 H6 H7 H8 H9 H10 H11 H12 H13 H14 H15 H16 H17 H18 H19 H20 H21 H22 H23 H24 H25 H26 H27]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact HB
  isplitl [H2]; · iexact H2
  isplitl [H3]; · iexact H3
  isplitl [H28]; · iexact H28
  isplitl [H29]; · iexact H29
  isplitl [H30]; · iexact H30
  isplitl [H31]; · iexact H31
  isplitl [H32]; · iexact H32
  iexact H33

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ Spare c) := by
  unfold G
  iintro ⟨Hos, Hus, Hst, Hat, Htok⟩
  ihave Hv := (sems0_eq (F := F) c) $$ [Hos Hus]
  · isplitl [Hos] <;> iassumption
  icases Hv with ⟨Hv, Hspare⟩
  imod (show iprop((bigSep Finset.univ fun k : Fin 25 => semVal (kcell (c, k)) 0) ∗ bigSep Finset.univ fun k : Fin 25 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hspare

/-- What stays with one device: its positions, the rights it pays with, its local copies' semaphores. -/
def Own (c : Dev nD) : sProp 𝕄 :=
  iprop((bigSep Finset.univ fun k : Fin 25 => atPos ER (kcell (c, k)) 0 ∅ 0) ∗ payToks c ∗ Spare (F := F) c)

/-- What the global step leaves with one device. -/
def G' (c : Dev nD) : sProp 𝕄 := iprop(∃ K, Recs m K ∗ Own (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ Spare c) : sProp 𝕄)
      ⊢ bigSep Finset.univ (G' m) := by
  rw [bigSep_sep', bigSep_sep', bigSep_sep', ← bigSep_univ_prod (fun ck : Dev nD × Fin 25 => iprop(∃ κ : ℕ, cellInv ER (Rd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄)), toks_around]
  iintro ⟨HI, ⟨Hat, #HR⟩, Htok, Hsp⟩
  ihave HK := (BI.bigSep_exists_pi Finset.univ (fun (ck : Dev nD × Fin 25) (κ : ℕ) => (cellInv ER (Rd m) κ (kcell ck) : sProp 𝕄))) $$ HI
  icases HK with ⟨%K, #HI⟩
  iapply (with_persistent (R := Recs m K) (Φ := fun c => Own (F := F) c) fun c _ => show iprop(Recs m K ∗ Own (F := F) c) ⊢ G' m c from by
    unfold G'; iintro H; iexists K; iexact H)
  isplitr
  · unfold Recs; rw [bigSep_sep']
    isplitl; · iexact HI
    iexact HR
  · unfold Own
    rw [bigSep_sep', bigSep_sep']
    isplitl [Hat]; · iexact Hat
    isplitl [Htok]; · iexact Htok
    iexact Hsp

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch gives a device's own cells -/

/-- The device whose copy `t` lands on `c`. -/
def from' (c : Dev nD) (t : ℕ) : Dev nD := if t < 4 ∨ 10 ≤ t then lt c else rt c
theorem peer_from (c : Dev nD) (t : ℕ) : peer (from' c t) t = c := by
  unfold peer from'; by_cases h : t < 4 ∨ 10 ≤ t
  · rw [if_pos h, if_pos h, rt_lt]
  · rw [if_neg h, if_neg h, lt_rt]
theorem from_peer (c : Dev nD) (t : ℕ) : from' (peer c t) t = c := by
  unfold peer from'; by_cases h : t < 4 ∨ 10 ≤ t
  · rw [if_pos h, if_pos h, lt_rt]
  · rw [if_neg h, if_neg h, rt_lt]

theorem OR_recv (d c : Dev nD) (k t : ℕ) (hk : k ≤ 12) (ht : t < 12) :
    OR d k (dCell c (2 * t + 1)) () = if d = from' c t ∧ 12 - k ≤ t then amt t else 0 := by
  induction k with
  | zero => rw [if_neg (fun h => by omega)]; rfl
  | succ k ih =>
    unfold OR ow
    rw [Pi.add_apply, Finsupp.add_apply, ih (by omega), tallyAt_apply]
    by_cases h : d = from' c t
    · by_cases h' : t = 11 - k
      · subst h'
        rw [if_neg (fun hh => by omega), if_pos ⟨by rw [h, peer_from], rfl⟩, if_pos ⟨h, by omega⟩, Nat.zero_add]
      · rw [if_neg (c := dCell c (2 * t + 1) = dCell (peer d (11 - k)) (2 * (11 - k) + 1) ∧ () = ())
          (fun hh => by have := (dCell_inj (by omega) (by omega) hh.1).2; omega), Nat.add_zero]
        by_cases h2 : 12 - k ≤ t
        · rw [if_pos ⟨h, h2⟩, if_pos ⟨h, by omega⟩]
        · rw [if_neg (fun hh => h2 hh.2), if_neg (fun hh => by omega)]
    · rw [if_neg (fun hh => h hh.1), if_neg (c := d = from' c t ∧ 12 - (k + 1) ≤ t) (fun hh => h hh.1), if_neg, ]
      rintro ⟨hh, -⟩
      obtain ⟨h1, h2⟩ := dCell_inj (by omega) (by omega) hh
      have h3 : t = 11 - k := by omega
      subst h3
      exact h (by rw [h1, from_peer])

theorem OR_bar (d c : Dev nD) (k : ℕ) : OR d k (barCell c) () = 0 := by
  induction k with
  | zero => rfl
  | succ k ih =>
    unfold OR ow
    rw [Pi.add_apply, Finsupp.add_apply, ih, tallyAt_ne_cell (fun h => dCell_ne_bar h.symm), Finsupp.zero_apply, Nat.zero_add]

theorem owed_recv (d c : Dev nD) (t : ℕ) (ht : t < 12) : O₀ d (dCell c (2 * t + 1)) () = if d = from' c t then amt t else 0 := by
  unfold O₀ O₁
  rw [Pi.add_apply, Finsupp.add_apply, Pi.add_apply, Finsupp.add_apply, OR_recv d c 12 t (le_refl _) ht,
    tallyAt_ne_cell dCell_ne_bar, tallyAt_ne_cell dCell_ne_bar, Finsupp.zero_apply, Nat.add_zero, Nat.add_zero]
  by_cases h : d = from' c t
  · rw [if_pos ⟨h, by omega⟩, if_pos h]
  · rw [if_neg (fun hh => h hh.1), if_neg h]

theorem owed_bar (d c : Dev nD) : O₀ d (barCell c) () = (if d = lt c then 1 else 0) + (if d = rt c then 1 else 0) := by
  unfold O₀ O₁
  rw [Pi.add_apply, Finsupp.add_apply, Pi.add_apply, Finsupp.add_apply, OR_bar, Nat.zero_add, tallyAt_apply, tallyAt_apply]
  congr 1
  · by_cases h : d = lt c
    · subst h; rw [rt_lt, if_pos ⟨rfl, rfl⟩, if_pos rfl]
    · rw [if_neg (fun hh => h (by rw [barCell_inj hh.1, lt_rt])), if_neg h]
  · by_cases h : d = rt c
    · subst h; rw [lt_rt, if_pos ⟨rfl, rfl⟩, if_pos rfl]
    · rw [if_neg (fun hh => h (by rw [barCell_inj hh.1, rt_lt])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lt c) fun _ => 1, Finset.sum_ite_eq' Finset.univ (rt c) fun _ => 1, if_pos (Finset.mem_univ _), if_pos (Finset.mem_univ _)]

theorem launch_recv (c : Dev nD) (t : ℕ) (ht : t < 12) :
    tallyOn (dCell c (2 * t + 1)) (launchCredit (Pipeline.owing O₀) 0 (dCell c (2 * t + 1))) = (tallyAt (dCell c (2 * t + 1)) () (amt t) : CellTallies nD τ sig Unit) := by
  unfold tallyAt; refine congrArg _ (Finsupp.ext fun u => ?_); cases u
  rw [Pipeline.launchCredit_owing, Finsupp.single_eq_same, Finset.sum_congr rfl fun d _ => owed_recv d c t ht,
    Finset.sum_ite_eq' Finset.univ (from' c t) fun _ => amt t, if_pos (Finset.mem_univ _)]

/-- The semaphores of the landings. -/
def landSem (t : Fin 12) : SemLoc sig := .dma (dsem (2 * t.val + 1))
theorem landSem_inj : Function.Injective landSem := by
  intro a b h
  have h3 : dsem (2 * a.val + 1) = dsem (2 * b.val + 1) := SemLoc.dma.inj h
  have h4 : (4 + (2 * a.val + 1)) % 34 = (4 + (2 * b.val + 1)) % 34 := congrArg Fin.val h3
  have ha := a.isLt
  have hb := b.isLt
  exact Fin.ext (by omega)

theorem creds (c : Dev nD) :
    (Pipeline.launchCred O₀ c : sProp 𝕄) ⊢ iprop(cred (tallyAt (barCell c) () 2)
      ∗ bigSep Finset.univ fun t : Fin 12 => cred (tallyAt (dCell c (2 * t.val + 1)) () (amt t.val))) := by
  unfold Pipeline.launchCred
  rw [bigSep_univ_at _ (SemLoc.reg barS), launch_bar]
  refine sep_mono_right ?_
  refine (BI.bigSep_subset (t := Finset.univ.map ⟨landSem, landSem_inj⟩) (fun s hs => ?_)).trans ?_
  · obtain ⟨t, -, rfl⟩ := Finset.mem_map.mp hs
    exact Finset.mem_erase.mpr ⟨(fun h => by cases h), Finset.mem_univ _⟩
  · rw [BI.bigSep_map]
    exact bigSep_mono fun t _ => Entails.of_eq (congrArg cred (launch_recv c t.val t.isLt))

end Cert.RingProof

end
-- ==== Proof.Run.lean ====
/-
Run: the launch of the kernel on the four devices, from the ghost state of every device to the run of @main.
-/
module

public import proofs.«01_k».proof.Proof.Body
public import proofs.«01_k».proof.Proof.Ghost
public import Idealize.ShloMosaic.Lib.Pipeline.CollectiveSegs

@[expose] public section

noncomputable section

namespace Cert.RingProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ) (ρ : Dev nD → PrngReg)

/-! ## From what the launch leaves with a device to what the kernel begins with -/

theorem tok_send (c : Dev nD) (t : ℕ) (ht : t < 12) :
    tok (F := F) (payee ⟨2 * t, by omega⟩ c) ⟨2 * t, by omega⟩ = dutyTok ER (dCell c (2 * t)) 0 false := by
  unfold tok tokOf payee
  rw [if_pos (show (⟨2 * t, by omega⟩ : Fin 26).val < 24 from by show 2 * t < 24; omega),
    if_pos (show (⟨2 * t, by omega⟩ : Fin 26).val % 2 = 0 from by show 2 * t % 2 = 0; omega)]
  dsimp only
  rw [if_pos (show 2 * t < 24 by omega)]
  rfl
theorem tok_recv (c : Dev nD) (t : ℕ) (ht : t < 12) :
    tok (F := F) (payee ⟨2 * t + 1, by omega⟩ c) ⟨2 * t + 1, by omega⟩ = dutyTok ER (dCell (peer c t) (2 * t + 1)) 0 false := by
  have hp : payee ⟨2 * t + 1, by omega⟩ c = peer c t := by
    unfold payee peer
    dsimp only
    rw [if_pos (show 2 * t + 1 < 24 by omega), if_neg (show ¬ (2 * t + 1) % 2 = 0 by omega), show (2 * t + 1) / 2 = t by omega]
    split <;> rfl
  rw [hp]
  unfold tok tokOf
  dsimp only
  rw [if_pos (show 2 * t + 1 < 24 by omega)]
theorem tok_left (c : Dev nD) : tok (F := F) (payee 24 c) 24 = dutyTok ER (barCell (lt c)) 0 true := rfl
theorem tok_right (c : Dev nD) : tok (F := F) (payee 25 c) 25 = dutyTok ER (barCell (rt c)) 0 false := rfl
theorem pos_d (c : Dev nD) (i : ℕ) (hi : i < 24) :
    (atPos ER (kcell (c, ⟨i, by omega⟩)) 0 ∅ 0 : sProp 𝕄) = atPos ER (dCell c i) 0 ∅ 0 := by
  rw [show kcell (c, ⟨i, by omega⟩) = dCell c i from if_pos hi]
theorem pos_bar (c : Dev nD) : (atPos ER (kcell (c, 24)) 0 ∅ 0 : sProp 𝕄) = atPos ER (barCell c) 0 ∅ 0 := by
  rw [show kcell (c, 24) = barCell c from if_neg (Nat.lt_irrefl 24)]

theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The credit of the launch. -/
def Creds (c : Dev nD) : sProp 𝕄 := iprop(cred (tallyAt (barCell c) () 2)
      ∗ bigSep Finset.univ fun t : Fin 12 => cred (tallyAt (dCell c (2 * t.val + 1)) () (amt t.val)))

theorem enter (c : Dev nD) : iprop(Own (F := F) c ∗ Creds c) ⊢ iprop(BarStart c ∗ Ready c 0 ∗ Ready c 1 ∗ Ready c 2 ∗ Ready c 3 ∗ Ready c 4 ∗ Ready c 5 ∗ Ready c 6 ∗ Ready c 7 ∗ Ready c 8 ∗ Ready c 9 ∗ Ready c 10 ∗ Ready c 11 ∗ Spare (F := F) c) := by
  unfold Own payToks Creds
  rw [bigSep_fin25, bigSep_fin26, bigSep_fin12]
  iintro ⟨⟨⟨A0, A1, A2, A3, A4, A5, A6, A7, A8, A9, A10, A11, A12, A13, A14, A15, A16, A17, A18, A19, A20, A21, A22, A23, A24⟩, ⟨T0, T1, T2, T3, T4, T5, T6, T7, T8, T9, T10, T11, T12, T13, T14, T15, T16, T17, T18, T19, T20, T21, T22, T23, T24, T25⟩, Hsp⟩, HcB, ⟨C0, C1, C2, C3, C4, C5, C6, C7, C8, C9, C10, C11⟩⟩
  isplitl [T24 T25 A24 HcB]
  · unfold BarStart
    ihave T24 := (Entails.of_eq (tok_left (F := F) c)) $$ T24
    ihave T25 := (Entails.of_eq (tok_right (F := F) c)) $$ T25
    ihave A24 := (Entails.of_eq (pos_bar (F := F) c)) $$ A24
    isplitl [T24]; · iexact T24
    isplitl [T25]; · iexact T25
    isplitl [A24]; · iexact A24
    iexact HcB
  isplitl [T0 T1 A0 A1 C0]
  · unfold Ready
    isplitl [T0]; · iapply (Entails.of_eq (tok_send (F := F) c 0 (by decide))); iexact T0
    isplitl [T1]; · iapply (Entails.of_eq (tok_recv (F := F) c 0 (by decide))); iexact T1
    isplitl [A0]; · iapply (Entails.of_eq (pos_d (F := F) c (2 * 0) (by decide))); iexact A0
    isplitl [A1]; · iapply (Entails.of_eq (pos_d (F := F) c (2 * 0 + 1) (by decide))); iexact A1
    iexact C0
  isplitl [T2 T3 A2 A3 C1]
  · unfold Ready
    isplitl [T2]; · iapply (Entails.of_eq (tok_send (F := F) c 1 (by decide))); iexact T2
    isplitl [T3]; · iapply (Entails.of_eq (tok_recv (F := F) c 1 (by decide))); iexact T3
    isplitl [A2]; · iapply (Entails.of_eq (pos_d (F := F) c (2 * 1) (by decide))); iexact A2
    isplitl [A3]; · iapply (Entails.of_eq (pos_d (F := F) c (2 * 1 + 1) (by decide))); iexact A3
    iexact C1
  isplitl [T4 T5 A4 A5 C2]
  · unfold Ready
    isplitl [T4]; · iapply (Entails.of_eq (tok_send (F := F) c 2 (by decide))); iexact T4
    isplitl [T5]; · iapply (Entails.of_eq (tok_recv (F := F) c 2 (by decide))); iexact T5
    isplitl [A4]; · iapply (Entails.of_eq (pos_d (F := F) c (2 * 2) (by decide))); iexact A4
    isplitl [A5]; · iapply (Entails.of_eq (pos_d (F := F) c (2 * 2 + 1) (by decide))); iexact A5
    iexact C2
  isplitl [T6 T7 A6 A7 C3]
  · unfold Ready
    isplitl [T6]; · iapply (Entails.of_eq (tok_send (F := F) c 3 (by decide))); iexact T6
    isplitl [T7]; · iapply (Entails.of_eq (tok_recv (F := F) c 3 (by decide))); iexact T7
    isplitl [A6]; · iapply (Entails.of_eq (pos_d (F := F) c (2 * 3) (by decide))); iexact A6
    isplitl [A7]; · iapply (Entails.of_eq (pos_d (F := F) c (2 * 3 + 1) (by decide))); iexact A7
    iexact C3
  isplitl [T8 T9 A8 A9 C4]
  · unfold Ready
    isplitl [T8]; · iapply (Entails.of_eq (tok_send (F := F) c 4 (by decide))); iexact T8
    isplitl [T9]; · iapply (Entails.of_eq (tok_recv (F := F) c 4 (by decide))); iexact T9
    isplitl [A8]; · iapply (Entails.of_eq (pos_d (F := F) c (2 * 4) (by decide))); iexact A8
    isplitl [A9]; · iapply (Entails.of_eq (pos_d (F := F) c (2 * 4 + 1) (by decide))); iexact A9
    iexact C4
  isplitl [T10 T11 A10 A11 C5]
  · unfold Ready
    isplitl [T10]; · iapply (Entails.of_eq (tok_send (F := F) c 5 (by decide))); iexact T10
    isplitl [T11]; · iapply (Entails.of_eq (tok_recv (F := F) c 5 (by decide))); iexact T11
    isplitl [A10]; · iapply (Entails.of_eq (pos_d (F := F) c (2 * 5) (by decide))); iexact A10
    isplitl [A11]; · iapply (Entails.of_eq (pos_d (F := F) c (2 * 5 + 1) (by decide))); iexact A11
    iexact C5
  isplitl [T12 T13 A12 A13 C6]
  · unfold Ready
    isplitl [T12]; · iapply (Entails.of_eq (tok_send (F := F) c 6 (by decide))); iexact T12
    isplitl [T13]; · iapply (Entails.of_eq (tok_recv (F := F) c 6 (by decide))); iexact T13
    isplitl [A12]; · iapply (Entails.of_eq (pos_d (F := F) c (2 * 6) (by decide))); iexact A12
    isplitl [A13]; · iapply (Entails.of_eq (pos_d (F := F) c (2 * 6 + 1) (by decide))); iexact A13
    iexact C6
  isplitl [T14 T15 A14 A15 C7]
  · unfold Ready
    isplitl [T14]; · iapply (Entails.of_eq (tok_send (F := F) c 7 (by decide))); iexact T14
    isplitl [T15]; · iapply (Entails.of_eq (tok_recv (F := F) c 7 (by decide))); iexact T15
    isplitl [A14]; · iapply (Entails.of_eq (pos_d (F := F) c (2 * 7) (by decide))); iexact A14
    isplitl [A15]; · iapply (Entails.of_eq (pos_d (F := F) c (2 * 7 + 1) (by decide))); iexact A15
    iexact C7
  isplitl [T16 T17 A16 A17 C8]
  · unfold Ready
    isplitl [T16]; · iapply (Entails.of_eq (tok_send (F := F) c 8 (by decide))); iexact T16
    isplitl [T17]; · iapply (Entails.of_eq (tok_recv (F := F) c 8 (by decide))); iexact T17
    isplitl [A16]; · iapply (Entails.of_eq (pos_d (F := F) c (2 * 8) (by decide))); iexact A16
    isplitl [A17]; · iapply (Entails.of_eq (pos_d (F := F) c (2 * 8 + 1) (by decide))); iexact A17
    iexact C8
  isplitl [T18 T19 A18 A19 C9]
  · unfold Ready
    isplitl [T18]; · iapply (Entails.of_eq (tok_send (F := F) c 9 (by decide))); iexact T18
    isplitl [T19]; · iapply (Entails.of_eq (tok_recv (F := F) c 9 (by decide))); iexact T19
    isplitl [A18]; · iapply (Entails.of_eq (pos_d (F := F) c (2 * 9) (by decide))); iexact A18
    isplitl [A19]; · iapply (Entails.of_eq (pos_d (F := F) c (2 * 9 + 1) (by decide))); iexact A19
    iexact C9
  isplitl [T20 T21 A20 A21 C10]
  · unfold Ready
    isplitl [T20]; · iapply (Entails.of_eq (tok_send (F := F) c 10 (by decide))); iexact T20
    isplitl [T21]; · iapply (Entails.of_eq (tok_recv (F := F) c 10 (by decide))); iexact T21
    isplitl [A20]; · iapply (Entails.of_eq (pos_d (F := F) c (2 * 10) (by decide))); iexact A20
    isplitl [A21]; · iapply (Entails.of_eq (pos_d (F := F) c (2 * 10 + 1) (by decide))); iexact A21
    iexact C10
  isplitl [T22 T23 A22 A23 C11]
  · unfold Ready
    isplitl [T22]; · iapply (Entails.of_eq (tok_send (F := F) c 11 (by decide))); iexact T22
    isplitl [T23]; · iapply (Entails.of_eq (tok_recv (F := F) c 11 (by decide))); iexact T23
    isplitl [A22]; · iapply (Entails.of_eq (pos_d (F := F) c (2 * 11) (by decide))); iexact A22
    isplitl [A23]; · iapply (Entails.of_eq (pos_d (F := F) c (2 * 11 + 1) (by decide))); iexact A23
    iexact C11
  iexact Hsp

/-! ## The proof data -/

/-- The two scales as the windows stage them. -/
def sc2 (c : Dev nD) : S1.Idx → Elt F .f32 := ((cfg0.win 0).blk t0_0).view.read (Elt F) (m ((cfg0.win 0).arr.view.loc (c : Thread nD τ)))
def sc3 (c : Dev nD) : S1.Idx → Elt F .f32 := ((cfg0.win 1).blk t0_0).view.read (Elt F) (m ((cfg0.win 1).arr.view.loc (c : Thread nD τ)))

/-- What device `c`'s result holds after the kernel. -/
def res (c : Dev nD) : S4096x8192.Idx → Elt F .f32 :=
  G3 m c (k0_pay3 (sc2 m c (ix1 (n := 1) 0)) (sc3 m c (ix1 (n := 1) 0)))

/-- What device `c`'s kernel starts from, besides its scratch buffers. -/
def start (c : Dev nD) : sProp 𝕄 :=
  iprop(G' m c ∗ Creds c ∗ levAts L lv ∗ xP c fullShare Finset.univ (X m c) ∗ wP c fullShare Finset.univ (Wt m c)
    ∗ ∃ fo, oP (F := F) c Finset.univ fo)

/-- What it leaves, besides its scratch buffers and its own semaphores. -/
def left (c : Dev nD) : sProp 𝕄 :=
  iprop(unscopedSems0 c ∗ xP c fullShare Finset.univ (X m c) ∗ wP c fullShare Finset.univ (Wt m c) ∗ oP c Finset.univ (res m c))

def Φ₀ (c : Dev nD) : sProp 𝕄 := iprop(start m c ∗ Pipeline.scopedRest spec0 c)
def Φ₁ (c : Dev nD) : sProp 𝕄 := iprop(left m c ∗ Pipeline.ownSems0 osem c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sc2 m c
    | ⟨1, _⟩ => sc3 m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 4000 in
def bodyPost (c : Dev nD) : sProp 𝕄 :=
  iprop(Φ₁ m c ∗ (dats m ρ 0 c).owesAt () t0_0.succ ∗ stg c cc0_stg0_0 (sc2 m c) ∗ stg c cc0_stg1_0 (sc3 m c))

/-- The scratch buffers, each at some contents. -/
theorem scratch_eq (c : Dev nD) : (Pipeline.scopedRest (Ix := Unit) (Name := ℕ) (U := UU) (Lvl := ℕ) (Val := Elt F) spec0 c : sProp 𝕄)
    = iprop((∃ f, gP c fullShare Finset.univ f) ∗ (∃ f, vP c fullShare Finset.univ f) ∗ (∃ f, tP c Finset.univ f)
      ∗ (∃ f, bP c Finset.univ f) ∗ (∃ f, aP c Finset.univ f)) := by
  rw [scopedRest0_eq]; rfl

set_option maxHeartbeats 1600000 in
theorem exit_body (c : Dev nD) : iprop(Finish m c (sc2 m c) (sc3 m c) ∗ Rest (F := F) c 3) ⊢ bodyPost m ρ c := by
  unfold Finish bodyPost Φ₁ left Dat.owesAt Pipeline.owesWithin Done Ow
  rw [show (dats m ρ 0 c).owed t0_0.succ = 0 from rfl, scratch_eq, ownSems0_eq, unscopedSems0_eq]
  iintro ⟨⟨⟨%W, HO⟩, HzB, ⟨H4, H5⟩, ⟨H6, H7⟩, ⟨H8, H9⟩, ⟨H10, H11⟩, ⟨H12, H13⟩, ⟨H14, H15⟩, ⟨H16, H17⟩, ⟨H18, H19⟩, ⟨H20, H21⟩, ⟨H22, H23⟩, ⟨H24, H25⟩, H26, H27, H2, H28, H29, H30, H31, H32, H33, Hx, Hw, Hg, Hv, Ht, Hb, Ha, Ho, Hm2, Hm3⟩, H3⟩
  isplitl [HzB Hx Hw Ho H2 H3 H4 H5 H6 H7 H8 H9 H10 H11 H12 H13 H14 H15 H16 H17 H18 H19 H20 H21 H22 H23 H24 H25 H26 H27 H28 H29 H30 H31 H32 H33 Hg Hv Ht Hb Ha]
  · isplitl [HzB Hx Hw Ho]
    · isplitl [HzB]; · iexact HzB
      isplitl [Hx]; · iexact Hx
      isplitl [Hw]; · iexact Hw
      unfold res; iexact Ho
    isplitl [H2 H3 H4 H5 H6 H7 H8 H9 H10 H11 H12 H13 H14 H15 H16 H17 H18 H19 H20 H21 H22 H23 H24 H25 H26 H27 H28 H29 H30 H31 H32 H33]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33
    isplitl [Hg]; · iexists _; iexact Hg
    isplitl [Hv]; · iexists _; iexact Hv
    isplitl [Ht]; · iexact Ht
    isplitl [Hb]; · iexact Hb
    iexact Ha
  isplitl [HO]
  · iexists W
    isplitr; · ipureintro; exact fun _ _ => Or.inl trivial
    iexact HO
  unfold s2P s3P
  isplitl [Hm2]
  · iexists _; isplitr; · (ipureintro; rfl)
    iexact Hm2
  iexists _; isplitr; · (ipureintro; rfl)
  iexact Hm3

set_option maxHeartbeats 1600000 in
theorem sound_body (c : Dev nD) :
    bodyPre m ρ c ⊢ WP c (cc0__fused_body (F := F) xM (Memref.isWhole_whole _) wM (Memref.isWhole_whole _) (Memref.whole cc0_stg0_0) (Memref.isWhole_whole _) (Memref.whole cc0_stg1_0) (Memref.isWhole_whole _) oM (Memref.isWhole_whole _)
          gM (Memref.isWhole_whole _) vM (Memref.isWhole_whole _) tM (Memref.isWhole_whole _) bM (Memref.isWhole_whole _) aM (Memref.isWhole_whole _)
          cc0_scratch5 cc0_scratch6 cc0_scratch7 cc0_scratch8 cc0_scratch9) (fun _ => bodyPost m ρ c) := by
  unfold bodyPre Φ₀ start G'
  rw [scratch_eq]
  iintro ⟨⟨⟨⟨%K, #Hrec, Hown⟩, Hcr, #Hlev, Hx, Hw, ⟨%fo, Ho⟩⟩, ⟨%fg, Hg⟩, ⟨%fv, Hv⟩, Ht, Hb, Ha⟩, HO, ⟨%d0, %g0, %hg0, H2⟩, ⟨%d1, %g1, %hg1, H3⟩⟩
  have h0 : g0 = sc2 m c := by rw [hg0]; unfold Dat.before; rw [if_pos (fetch0_0 t0_0)]; rfl
  have h1 : g1 = sc3 m c := by rw [hg1]; unfold Dat.before; rw [if_pos (fetch0_1 t0_0)]; rfl
  subst h0 h1
  unfold Dat.owesAt Pipeline.owesWithin
  icases HO with ⟨%W, %hW, HO⟩
  ihave HO := (Entails.of_eq (show (owes (c : Thread nD τ) ((dats m ρ 0 c).owed t0_0.castSucc) W : sProp 𝕄) = owes (c : Thread nD τ) (O₀ c) W from rfl)) $$ HO
  ihave He := (enter (F := F) c) $$ [Hown Hcr]
  · isplitl [Hown] <;> iassumption
  unfold Spare
  icases He with ⟨Hbar, R0, R1, R2, R3, R4, R5, R6, R7, R8, R9, R10, R11, Hz2, Hz3, Hz28, Hz29, Hz30, Hz31, Hz32, Hz33⟩
  iapply (body_run m c K fg fv fo (sc2 m c) (sc3 m c)) $$ [HO Hbar R0 R1 R2 R3 R4 R5 R6 R7 R8 R9 R10 R11 Hz2 Hz28 Hz29 Hz30 Hz31 Hz32 Hz33 Hx Hw Hg Hv Ht Hb Ha Ho H2 H3]
  · unfold Begin
    isplitr; · iexact Hrec
    isplitr; · iexact Hlev
    isplitl [HO]; · unfold Ow; iexists W; iexact HO
    unfold s2P s3P
    isplitl [Hbar]; · iexact Hbar
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [Hz2]; · iexact Hz2
    isplitl [Hz28]; · iexact Hz28
    isplitl [Hz29]; · iexact Hz29
    isplitl [Hz30]; · iexact Hz30
    isplitl [Hz31]; · iexact Hz31
    isplitl [Hz32]; · iexact Hz32
    isplitl [Hz33]; · iexact Hz33
    isplitl [Hx]; · iexact Hx
    isplitl [Hw]; · iexact Hw
    isplitl [Hg]; · iexact Hg
    isplitl [Hv]; · iexact Hv
    isplitl [Ht]; · iexact Ht
    isplitl [Hb]; · iexact Hb
    isplitl [Ha]; · iexact Ha
    isplitl [Ho]; · iexact Ho
    isplitl [H2]; · iexact H2
    iexact H3
  iintro HF
  iapply (exit_body m ρ c)
  isplitl [HF] <;> iassumption

set_option maxRecDepth 4000 in
/-- The body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  rw [show (Pipeline.unscopedRest cfg0.spec c (fun b => m ((c : Thread nD τ).loc b)) : sProp 𝕄) = _ from unscopedRest0_eq c _]
  iintro ⟨⟨Hx, Hw, Ho⟩, Hlev, Hcr, -, HG⟩
  ihave Hc := (creds (F := F) c) $$ Hcr
  imodintro
  unfold start Creds xP wP oP
  isplitl
  · isplitl [HG]; · iexact HG
    isplitl [Hc]; · iexact Hc
    isplitl [Hlev]; · iexact Hlev
    isplitl [Hx]; · iexact Hx
    isplitl [Hw]; · iexact Hw
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(left m c ∗ Pipeline.ownSems0 osem c ∗ Pipeline.scopedRest cfg0.spec c) :=
  BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What is read off device `c`'s memory beyond the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = res m c

theorem whole_read {ℓ : Loc nD τ sig} {f : Buf (Elt F) ℓ} (s' : Phys nD τ sig (Elt F)) :
    iprop((ℓ ↦[Finset.univ]{fullShare} f) ∗ SI s') ⊢ (⌜s'.mem.mem ℓ = f⌝ : sProp 𝕄) := by
  iintro ⟨H, HSI⟩
  ihave %h := (SI_pointsTo_agree (st := s')) $$ [HSI H]
  · isplitl [HSI] <;> iassumption
  ipureintro
  exact funext fun i => h i (Finset.mem_univ i)

theorem left_read (c : Dev nD) (s' : Phys nD τ sig (Elt F)) :
    iprop(left m c ∗ emp ∗ SI s') ⊢ |={Set.univ}=> iprop(⌜QY m c s'.mem⌝ ∗ SI s') := by
  unfold left xP wP oP
  iintro ⟨⟨Hu, Hx, Hw, Ho⟩, -, HSI⟩
  ihave %hx := (whole_read s') $$ [Hx HSI]
  · isplitl [Hx] <;> iassumption
  ihave %hw := (whole_read s') $$ [Hw HSI]
  · isplitl [Hw] <;> iassumption
  ihave %ho := (whole_read s') $$ [Ho HSI]
  · isplitl [Ho] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, hx, hw, ho⟩
  · iexact HSI

/-- The end of a run: on every device the arguments are unchanged and the result is `res`; every semaphore is at zero. -/
def Good (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = res m c)
  ∧ r.2.sem = fun _ => 0

set_option maxRecDepth 8000 in
theorem run_main : θ_run defs (onTc (τ := τ) (main (F := F))) (s₀ m ρ) (Good m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (Entails.of_eq (show (BI.own (embR (initOf allCells allToks, 1)) : sProp 𝕄) = BI.own (ER (initOf allCells allToks)) from rfl)) $$ HX
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := QY m)
    (hY := left_read m)
    (hQ := fun s h hs => ⟨fun c => ⟨(h c).2.2.2.1, (h c).2.2.2.2.1,
      ((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.2.2.2⟩,
      sem_eq_zero hs fun c => (h c).2.2.1⟩)

end Cert.RingProof

end
-- ==== Proof.Ref.lean ====
/-
Ref: what the reference leaves in its result, index by index: the whole product of the two arguments, scaled, and no
less than zero.
-/
module

public import proofs.«01_k».proof.Proof.Gen.ReferenceIdeal.Value
public import Idealize.ShloMosaic.Lib.WritesUnit
public import Idealize.ShloMosaic.Lib.VecWindow
public import Idealize.ShloMosaic.Lib.VecWindow
public import Idealize.ShloMosaic.Lib.VecWindow
public import Idealize.ShloMosaic.Lib.MatmulPlain

@[expose] public section

noncomputable section

set_option maxRecDepth 65536

namespace Cert.RefProof

open Cert.ReferenceIdeal Cert.ReferenceIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg) (c : Dev nD)

/-- The one grid point. -/
abbrev t0 : Fin cfg0.N := ⟨0, by decide⟩

theorem iblk0 (t : Fin cfg0.N) : iblk m c 0 t = m ((c : Thread nD τ).loc main_arg0) := by
  unfold iblk
  funext x
  exact congrArg (m ((c : Thread nD τ).loc main_arg0))
    (funext fun a => Fin.ext (Pipeline.Window.rect_emb_val_of_index_zero (cfg0.win 0) t a rfl x))

theorem iblk1 (t : Fin cfg0.N) : iblk m c 1 t = m ((c : Thread nD τ).loc main_arg1) := by
  unfold iblk
  funext x
  exact congrArg (m ((c : Thread nD τ).loc main_arg1))
    (funext fun a => Fin.ext (Pipeline.Window.rect_emb_val_of_index_zero (cfg0.win 1) t a rfl x))

theorem iblk2 (t : Fin cfg0.N) : iblk m c 2 t = m ((c : Thread nD τ).loc main_arg2) := by
  unfold iblk
  funext x
  exact congrArg (m ((c : Thread nD τ).loc main_arg2))
    (funext fun a => Fin.ext (Pipeline.Window.rect_emb_val_of_index_zero (cfg0.win 2) t a rfl x))

theorem iblk3 (t : Fin cfg0.N) : iblk m c 3 t = m ((c : Thread nD τ).loc main_arg3) := by
  unfold iblk
  funext x
  exact congrArg (m ((c : Thread nD τ).loc main_arg3))
    (funext fun a => Fin.ext (Pipeline.Window.rect_emb_val_of_index_zero (cfg0.win 3) t a rfl x))

/-- An array of one element has one index. -/
theorem one_idx {x y : S1.Idx} : x = y := by
  funext a
  match a with
  | ⟨0, _⟩ => exact Subsingleton.elim (α := Fin 1) _ _

/-- One store of a whole array leaves what it stored. -/
theorem whole_store (w : S4096x8192.Idx → Elt F .f32) :
    VO0_4.read (Elt F) (VO0_4.writes (Elt F) VO0_4.junk [⟨Rect.unit ![0, 0] ![4096, 8192] inb_S4096x8192_S4096x8192_0_0, w⟩]) = w := by
  funext i
  refine View.read_writes_cons_unit_of_mem VO0_4 _ inb_S4096x8192_S4096x8192_0_0 w [] i i (off' := ![0, 0]) rfl fun a => ?_
  match a with
  | ⟨0, _⟩ => exact (Nat.zero_add _).symm
  | ⟨1, _⟩ => exact (Nat.zero_add _).symm

theorem pay_congr {x x' : Vec F S4096x4096 .fp8e4m3} {w w' : Vec F S4096x8192 .fp8e4m3} {a a' b b' : Elt F .f32}
    (hx : x = x') (hw : w = w') (ha : a = a') (hb : b = b') :
    k0_pay1 x w a b = k0_pay1 x' w' a' b' := by rw [hx, hw, ha, hb]

/-- What the body leaves in its output: the value it computes from its four inputs, whole. -/
theorem out_eq (x0 : Vec F S4096x4096 .fp8e4m3) (x1 : Vec F S4096x8192 .fp8e4m3) (x2 : Vec F S1 .f32) (x3 : Vec F S1 .f32)
    (t : Fin cfg0.N) :
    out0_A_4 c (ms0_0 t) (hs0_0 t) (ms0_1 t) (hs0_1 t) (ms0_2 t) (hs0_2 t) (ms0_3 t) (hs0_3 t) (ms0_4 t) (hs0_4 t) x0 x1 x2 x3
      = k0_pay1 x0 x1 (x2 (ix1 (n := 1) 0)) (x3 (ix1 (n := 1) 0)) := by
  have e0 := (View.readAt_full (Val := Elt F) (ms0_0 t).view ((hs0_0 t).unread x0) inb_S4096x4096_S4096x4096_0_0).trans ((hs0_0 t).read_unread x0)
  have e1 := (View.readAt_full (Val := Elt F) (ms0_1 t).view ((hs0_1 t).unread x1) inb_S4096x8192_S4096x8192_0_0).trans ((hs0_1 t).read_unread x1)
  have e2 := (View.readAt_full (Val := Elt F) (ms0_2 t).view ((hs0_2 t).unread x2) inb_S1_S1_0).trans ((hs0_2 t).read_unread x2)
  have e3 := (View.readAt_full (Val := Elt F) (ms0_3 t).view ((hs0_3 t).unread x3) inb_S1_S1_0).trans ((hs0_3 t).read_unread x3)
  have g2 : kernelRun0_A.sl.r c (ms0_2 t) (hs0_2 t) x2 = x2 (ix1 (n := 1) 0) :=
    (congrFun e2 _).trans (congrArg x2 one_idx)
  have g3 : kernelRun0_A.sl.r_1 c (ms0_3 t) (hs0_3 t) x3 = x3 (ix1 (n := 1) 0) :=
    (congrFun e3 _).trans (congrArg x3 one_idx)
  unfold out0_A_4 kernelRun0_A
  dsimp only
  refine (whole_store _).trans ?_
  exact pay_congr e0 e1 g2 g3

/-- The block written back is the whole block. -/
theorem cut_eq (t : Fin cfg0.N) (w : S4096x8192.Idx → Elt F .f32) : (cfg0.win 4).cut (grid0.coords t) w = w := rfl

/-- The reference's result, whole. -/
theorem arr_eq : (dats m 0 c).arrAt 4 cfg0.N =
    k0_pay1 (m ((c : Thread nD τ).loc main_arg0)) (m ((c : Thread nD τ).loc main_arg1))
      (m ((c : Thread nD τ).loc main_arg2) (ix1 (n := 1) 0)) (m ((c : Thread nD τ).loc main_arg3) (ix1 (n := 1) 0)) := by
  have h := Cert.ReferenceIdeal.Value.blocks4 m c t0 (by decide)
  rw [Cert.ReferenceIdeal.Value.flushed4, outsAt0, iblk0, iblk1, iblk2, iblk3, out_eq, cut_eq] at h
  funext x
  have hx := congrFun h x
  refine Eq.trans ?_ hx
  exact congrArg ((dats m 0 c).arrAt 4 cfg0.N) (funext fun a => Fin.ext
    (Pipeline.Window.rect_emb_val_of_index_zero (cfg0.win 4) t0 a rfl x).symm)

/-! ## Over the reals -/

section Reals
variable (M : (ℓ : Loc nD τ sig) → Buf (Elt Ideal) ℓ)

set_option maxRecDepth 16384 in
/-- The reference at one index: a sum over the whole inner dimension, scaled, and no less than zero. -/
theorem pay_apply (x : S4096x4096.Idx → EReal) (w : S4096x8192.Idx → EReal) (a b : EReal) (r : Fin 4096) (l : Fin 8192) :
    k0_pay1 (F := Ideal) x w a b (ix2 r l) = max ((∑ k : Fin 4096, x (ix2 r k) * w (ix2 k l)) * (a * b)) 0 := by
  have e := Ideal.matmul_plain_apply (M := 4096) (K := 4096) (N := 8192) (φ₁ := .fp8e4m3) (φ₂ := .fp8e4m3) none x w
    (constant S4096x8192 .f32 0x00000000#32) r l
  have z : constant (F := Ideal) S4096x8192 .f32 0x00000000#32 (ix2 r l) = (0 : EReal) := Ideal.ofBits_zero_f32
  rw [z, zero_add] at e
  show max (FloatOps.matmul (F := Ideal) (DotDims.plain 4096 4096 8192) none x w _ (ix2 r l) * (a * b)) (Ideal.ofBits .f32 0x00000000#32) = _
  rw [e, Ideal.ofBits_zero_f32]

end Reals

end Cert.RefProof
end
-- ==== Proof.Value.lean ====
/-
Value: what the kernel leaves in its result, index by index over the reals, and that it is what the reference leaves.
-/
module

public import proofs.«01_k».proof.Proof.Run
public import proofs.«01_k».proof.Proof.Ref

@[expose] public section

set_option maxRecDepth 65536

noncomputable section

namespace Cert.RingProof

open Cert.KernelIdeal Cert.KernelIdeal.Gen
open Idealize.ShloMosaic Idealize.ShloMosaic.TcCoe Idealize.ShloMosaic.ValueIdx Idealize.SL.Sem
open scoped BigOperators

/-! ## The staged scales -/

section Scales
variable {F : FTy → Type} [FloatOps F]
variable (m : (ℓ : Loc nD τ sig) → Buf (Elt F) ℓ) (c : Dev nD)

theorem sc2_eq : sc2 m c = m ((c : Thread nD τ).loc main_arg2) := by
  unfold sc2
  funext x
  exact congrArg (m ((c : Thread nD τ).loc main_arg2))
    (funext fun a => Fin.ext (Pipeline.Window.rect_emb_val_of_index_zero (cfg0.win 0) t0_0 a rfl x))

theorem sc3_eq : sc3 m c = m ((c : Thread nD τ).loc main_arg3) := by
  unfold sc3
  funext x
  exact congrArg (m ((c : Thread nD τ).loc main_arg3))
    (funext fun a => Fin.ext (Pipeline.Window.rect_emb_val_of_index_zero (cfg0.win 1) t0_0 a rfl x))

end Scales

/-! ## One block product at an index -/

section Block
variable (f : S4096x1024.Idx → EReal) (g : S1024x8192.Idx → EReal)

/-- The product of a block of `x` and a block of `w`, at row `r` and column `l`. -/
def dotE (r : Fin 4096) (l : Fin 8192) : EReal := ∑ k : Fin 1024, f (ix2 r k) * g (ix2 k l)

/-- The product of a slab and a tile as the kernel forms it, at an index of the tile. -/
theorem mm_apply (j : ℕ) (r : Fin 4096) (y : Fin 128) :
    matmul (F := Ideal) (φ₁ := .fp8e4m3) (φ₂ := .fp8e4m3) dot_S4096x1024_S1024x128_S4096x128_1_0_0_1_n_n none
      (shapeCast S4096x1024 (LX (F := Ideal) f) shapeCasts_S1x4096x1024_S4096x1024)
      (shapeCast S1024x128 (LW (F := Ideal) g j) shapeCasts_S1x1024x128_S1024x128)
      (constant S4096x128 .f32 0x00000000#32) (ix2 r y) = dotE f g r (col j y.val) := by
  have e := Ideal.matmul_plain_apply (M := 4096) (K := 1024) (N := 128) (φ₁ := .fp8e4m3) (φ₂ := .fp8e4m3) none
    (shapeCast S4096x1024 (LX (F := Ideal) f) shapeCasts_S1x4096x1024_S4096x1024)
    (shapeCast S1024x128 (LW (F := Ideal) g j) shapeCasts_S1x1024x128_S1024x128)
    (constant S4096x128 .f32 0x00000000#32) r y
  have z : constant (F := Ideal) S4096x128 .f32 0x00000000#32 (ix2 r y) = (0 : EReal) := Ideal.ofBits_zero_f32
  rw [z, zero_add] at e
  refine e.trans (Finset.sum_congr rfl fun k _ => ?_)
  rw [shapeCast_dropUnit_apply ![4096, 1024], shapeCast_dropUnit_apply ![1024, 128]]
  rfl

end Block

/-! ## The three passes at an index -/

section Passes
variable (m : (ℓ : Loc nD τ sig) → Buf (Elt Ideal) ℓ) (c : Dev nD)

/-- Device `d`'s part of the result: its block of `x` by its block of `w`. -/
abbrev part (d : Dev nD) (r : Fin 4096) (l : Fin 8192) : EReal := dotE (X (F := Ideal) m d) (Wt (F := Ideal) m d) r l

theorem col_at (l : Fin 8192) : col (l.val / 128) (l.val % 128) = l :=
  Fin.ext (by show (128 * (l.val / 128) + l.val % 128) % 8192 = l.val; have := l.isLt; omega)

theorem cast_up (f : S4096x128.Idx → EReal) (r : Fin 4096) (y : Fin 128) :
    shapeCast S1x4096x128 f shapeCasts_S4096x128_S1x4096x128 (ix3 (0 : Fin 1) r y) = f (ix2 r y) := by
  rw [shapeCast_addUnit_apply ![4096, 128]]
  refine congrArg f (funext fun a => ?_)
  match a with
  | ⟨0, _⟩ => rfl
  | ⟨1, _⟩ => rfl

theorem cast_down (G : S4096x8192.Idx → EReal) (j : ℕ) (r : Fin 4096) (y : Fin 128) :
    shapeCast S4096x128 (LB (F := Ideal) G j) shapeCasts_S1x4096x128_S4096x128 (ix2 r y) = G (ix2 r (col j y.val)) := by
  rw [shapeCast_dropUnit_apply ![4096, 128]]
  rfl

theorem P1_at (j : ℕ) (r : Fin 4096) (y : Fin 128) :
    P1 (F := Ideal) m c j (ix3 (0 : Fin 1) r y) = part m c r (col j y.val) := by
  unfold P1 k0_pay4
  rw [cast_up]
  exact mm_apply _ _ j r y

theorem G1_at (r : Fin 4096) (l : Fin 8192) : G1 (F := Ideal) m c (ix2 r l) = part m c r l :=
  (P1_at m c (l.val / 128) r ⟨l.val % 128, Nat.mod_lt _ (by decide)⟩).trans (congrArg (part m c r) (col_at l))

theorem P2_at (j : ℕ) (r : Fin 4096) (y : Fin 128) :
    P2 (F := Ideal) m c j (ix3 (0 : Fin 1) r y)
      = (part m (lt c) r (col j y.val) + part m (rt c) r (col j y.val)) + part m c r (col j y.val) := by
  unfold P2 k0_pay5 k0_pay1
  dsimp only
  rw [cast_up]
  exact congr (congrArg HAdd.hAdd (congr (congrArg HAdd.hAdd (mm_apply _ _ j r y)) (mm_apply _ _ j r y)))
    ((cast_down _ j r y).trans (G1_at m c r _))

theorem G2_at (r : Fin 4096) (l : Fin 8192) :
    G2 (F := Ideal) m c (ix2 r l) = (part m (lt c) r l + part m (rt c) r l) + part m c r l :=
  (P2_at m c (l.val / 128) r ⟨l.val % 128, Nat.mod_lt _ (by decide)⟩).trans
    (congrArg (fun k => (part m (lt c) r k + part m (rt c) r k) + part m c r k) (col_at l))

theorem P3_at (s : EReal) (j : ℕ) (r : Fin 4096) (y : Fin 128) :
    P3 (F := Ideal) m c s j (ix3 (0 : Fin 1) r y)
      = max ((part m (dg c) r (col j y.val)
          + ((part m (lt c) r (col j y.val) + part m (rt c) r (col j y.val)) + part m c r (col j y.val))) * s) 0 := by
  unfold P3 k0_pay2
  rw [cast_up]
  exact congr (congrArg max (congrArg (· * s) (congr (congrArg HAdd.hAdd (mm_apply _ _ j r y))
    ((cast_down _ j r y).trans (G2_at m c r _))))) Ideal.ofBits_zero_f32

theorem G3_at (s : EReal) (r : Fin 4096) (l : Fin 8192) :
    G3 (F := Ideal) m c s (ix2 r l)
      = max ((part m (dg c) r l + ((part m (lt c) r l + part m (rt c) r l) + part m c r l)) * s) 0 :=
  (P3_at m c s (l.val / 128) r ⟨l.val % 128, Nat.mod_lt _ (by decide)⟩).trans
    (congrArg (fun k => max ((part m (dg c) r k + ((part m (lt c) r k + part m (rt c) r k) + part m c r k)) * s) 0) (col_at l))

/-- A device, its two neighbours and the one across are the four devices, whichever device it is. -/
theorem ring_sum (f : Dev nD → EReal) : f (dg c) + ((f (lt c) + f (rt c)) + f c) = ∑ d : Dev nD, f d := by
  have hs : ∑ d : Dev nD, f d = f 0 + f 1 + f 2 + f 3 := Fin.sum_univ_four f
  have hc : ∀ c : Dev nD, (c = 0 ∧ lt c = 3 ∧ rt c = 1 ∧ dg c = 2) ∨ (c = 1 ∧ lt c = 0 ∧ rt c = 2 ∧ dg c = 3)
      ∨ (c = 2 ∧ lt c = 1 ∧ rt c = 3 ∧ dg c = 0) ∨ (c = 3 ∧ lt c = 2 ∧ rt c = 0 ∧ dg c = 1) := by decide
  rw [hs]
  rcases hc c with ⟨h0, h1, h2, h3⟩ | ⟨h0, h1, h2, h3⟩ | ⟨h0, h1, h2, h3⟩ | ⟨h0, h1, h2, h3⟩ <;>
    · rw [h1, h2, h3, h0]; ac_rfl

/-- The product of the two scales. -/
abbrev scale (a b : S1.Idx → EReal) : EReal := a (ix1 (n := 1) 0) * b (ix1 (n := 1) 0)

theorem res_at (r : Fin 4096) (l : Fin 8192) :
    res (F := Ideal) m c (ix2 r l) = max ((∑ d : Dev nD, part m d r l)
      * scale (m ((c : Thread nD τ).loc main_arg2)) (m ((c : Thread nD τ).loc main_arg3))) 0 := by
  unfold res
  rw [sc2_eq, sc3_eq]
  refine (G3_at m c _ r l).trans ?_
  rw [ring_sum c fun d => part m d r l]
  rfl

end Passes

/-! ## The blocks put together -/

/-- A sum over the whole inner dimension is the sum over the devices of the sums over their blocks. -/
theorem sum_blocks (f : Fin 4096 → EReal) :
    ∑ k : Fin 4096, f k = ∑ d : Fin 4, ∑ k : Fin 1024, f ⟨d.val * 1024 + k.val, by have := d.isLt; have := k.isLt; omega⟩ := by
  rw [← Fintype.sum_prod_type']
  refine (Fintype.sum_equiv (finProdFinEquiv (m := 4) (n := 1024)) _ _ fun p => ?_).symm
  refine congrArg f (Fin.ext ?_)
  show p.1.val * 1024 + p.2.val = p.2.val + 1024 * p.1.val
  omega

section Equal
variable (m : (ℓ : Loc nD τ sig) → Buf (Elt Ideal) ℓ)
variable (x : (⟨2, ![4096, 4096]⟩ : Shape).Idx → EReal) (w : (⟨2, ![4096, 8192]⟩ : Shape).Idx → EReal)

theorem sum_parts (hx : ∀ d : Dev nD, X (F := Ideal) m d = Layout.block ⟨2, ![4096, 1024]⟩ ⟨2, ![4096, 4096]⟩ 1 4 d x)
    (hw : ∀ d : Dev nD, Wt (F := Ideal) m d = Layout.block ⟨2, ![1024, 8192]⟩ ⟨2, ![4096, 8192]⟩ 0 4 d w) (r : Fin 4096) (l : Fin 8192) :
    ∑ d : Dev nD, part m d r l = ∑ k : Fin 4096, x (ix2 r k) * w (ix2 k l) := by
  rw [sum_blocks]
  refine Finset.sum_congr rfl fun d _ => Finset.sum_congr rfl fun k _ => ?_
  rw [hx d, hw d]
  refine congr (congrArg HMul.hMul (congrArg x (funext fun a => Fin.ext ?_))) (congrArg w (funext fun a => Fin.ext ?_))
  · match a with
    | ⟨0, _⟩ => rfl
    | ⟨1, _⟩ => rfl
  · match a with
    | ⟨0, _⟩ => rfl
    | ⟨1, _⟩ => rfl

end Equal

/-- Every device's result is the reference's. -/
theorem value (m : (ℓ : Loc nD τ sig) → Buf (Elt Ideal) ℓ)
    (m' : (ℓ : Loc Cert.ReferenceIdeal.nD Cert.ReferenceIdeal.τ Cert.ReferenceIdeal.sig) → Buf (Elt Ideal) ℓ)
    (h : ∀ c : Dev nD,
      m ((c.tc : Thread nD τ).loc main_arg0) = Layout.block ⟨2, ![4096, 1024]⟩ ⟨2, ![4096, 4096]⟩ 1 4 c
          (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨2, ![1024, 8192]⟩ ⟨2, ![4096, 8192]⟩ 0 4 c
          (m' (((0 : Dev Cert.ReferenceIdeal.nD).tc : Thread Cert.ReferenceIdeal.nD Cert.ReferenceIdeal.τ).loc Cert.ReferenceIdeal.main_arg1))
      ∧ m ((c.tc : Thread nD τ).loc main_arg2)
          = m' (((0 : Dev Cert.ReferenceIdeal.nD).tc : Thread Cert.ReferenceIdeal.nD Cert.ReferenceIdeal.τ).loc Cert.ReferenceIdeal.main_arg2)
      ∧ m ((c.tc : Thread nD τ).loc main_arg3)
          = m' (((0 : Dev Cert.ReferenceIdeal.nD).tc : Thread Cert.ReferenceIdeal.nD Cert.ReferenceIdeal.τ).loc Cert.ReferenceIdeal.main_arg3))
    (c : Dev nD) :
    res (F := Ideal) m c = (Cert.ReferenceIdeal.Gen.dats m' 0 0).arrAt 4 Cert.ReferenceIdeal.cfg0.N := by
  rw [Cert.RefProof.arr_eq]
  funext i
  have hi : ix2 (i 0) (i 1) = i := by
    funext a
    match a with
    | ⟨0, _⟩ => rfl
    | ⟨1, _⟩ => rfl
  rw [← hi]
  refine (res_at m c (i 0) (i 1)).trans (Eq.trans ?_ (Cert.RefProof.pay_apply _ _ _ _ (i 0) (i 1)).symm)
  exact congrArg (fun t : EReal => max t 0) (congr (congrArg HMul.hMul
    (sum_parts m _ _ (fun d => (h d).1) (fun d => (h d).2.1) (i 0) (i 1)))
    (congr (congrArg scale (h c).2.2.1) (h c).2.2.2))

end Cert.RingProof

end
-- ==== Proof.lean ====
/-
The proof of the five claims: the kernel runs to its end on the four devices and leaves its arguments unchanged and
its semaphores at zero (as compiled and over the reals), so does the reference, and over the reals the result of
every device is the reference's.
-/
module

public import proofs.«01_k».proof.Defs
public import proofs.«01_k».proof.Proof.Gen.Kernel
public import proofs.«01_k».proof.Proof.Gen.ReferenceIdeal
public import proofs.«01_k».proof.Proof.Gen.ReferenceIdeal.Frame
public import proofs.«01_k».proof.Proof.Gen.ReferenceIdeal.Value
public import proofs.«01_k».proof.Proof.Run
public import proofs.«01_k».proof.Proof.Value

@[expose] public section

noncomputable section

namespace Cert.Proof

open Idealize.ShloMosaic Idealize.SL.Sem

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (Cert.RingProof.run_main (F := Ideal) m ρ)

/-! ## The program as compiled is the program over the reals, word for word -/

section Same
variable {F : FTy → Type} [FloatOps F]

theorem body_same : @Cert.Kernel.cc0__fused_body F _ Cert.Kernel.Gen.facts = @Cert.KernelIdeal.cc0__fused_body F _ Cert.KernelIdeal.Gen.facts := rfl
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l p
  match l with
  | ⟨0, _⟩ => rfl
  | ⟨n + 1, h⟩ => exact absurd h (Nat.not_lt.2 (Nat.le_add_left _ _))
theorem defs_same : @Cert.Kernel.defs F _ Cert.Kernel.Gen.facts = @Cert.KernelIdeal.defs F _ Cert.KernelIdeal.Gen.facts := by
  unfold Cert.Kernel.defs Cert.KernelIdeal.defs
  rw [table_same]
  rfl

end Same

theorem frame_bits : Cert.quiescent_Kernel := fun m ρ _ => by
  rw [defs_same]
  exact (θ_run Cert.KernelIdeal.defs _ _).mono
    (fun _ h => ⟨fun c => ⟨(h.1 c).1, (h.1 c).2.1, (h.1 c).2.2.1, (h.1 c).2.2.2.1⟩, h.2⟩) (Cert.RingProof.run_main (F := Bits) m ρ)

theorem frame_ref : Cert.quiescent_ReferenceIdeal := fun m ρ _ => Cert.ReferenceIdeal.Gen.frame m ρ

/-! ## The value -/

theorem algebraic : Cert.algebraic_KernelIdeal_ReferenceIdeal := fun m ρ m' ρ' _ h =>
  ⟨(Cert.ReferenceIdeal.Gen.dats m' 0 0).arrAt 4 Cert.ReferenceIdeal.cfg0.N,
    (θ_run Cert.KernelIdeal.defs _ _).mono
      (fun r g c => ⟨(g.1 c).2.2.2.2.trans (Cert.RingProof.value m m' h c),
        (g.1 c).1, (g.1 c).2.1, (g.1 c).2.2.1, (g.1 c).2.2.2.1⟩)
      (Cert.RingProof.run_main (F := Ideal) m ρ),
    (θ_run Cert.ReferenceIdeal.defs _ _).mono (fun r g => g 0) (Cert.ReferenceIdeal.Value.run_blocks m' ρ')⟩

theorem claim : Cert.Claim :=
  ⟨Cert.Kernel.Gen.facts, Cert.KernelIdeal.Gen.facts, Cert.ReferenceIdeal.Gen.facts,
    frame_bits, frame_ideal, frame_ref, trivial, algebraic⟩

end Cert.Proof

end
